-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))).2.2.2.2.2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))).2.2.2.2.2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_below9 [hPre_below9 : Cert.Pre_below9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_below9.fn (F := Ideal) (m ((c.tc : Thread Cert.Kernel9Ideal.nD Cert.Kernel9Ideal.τ).loc Cert.Kernel9Ideal.main_arg0))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_below9 [hPre_below9 : Cert.Pre_below9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_below9.fn (F := Ideal) (m ((c.tc : Thread Cert.Reference9Ideal.nD Cert.Reference9Ideal.τ).loc Cert.Reference9Ideal.main_arg0))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))).2.2.2.2.2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel9Ideal_pre_below9 [hKernel9Ideal : Cert.Kernel9Ideal.Facts] [hPre_below9 : Cert.Pre_below9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_below9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9Ideal_pre_below9 [hReference9Ideal : Cert.Reference9Ideal.Facts] [hPre_below9 : Cert.Pre_below9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_below9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)) (v5 : (c : Dev Cert.Kernel2Ideal.nD) → Buf (Elt Ideal) ((c.tc : Thread Cert.Kernel2Ideal.nD Cert.Kernel2Ideal.τ).loc Cert.Kernel2Ideal.main_v21)) (v6 : (c : Dev Cert.Kernel2Ideal.nD) → Buf (Elt Ideal) ((c.tc : Thread Cert.Kernel2Ideal.nD Cert.Kernel2Ideal.τ).loc Cert.Kernel2Ideal.main_v28)) (v7 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_v21) = v5 c
          ∧ r.2.mem ((c.tc : Thread Cert.Kernel2Ideal.nD Cert.Kernel2Ideal.τ).loc Cert.Kernel2Ideal.main_v28) = v6 c
          ∧ r.2.mem ((c.tc : Thread Cert.Kernel2Ideal.nD Cert.Kernel2Ideal.τ).loc Cert.Kernel2Ideal.main_v33) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_v23) = v5 c
          ∧ r.2.mem ((c.tc : Thread Cert.Reference2Ideal.nD Cert.Reference2Ideal.τ).loc Cert.Reference2Ideal.main_v35) = v6 c
          ∧ r.2.mem ((c.tc : Thread Cert.Reference2Ideal.nD Cert.Reference2Ideal.τ).loc Cert.Reference2Ideal.main_v19) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)) (v5 : (c : Dev Cert.Kernel5Ideal.nD) → Buf (Elt Ideal) ((c.tc : Thread Cert.Kernel5Ideal.nD Cert.Kernel5Ideal.τ).loc Cert.Kernel5Ideal.main_v21)) (v6 : (c : Dev Cert.Kernel5Ideal.nD) → Buf (Elt Ideal) ((c.tc : Thread Cert.Kernel5Ideal.nD Cert.Kernel5Ideal.τ).loc Cert.Kernel5Ideal.main_v28)) (v7 : (c : Dev Cert.Kernel5Ideal.nD) → Buf (Elt Ideal) ((c.tc : Thread Cert.Kernel5Ideal.nD Cert.Kernel5Ideal.τ).loc Cert.Kernel5Ideal.main_v33)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_v21) = v5 c
          ∧ r.2.mem ((c.tc : Thread Cert.Kernel5Ideal.nD Cert.Kernel5Ideal.τ).loc Cert.Kernel5Ideal.main_v28) = v6 c
          ∧ r.2.mem ((c.tc : Thread Cert.Kernel5Ideal.nD Cert.Kernel5Ideal.τ).loc Cert.Kernel5Ideal.main_v33) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v31) = v3 c
          ∧ r.2.mem ((c.tc : Thread Cert.Reference5Ideal.nD Cert.Reference5Ideal.τ).loc Cert.Reference5Ideal.main_v33) = v4 c
          ∧ r.2.mem ((c.tc : Thread Cert.Reference5Ideal.nD Cert.Reference5Ideal.τ).loc Cert.Reference5Ideal.main_v23) = v5 c
          ∧ r.2.mem ((c.tc : Thread Cert.Reference5Ideal.nD Cert.Reference5Ideal.τ).loc Cert.Reference5Ideal.main_v35) = v6 c
          ∧ r.2.mem ((c.tc : Thread Cert.Reference5Ideal.nD Cert.Reference5Ideal.τ).loc Cert.Reference5Ideal.main_v19) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  IdealRules.named_const.Statement Cert.Kernel8Ideal.κ "mask" .f32 0xF149F2CA#32 ⊥

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v10_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v91) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal_pre_below9 [hKernel9Ideal : Cert.Kernel9Ideal.Facts] [hReference9Ideal : Cert.Reference9Ideal.Facts] [hPre_below9 : Cert.Pre_below9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_below9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  IdealRules.named_const.Statement Cert.Kernel10Ideal.κ "mask" .f32 0xF149F2CA#32 ⊥

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v10_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v91) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite8 : Cert.Pre_finite8.Facts) (hPre_below9 : Cert.Pre_below9.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_below9 (hKernel9Ideal := hKernel9Ideal) (hPre_below9 := hPre_below9)
    ∧ quiescent_Reference9Ideal (hReference9Ideal := hReference9Ideal)
    ∧ quiescent_Reference9Ideal_pre_below9 (hReference9Ideal := hReference9Ideal) (hPre_below9 := hPre_below9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_below9 (hKernel9Ideal := hKernel9Ideal) (hReference9Ideal := hReference9Ideal) (hPre_below9 := hPre_below9)
    ∧ preserves_Kernel10_Kernel10Ideal
    ∧ algebraic_Kernel10Ideal_Reference10Ideal_pre_finite10 (hKernel10Ideal := hKernel10Ideal) (hReference10Ideal := hReference10Ideal) (hPre_finite10 := hPre_finite10)
-- ==== Pre_below9.lean ====
abbrev S32768x128 : Shape := ⟨2, ![32768, 128]⟩
abbrev S32768x8 : Shape := ⟨2, ![32768, 8]⟩
abbrev S_ : Shape := ⟨0, ![]⟩

class Facts : Prop where
  slices_S32768x128_S32768x8_0_0 : S32768x128.Slices ![0, 0] S32768x8
  bcast_S_S32768x8 : S_.BroadcastsInDim S32768x8 (![] : Fin 0 → Fin S32768x8.rank)

variable [Facts]

def fn {F : FTy → Type} [FloatOps F] (main_arg0 : FVec F S32768x128 .f32) : IVec S32768x8 1 :=
  let main_v0 : FVec F S32768x8 .f32 := (extractStridedSlice S32768x8 ![0, 0] · slices_S32768x128_S32768x8_0_0) main_arg0
  let main_cst : FVec F S_ .f32 := constant S_ .f32 0x7F800000#32
  let main_v1 : FVec F S32768x8 .f32 := broadcastInDim S32768x8 ![] bcast_S_S32768x8 main_cst
  let main_v2 : IVec S32768x8 1 := cmpf .olt main_v0 main_v1
  main_v2
-- ==== Pre_finite.lean ====
abbrev S4x8192x512 : Shape := ⟨3, ![4, 8192, 512]⟩
abbrev S4x8192x8 : Shape := ⟨3, ![4, 8192, 8]⟩
abbrev S_ : Shape := ⟨0, ![]⟩

class Facts : Prop where
  bcast_S_S4x8192x512 : S_.BroadcastsInDim S4x8192x512 (![] : Fin 0 → Fin S4x8192x512.rank)
  bcast_S_S4x8192x8 : S_.BroadcastsInDim S4x8192x8 (![] : Fin 0 → Fin S4x8192x8.rank)

variable [Facts]

def fn {F : FTy → Type} [FloatOps F] (main_arg0 : FVec F S4x8192x512 .bf16) (main_arg1 : FVec F S4x8192x512 .bf16) (main_arg2 : FVec F S4x8192x512 .bf16) (main_arg3 : FVec F S4x8192x8 .f32) : IVec S4x8192x512 1 × IVec S4x8192x512 1 × IVec S4x8192x8 1 :=
  let main_cst : FVec F S_ .bf16 := constant S_ .bf16 0x7F80#16
  let main_v0 : FVec F S_ .bf16 := Host.negf main_cst
  let main_v1 : FVec F S4x8192x512 .bf16 := broadcastInDim S4x8192x512 ![] bcast_S_S4x8192x512 main_v0
  let main_v2 : IVec S4x8192x512 1 := cmpf .ogt main_arg0 main_v1
  let main_cst_0 : FVec F S_ .bf16 := constant S_ .bf16 0x7F80#16
  let main_v3 : FVec F S4x8192x512 .bf16 := broadcastInDim S4x8192x512 ![] bcast_S_S4x8192x512 main_cst_0
  let main_v4 : IVec S4x8192x512 1 := cmpf .olt main_arg0 main_v3
  let main_v5 : IVec S4x8192x512 1 := andi main_v2 main_v4
  let main_cst_1 : FVec F S_ .bf16 := constant S_ .bf16 0x7F80#16
  let main_v6 : FVec F S_ .bf16 := Host.negf main_cst_1
  let main_v7 : FVec F S4x8192x512 .bf16 := broadcastInDim S4x8192x512 ![] bcast_S_S4x8192x512 main_v6
  let main_v8 : IVec S4x8192x512 1 := cmpf .ogt main_arg1 main_v7
  let main_cst_2 : FVec F S_ .bf16 := constant S_ .bf16 0x7F80#16
  let main_v9 : FVec F S4x8192x512 .bf16 := broadcastInDim S4x8192x512 ![] bcast_S_S4x8192x512 main_cst_2
  let main_v10 : IVec S4x8192x512 1 := cmpf .olt main_arg1 main_v9
  let main_v11 : IVec S4x8192x512 1 := andi main_v8 main_v10
  let main_cst_3 : FVec F S_ .f32 := constant S_ .f32 0x7F800000#32
  let main_v12 : FVec F S_ .f32 := Host.negf main_cst_3
  let main_v13 : FVec F S4x8192x8 .f32 := broadcastInDim S4x8192x8 ![] bcast_S_S4x8192x8 main_v12
  let main_v14 : IVec S4x8192x8 1 := cmpf .ogt main_arg3 main_v13
  let main_cst_4 : FVec F S_ .f32 := constant S_ .f32 0x7F800000#32
  let main_v15 : FVec F S4x8192x8 .f32 := broadcastInDim S4x8192x8 ![] bcast_S_S4x8192x8 main_cst_4
  let main_v16 : IVec S4x8192x8 1 := cmpf .olt main_arg3 main_v15
  let main_v17 : IVec S4x8192x8 1 := andi main_v14 main_v16
  (main_v5, main_v11, main_v17)
-- ==== Pre_finite10.lean ====
abbrev S128x1024 : Shape := ⟨2, ![128, 1024]⟩
abbrev S128x512 : Shape := ⟨2, ![128, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩

class Facts : Prop where
  bcast_S_S128x1024 : S_.BroadcastsInDim S128x1024 (![] : Fin 0 → Fin S128x1024.rank)
  bcast_S_S128x512 : S_.BroadcastsInDim S128x512 (![] : Fin 0 → Fin S128x512.rank)
  bcast_S_S1024 : S_.BroadcastsInDim S1024 (![] : Fin 0 → Fin S1024.rank)
  bcast_S_S1024x5384 : S_.BroadcastsInDim S1024x5384 (![] : Fin 0 → Fin S1024x5384.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1024x4 : S_.BroadcastsInDim S1024x4 (![] : Fin 0 → Fin S1024x4.rank)
  bcast_S_S1024x32 : S_.BroadcastsInDim S1024x32 (![] : Fin 0 → Fin S1024x32.rank)

variable [Facts]

def fn_part3 {F : FTy → Type} [FloatOps F] (main_arg9 : FVec F S1024x4 .f32) (main_arg10 : FVec F S1024x32 .f32) (main_v5 : IVec S128x1024 1) (main_v11 : IVec S128x512 1) (main_v17 : IVec S128x512 1) (main_v23 : IVec S1024 1) (main_v29 : IVec S1024x5384 1) (main_v35 : IVec S512x1024 1) (main_v41 : IVec S512x1024 1) (main_v47 : IVec S1024x1024 1) (main_v53 : IVec S1024 1) : IVec S128x1024 1 × IVec S128x512 1 × IVec S128x512 1 × IVec S1024 1 × IVec S1024x5384 1 × IVec S512x1024 1 × IVec S512x1024 1 × IVec S1024x1024 1 × IVec S1024 1 × IVec S1024x4 1 × IVec S1024x32 1 :=
  let main_cst_17 : FVec F S_ .f32 := constant S_ .f32 0x7F800000#32
  let main_v54 : FVec F S_ .f32 := Host.negf main_cst_17
  let main_v55 : FVec F S1024x4 .f32 := broadcastInDim S1024x4 ![] bcast_S_S1024x4 main_v54
  let main_v56 : IVec S1024x4 1 := cmpf .ogt main_arg9 main_v55
  let main_cst_18 : FVec F S_ .f32 := constant S_ .f32 0x7F800000#32
  let main_v57 : FVec F S1024x4 .f32 := broadcastInDim S1024x4 ![] bcast_S_S1024x4 main_cst_18
  let main_v58 : IVec S1024x4 1 := cmpf .olt main_arg9 main_v57
  let main_v59 : IVec S1024x4 1 := andi main_v56 main_v58
  let main_cst_19 : FVec F S_ .f32 := constant S_ .f32 0x7F800000#32
  let main_v60 : FVec F S_ .f32 := Host.negf main_cst_19
  let main_v61 : FVec F S1024x32 .f32 := broadcastInDim S1024x32 ![] bcast_S_S1024x32 main_v60
  let main_v62 : IVec S1024x32 1 := cmpf .ogt main_arg10 main_v61
  let main_cst_20 : FVec F S_ .f32 := constant S_ .f32 0x7F800000#32
  let main_v63 : FVec F S1024x32 .f32 := broadcastInDim S1024x32 ![] bcast_S_S1024x32 main_cst_20
  let main_v64 : IVec S1024x32 1 := cmpf .olt main_arg10 main_v63
  let main_v65 : IVec S1024x32 1 := andi main_v62 main_v64
  (main_v5, main_v11, main_v17, main_v23, main_v29, main_v35, main_v41, main_v47, main_v53, main_v59, main_v65)

def fn_part2 {F : FTy → Type} [FloatOps F] (main_arg6 : FVec F S512x1024 .f32) (main_arg7 : FVec F S1024x1024 .f32) (main_arg8 : FVec F S1024 .f32) (main_arg9 : FVec F S1024x4 .f32) (main_arg10 : FVec F S1024x32 .f32) (main_v5 : IVec S128x1024 1) (main_v11 : IVec S128x512 1) (main_v17 : IVec S128x512 1) (main_v23 : IVec S1024 1) (main_v29 : IVec S1024x5384 1) (main_v35 : IVec S512x1024 1) : IVec S128x1024 1 × IVec S128x512 1 × IVec S128x512 1 × IVec S1024 1 × IVec S1024x5384 1 × IVec S512x1024 1 × IVec S512x1024 1 × IVec S1024x1024 1 × IVec S1024 1 × IVec S1024x4 1 × IVec S1024x32 1 :=
  let main_cst_11 : FVec F S_ .f32 := constant S_ .f32 0x7F800000#32
  let main_v36 : FVec F S_ .f32 := Host.negf main_cst_11
  let main_v37 : FVec F S512x1024 .f32 := broadcastInDim S512x1024 ![] bcast_S_S512x1024 main_v36
  let main_v38 : IVec S512x1024 1 := cmpf .ogt main_arg6 main_v37
  let main_cst_12 : FVec F S_ .f32 := constant S_ .f32 0x7F800000#32
  let main_v39 : FVec F S512x1024 .f32 := broadcastInDim S512x1024 ![] bcast_S_S512x1024 main_cst_12
  let main_v40 : IVec S512x1024 1 := cmpf .olt main_arg6 main_v39
  let main_v41 : IVec S512x1024 1 := andi main_v38 main_v40
  let main_cst_13 : FVec F S_ .f32 := constant S_ .f32 0x7F800000#32
  let main_v42 : FVec F S_ .f32 := Host.negf main_cst_13
  let main_v43 : FVec F S1024x1024 .f32 := broadcastInDim S1024x1024 ![] bcast_S_S1024x1024 main_v42
  let main_v44 : IVec S1024x1024 1 := cmpf .ogt main_arg7 main_v43
  let main_cst_14 : FVec F S_ .f32 := constant S_ .f32 0x7F800000#32
  let main_v45 : FVec F S1024x1024 .f32 := broadcastInDim S1024x1024 ![] bcast_S_S1024x1024 main_cst_14
  let main_v46 : IVec S1024x1024 1 := cmpf .olt main_arg7 main_v45
  let main_v47 : IVec S1024x1024 1 := andi main_v44 main_v46
  let main_cst_15 : FVec F S_ .f32 := constant S_ .f32 0x7F800000#32
  let main_v48 : FVec F S_ .f32 := Host.negf main_cst_15
  let main_v49 : FVec F S1024 .f32 := broadcastInDim S1024 ![] bcast_S_S1024 main_v48
  let main_v50 : IVec S1024 1 := cmpf .ogt main_arg8 main_v49
  let main_cst_16 : FVec F S_ .f32 := constant S_ .f32 0x7F800000#32
  let main_v51 : FVec F S1024 .f32 := broadcastInDim S1024 ![] bcast_S_S1024 main_cst_16
  let main_v52 : IVec S1024 1 := cmpf .olt main_arg8 main_v51
  let main_v53 : IVec S1024 1 := andi main_v50 main_v52
  fn_part3 (F := F) main_arg9 main_arg10 main_v5 main_v11 main_v17 main_v23 main_v29 main_v35 main_v41 main_v47 main_v53

def fn_part1 {F : FTy → Type} [FloatOps F] (main_arg3 : FVec F S1024 .f32) (main_arg4 : FVec F S1024x5384 .f32) (main_arg5 : FVec F S512x1024 .f32) (main_arg6 : FVec F S512x1024 .f32) (main_arg7 : FVec F S1024x1024 .f32) (main_arg8 : FVec F S1024 .f32) (main_arg9 : FVec F S1024x4 .f32) (main_arg10 : FVec F S1024x32 .f32) (main_v5 : IVec S128x1024 1) (main_v11 : IVec S128x512 1) (main_v17 : IVec S128x512 1) : IVec S128x1024 1 × IVec S128x512 1 × IVec S128x512 1 × IVec S1024 1 × IVec S1024x5384 1 × IVec S512x1024 1 × IVec S512x1024 1 × IVec S1024x1024 1 × IVec S1024 1 × IVec S1024x4 1 × IVec S1024x32 1 :=
  let main_cst_5 : FVec F S_ .f32 := constant S_ .f32 0x7F800000#32
  let main_v18 : FVec F S_ .f32 := Host.negf main_cst_5
  let main_v19 : FVec F S1024 .f32 := broadcastInDim S1024 ![] bcast_S_S1024 main_v18
  let main_v20 : IVec S1024 1 := cmpf .ogt main_arg3 main_v19
  let main_cst_6 : FVec F S_ .f32 := constant S_ .f32 0x7F800000#32
  let main_v21 : FVec F S1024 .f32 := broadcastInDim S1024 ![] bcast_S_S1024 main_cst_6
  let main_v22 : IVec S1024 1 := cmpf .olt main_arg3 main_v21
  let main_v23 : IVec S1024 1 := andi main_v20 main_v22
  let main_cst_7 : FVec F S_ .f32 := constant S_ .f32 0x7F800000#32
  let main_v24 : FVec F S_ .f32 := Host.negf main_cst_7
  let main_v25 : FVec F S1024x5384 .f32 := broadcastInDim S1024x5384 ![] bcast_S_S1024x5384 main_v24
  let main_v26 : IVec S1024x5384 1 := cmpf .ogt main_arg4 main_v25
  let main_cst_8 : FVec F S_ .f32 := constant S_ .f32 0x7F800000#32
  let main_v27 : FVec F S1024x5384 .f32 := broadcastInDim S1024x5384 ![] bcast_S_S1024x5384 main_cst_8
  let main_v28 : IVec S1024x5384 1 := cmpf .olt main_arg4 main_v27
  let main_v29 : IVec S1024x5384 1 := andi main_v26 main_v28
  let main_cst_9 : FVec F S_ .f32 := constant S_ .f32 0x7F800000#32
  let main_v30 : FVec F S_ .f32 := Host.negf main_cst_9
  let main_v31 : FVec F S512x1024 .f32 := broadcastInDim S512x1024 ![] bcast_S_S512x1024 main_v30
  let main_v32 : IVec S512x1024 1 := cmpf .ogt main_arg5 main_v31
  let main_cst_10 : FVec F S_ .f32 := constant S_ .f32 0x7F800000#32
  let main_v33 : FVec F S512x1024 .f32 := broadcastInDim S512x1024 ![] bcast_S_S512x1024 main_cst_10
  let main_v34 : IVec S512x1024 1 := cmpf .olt main_arg5 main_v33
  let main_v35 : IVec S512x1024 1 := andi main_v32 main_v34
  fn_part2 (F := F) main_arg6 main_arg7 main_arg8 main_arg9 main_arg10 main_v5 main_v11 main_v17 main_v23 main_v29 main_v35

def fn {F : FTy → Type} [FloatOps F] (main_arg0 : FVec F S128x1024 .f32) (main_arg1 : FVec F S128x512 .bf16) (main_arg2 : FVec F S128x512 .bf16) (main_arg3 : FVec F S1024 .f32) (main_arg4 : FVec F S1024x5384 .f32) (main_arg5 : FVec F S512x1024 .f32) (main_arg6 : FVec F S512x1024 .f32) (main_arg7 : FVec F S1024x1024 .f32) (main_arg8 : FVec F S1024 .f32) (main_arg9 : FVec F S1024x4 .f32) (main_arg10 : FVec F S1024x32 .f32) : IVec S128x1024 1 × IVec S128x512 1 × IVec S128x512 1 × IVec S1024 1 × IVec S1024x5384 1 × IVec S512x1024 1 × IVec S512x1024 1 × IVec S1024x1024 1 × IVec S1024 1 × IVec S1024x4 1 × IVec S1024x32 1 :=
  let main_cst : FVec F S_ .f32 := constant S_ .f32 0x7F800000#32
  let main_v0 : FVec F S_ .f32 := Host.negf main_cst
  let main_v1 : FVec F S128x1024 .f32 := broadcastInDim S128x1024 ![] bcast_S_S128x1024 main_v0
  let main_v2 : IVec S128x1024 1 := cmpf .ogt main_arg0 main_v1
  let main_cst_0 : FVec F S_ .f32 := constant S_ .f32 0x7F800000#32
  let main_v3 : FVec F S128x1024 .f32 := broadcastInDim S128x1024 ![] bcast_S_S128x1024 main_cst_0
  let main_v4 : IVec S128x1024 1 := cmpf .olt main_arg0 main_v3
  let main_v5 : IVec S128x1024 1 := andi main_v2 main_v4
  let main_cst_1 : FVec F S_ .bf16 := constant S_ .bf16 0x7F80#16
  let main_v6 : FVec F S_ .bf16 := Host.negf main_cst_1
  let main_v7 : FVec F S128x512 .bf16 := broadcastInDim S128x512 ![] bcast_S_S128x512 main_v6
  let main_v8 : IVec S128x512 1 := cmpf .ogt main_arg1 main_v7
  let main_cst_2 : FVec F S_ .bf16 := constant S_ .bf16 0x7F80#16
  let main_v9 : FVec F S128x512 .bf16 := broadcastInDim S128x512 ![] bcast_S_S128x512 main_cst_2
  let main_v10 : IVec S128x512 1 := cmpf .olt main_arg1 main_v9
  let main_v11 : IVec S128x512 1 := andi main_v8 main_v10
  let main_cst_3 : FVec F S_ .bf16 := constant S_ .bf16 0x7F80#16
  let main_v12 : FVec F S_ .bf16 := Host.negf main_cst_3
  let main_v13 : FVec F S128x512 .bf16 := broadcastInDim S128x512 ![] bcast_S_S128x512 main_v12
  let main_v14 : IVec S128x512 1 := cmpf .ogt main_arg2 main_v13
  let main_cst_4 : FVec F S_ .bf16 := constant S_ .bf16 0x7F80#16
  let main_v15 : FVec F S128x512 .bf16 := broadcastInDim S128x512 ![] bcast_S_S128x512 main_cst_4
  let main_v16 : IVec S128x512 1 := cmpf .olt main_arg2 main_v15
  let main_v17 : IVec S128x512 1 := andi main_v14 main_v16
  fn_part1 (F := F) main_arg3 main_arg4 main_arg5 main_arg6 main_arg7 main_arg8 main_arg9 main_arg10 main_v5 main_v11 main_v17
-- ==== Pre_finite8.lean ====
abbrev S32768x1024 : Shape := ⟨2, ![32768, 1024]⟩
abbrev S32768x512 : Shape := ⟨2, ![32768, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩

class Facts : Prop where
  bcast_S_S32768x1024 : S_.BroadcastsInDim S32768x1024 (![] : Fin 0 → Fin S32768x1024.rank)
  bcast_S_S32768x512 : S_.BroadcastsInDim S32768x512 (![] : Fin 0 → Fin S32768x512.rank)
  bcast_S_S1024 : S_.BroadcastsInDim S1024 (![] : Fin 0 → Fin S1024.rank)
  bcast_S_S1024x5384 : S_.BroadcastsInDim S1024x5384 (![] : Fin 0 → Fin S1024x5384.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1024x4 : S_.BroadcastsInDim S1024x4 (![] : Fin 0 → Fin S1024x4.rank)
  bcast_S_S1024x32 : S_.BroadcastsInDim S1024x32 (![] : Fin 0 → Fin S1024x32.rank)

variable [Facts]

def fn_part3 {F : FTy → Type} [FloatOps F] (main_arg9 : FVec F S1024x4 .f32) (main_arg10 : FVec F S1024x32 .f32) (main_v5 : IVec S32768x1024 1) (main_v11 : IVec S32768x512 1) (main_v17 : IVec S32768x512 1) (main_v23 : IVec S1024 1) (main_v29 : IVec S1024x5384 1) (main_v35 : IVec S512x1024 1) (main_v41 : IVec S512x1024 1) (main_v47 : IVec S1024x1024 1) (main_v53 : IVec S1024 1) : IVec S32768x1024 1 × IVec S32768x512 1 × IVec S32768x512 1 × IVec S1024 1 × IVec S1024x5384 1 × IVec S512x1024 1 × IVec S512x1024 1 × IVec S1024x1024 1 × IVec S1024 1 × IVec S1024x4 1 × IVec S1024x32 1 :=
  let main_cst_17 : FVec F S_ .f32 := constant S_ .f32 0x7F800000#32
  let main_v54 : FVec F S_ .f32 := Host.negf main_cst_17
  let main_v55 : FVec F S1024x4 .f32 := broadcastInDim S1024x4 ![] bcast_S_S1024x4 main_v54
  let main_v56 : IVec S1024x4 1 := cmpf .ogt main_arg9 main_v55
  let main_cst_18 : FVec F S_ .f32 := constant S_ .f32 0x7F800000#32
  let main_v57 : FVec F S1024x4 .f32 := broadcastInDim S1024x4 ![] bcast_S_S1024x4 main_cst_18
  let main_v58 : IVec S1024x4 1 := cmpf .olt main_arg9 main_v57
  let main_v59 : IVec S1024x4 1 := andi main_v56 main_v58
  let main_cst_19 : FVec F S_ .f32 := constant S_ .f32 0x7F800000#32
  let main_v60 : FVec F S_ .f32 := Host.negf main_cst_19
  let main_v61 : FVec F S1024x32 .f32 := broadcastInDim S1024x32 ![] bcast_S_S1024x32 main_v60
  let main_v62 : IVec S1024x32 1 := cmpf .ogt main_arg10 main_v61
  let main_cst_20 : FVec F S_ .f32 := constant S_ .f32 0x7F800000#32
  let main_v63 : FVec F S1024x32 .f32 := broadcastInDim S1024x32 ![] bcast_S_S1024x32 main_cst_20
  let main_v64 : IVec S1024x32 1 := cmpf .olt main_arg10 main_v63
  let main_v65 : IVec S1024x32 1 := andi main_v62 main_v64
  (main_v5, main_v11, main_v17, main_v23, main_v29, main_v35, main_v41, main_v47, main_v53, main_v59, main_v65)

def fn_part2 {F : FTy → Type} [FloatOps F] (main_arg6 : FVec F S512x1024 .f32) (main_arg7 : FVec F S1024x1024 .f32) (main_arg8 : FVec F S1024 .f32) (main_arg9 : FVec F S1024x4 .f32) (main_arg10 : FVec F S1024x32 .f32) (main_v5 : IVec S32768x1024 1) (main_v11 : IVec S32768x512 1) (main_v17 : IVec S32768x512 1) (main_v23 : IVec S1024 1) (main_v29 : IVec S1024x5384 1) (main_v35 : IVec S512x1024 1) : IVec S32768x1024 1 × IVec S32768x512 1 × IVec S32768x512 1 × IVec S1024 1 × IVec S1024x5384 1 × IVec S512x1024 1 × IVec S512x1024 1 × IVec S1024x1024 1 × IVec S1024 1 × IVec S1024x4 1 × IVec S1024x32 1 :=
  let main_cst_11 : FVec F S_ .f32 := constant S_ .f32 0x7F800000#32
  let main_v36 : FVec F S_ .f32 := Host.negf main_cst_11
  let main_v37 : FVec F S512x1024 .f32 := broadcastInDim S512x1024 ![] bcast_S_S512x1024 main_v36
  let main_v38 : IVec S512x1024 1 := cmpf .ogt main_arg6 main_v37
  let main_cst_12 : FVec F S_ .f32 := constant S_ .f32 0x7F800000#32
  let main_v39 : FVec F S512x1024 .f32 := broadcastInDim S512x1024 ![] bcast_S_S512x1024 main_cst_12
  let main_v40 : IVec S512x1024 1 := cmpf .olt main_arg6 main_v39
  let main_v41 : IVec S512x1024 1 := andi main_v38 main_v40
  let main_cst_13 : FVec F S_ .f32 := constant S_ .f32 0x7F800000#32
  let main_v42 : FVec F S_ .f32 := Host.negf main_cst_13
  let main_v43 : FVec F S1024x1024 .f32 := broadcastInDim S1024x1024 ![] bcast_S_S1024x1024 main_v42
  let main_v44 : IVec S1024x1024 1 := cmpf .ogt main_arg7 main_v43
  let main_cst_14 : FVec F S_ .f32 := constant S_ .f32 0x7F800000#32
  let main_v45 : FVec F S1024x1024 .f32 := broadcastInDim S1024x1024 ![] bcast_S_S1024x1024 main_cst_14
  let main_v46 : IVec S1024x1024 1 := cmpf .olt main_arg7 main_v45
  let main_v47 : IVec S1024x1024 1 := andi main_v44 main_v46
  let main_cst_15 : FVec F S_ .f32 := constant S_ .f32 0x7F800000#32
  let main_v48 : FVec F S_ .f32 := Host.negf main_cst_15
  let main_v49 : FVec F S1024 .f32 := broadcastInDim S1024 ![] bcast_S_S1024 main_v48
  let main_v50 : IVec S1024 1 := cmpf .ogt main_arg8 main_v49
  let main_cst_16 : FVec F S_ .f32 := constant S_ .f32 0x7F800000#32
  let main_v51 : FVec F S1024 .f32 := broadcastInDim S1024 ![] bcast_S_S1024 main_cst_16
  let main_v52 : IVec S1024 1 := cmpf .olt main_arg8 main_v51
  let main_v53 : IVec S1024 1 := andi main_v50 main_v52
  fn_part3 (F := F) main_arg9 main_arg10 main_v5 main_v11 main_v17 main_v23 main_v29 main_v35 main_v41 main_v47 main_v53

def fn_part1 {F : FTy → Type} [FloatOps F] (main_arg3 : FVec F S1024 .f32) (main_arg4 : FVec F S1024x5384 .f32) (main_arg5 : FVec F S512x1024 .f32) (main_arg6 : FVec F S512x1024 .f32) (main_arg7 : FVec F S1024x1024 .f32) (main_arg8 : FVec F S1024 .f32) (main_arg9 : FVec F S1024x4 .f32) (main_arg10 : FVec F S1024x32 .f32) (main_v5 : IVec S32768x1024 1) (main_v11 : IVec S32768x512 1) (main_v17 : IVec S32768x512 1) : IVec S32768x1024 1 × IVec S32768x512 1 × IVec S32768x512 1 × IVec S1024 1 × IVec S1024x5384 1 × IVec S512x1024 1 × IVec S512x1024 1 × IVec S1024x1024 1 × IVec S1024 1 × IVec S1024x4 1 × IVec S1024x32 1 :=
  let main_cst_5 : FVec F S_ .f32 := constant S_ .f32 0x7F800000#32
  let main_v18 : FVec F S_ .f32 := Host.negf main_cst_5
  let main_v19 : FVec F S1024 .f32 := broadcastInDim S1024 ![] bcast_S_S1024 main_v18
  let main_v20 : IVec S1024 1 := cmpf .ogt main_arg3 main_v19
  let main_cst_6 : FVec F S_ .f32 := constant S_ .f32 0x7F800000#32
  let main_v21 : FVec F S1024 .f32 := broadcastInDim S1024 ![] bcast_S_S1024 main_cst_6
  let main_v22 : IVec S1024 1 := cmpf .olt main_arg3 main_v21
  let main_v23 : IVec S1024 1 := andi main_v20 main_v22
  let main_cst_7 : FVec F S_ .f32 := constant S_ .f32 0x7F800000#32
  let main_v24 : FVec F S_ .f32 := Host.negf main_cst_7
  let main_v25 : FVec F S1024x5384 .f32 := broadcastInDim S1024x5384 ![] bcast_S_S1024x5384 main_v24
  let main_v26 : IVec S1024x5384 1 := cmpf .ogt main_arg4 main_v25
  let main_cst_8 : FVec F S_ .f32 := constant S_ .f32 0x7F800000#32
  let main_v27 : FVec F S1024x5384 .f32 := broadcastInDim S1024x5384 ![] bcast_S_S1024x5384 main_cst_8
  let main_v28 : IVec S1024x5384 1 := cmpf .olt main_arg4 main_v27
  let main_v29 : IVec S1024x5384 1 := andi main_v26 main_v28
  let main_cst_9 : FVec F S_ .f32 := constant S_ .f32 0x7F800000#32
  let main_v30 : FVec F S_ .f32 := Host.negf main_cst_9
  let main_v31 : FVec F S512x1024 .f32 := broadcastInDim S512x1024 ![] bcast_S_S512x1024 main_v30
  let main_v32 : IVec S512x1024 1 := cmpf .ogt main_arg5 main_v31
  let main_cst_10 : FVec F S_ .f32 := constant S_ .f32 0x7F800000#32
  let main_v33 : FVec F S512x1024 .f32 := broadcastInDim S512x1024 ![] bcast_S_S512x1024 main_cst_10
  let main_v34 : IVec S512x1024 1 := cmpf .olt main_arg5 main_v33
  let main_v35 : IVec S512x1024 1 := andi main_v32 main_v34
  fn_part2 (F := F) main_arg6 main_arg7 main_arg8 main_arg9 main_arg10 main_v5 main_v11 main_v17 main_v23 main_v29 main_v35

def fn {F : FTy → Type} [FloatOps F] (main_arg0 : FVec F S32768x1024 .f32) (main_arg1 : FVec F S32768x512 .bf16) (main_arg2 : FVec F S32768x512 .bf16) (main_arg3 : FVec F S1024 .f32) (main_arg4 : FVec F S1024x5384 .f32) (main_arg5 : FVec F S512x1024 .f32) (main_arg6 : FVec F S512x1024 .f32) (main_arg7 : FVec F S1024x1024 .f32) (main_arg8 : FVec F S1024 .f32) (main_arg9 : FVec F S1024x4 .f32) (main_arg10 : FVec F S1024x32 .f32) : IVec S32768x1024 1 × IVec S32768x512 1 × IVec S32768x512 1 × IVec S1024 1 × IVec S1024x5384 1 × IVec S512x1024 1 × IVec S512x1024 1 × IVec S1024x1024 1 × IVec S1024 1 × IVec S1024x4 1 × IVec S1024x32 1 :=
  let main_cst : FVec F S_ .f32 := constant S_ .f32 0x7F800000#32
  let main_v0 : FVec F S_ .f32 := Host.negf main_cst
  let main_v1 : FVec F S32768x1024 .f32 := broadcastInDim S32768x1024 ![] bcast_S_S32768x1024 main_v0
  let main_v2 : IVec S32768x1024 1 := cmpf .ogt main_arg0 main_v1
  let main_cst_0 : FVec F S_ .f32 := constant S_ .f32 0x7F800000#32
  let main_v3 : FVec F S32768x1024 .f32 := broadcastInDim S32768x1024 ![] bcast_S_S32768x1024 main_cst_0
  let main_v4 : IVec S32768x1024 1 := cmpf .olt main_arg0 main_v3
  let main_v5 : IVec S32768x1024 1 := andi main_v2 main_v4
  let main_cst_1 : FVec F S_ .bf16 := constant S_ .bf16 0x7F80#16
  let main_v6 : FVec F S_ .bf16 := Host.negf main_cst_1
  let main_v7 : FVec F S32768x512 .bf16 := broadcastInDim S32768x512 ![] bcast_S_S32768x512 main_v6
  let main_v8 : IVec S32768x512 1 := cmpf .ogt main_arg1 main_v7
  let main_cst_2 : FVec F S_ .bf16 := constant S_ .bf16 0x7F80#16
  let main_v9 : FVec F S32768x512 .bf16 := broadcastInDim S32768x512 ![] bcast_S_S32768x512 main_cst_2
  let main_v10 : IVec S32768x512 1 := cmpf .olt main_arg1 main_v9
  let main_v11 : IVec S32768x512 1 := andi main_v8 main_v10
  let main_cst_3 : FVec F S_ .bf16 := constant S_ .bf16 0x7F80#16
  let main_v12 : FVec F S_ .bf16 := Host.negf main_cst_3
  let main_v13 : FVec F S32768x512 .bf16 := broadcastInDim S32768x512 ![] bcast_S_S32768x512 main_v12
  let main_v14 : IVec S32768x512 1 := cmpf .ogt main_arg2 main_v13
  let main_cst_4 : FVec F S_ .bf16 := constant S_ .bf16 0x7F80#16
  let main_v15 : FVec F S32768x512 .bf16 := broadcastInDim S32768x512 ![] bcast_S_S32768x512 main_cst_4
  let main_v16 : IVec S32768x512 1 := cmpf .olt main_arg2 main_v15
  let main_v17 : IVec S32768x512 1 := andi main_v14 main_v16
  fn_part1 (F := F) main_arg3 main_arg4 main_arg5 main_arg6 main_arg7 main_arg8 main_arg9 main_arg10 main_v5 main_v11 main_v17
-- ==== Kernel.lean ====
abbrev S4x8192x512 : Shape := ⟨3, ![4, 8192, 512]⟩
abbrev S4x8192x8 : Shape := ⟨3, ![4, 8192, 8]⟩
abbrev S4x8192x2x4 : Shape := ⟨4, ![4, 8192, 2, 4]⟩
abbrev S4x2x8192x4 : Shape := ⟨4, ![4, 2, 8192, 4]⟩
abbrev S4x2x4x8192 : Shape := ⟨4, ![4, 2, 4, 8192]⟩
abbrev S1x512x256 : Shape := ⟨3, ![1, 512, 256]⟩
abbrev S1x1x512x4 : Shape := ⟨4, ![1, 1, 512, 4]⟩
abbrev S1x1x4x512 : Shape := ⟨4, ![1, 1, 4, 512]⟩
abbrev S4x512x256 : Shape := ⟨3, ![4, 512, 256]⟩
abbrev S4x512x1 : Shape := ⟨3, ![4, 512, 1]⟩
abbrev S512x256 : Shape := ⟨2, ![512, 256]⟩
abbrev S512x4 : Shape := ⟨2, ![512, 4]⟩
abbrev S4x512 : Shape := ⟨2, ![4, 512]⟩
abbrev S512x512 : Shape := ⟨2, ![512, 512]⟩
abbrev S512x1 : Shape := ⟨2, ![512, 1]⟩
abbrev S1x512 : Shape := ⟨2, ![1, 512]⟩
abbrev S1x512x1 : Shape := ⟨3, ![1, 512, 1]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x8, .f32⟩
  | .hbm, ⟨4, _⟩ => ⟨S4x8192x2x4, .f32⟩
  | .hbm, ⟨5, _⟩ => ⟨S4x2x8192x4, .f32⟩
  | .hbm, ⟨6, _⟩ => ⟨S4x2x4x8192, .f32⟩
  | .hbm, ⟨7, _⟩ => ⟨S4x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x1x512x4, .f32⟩
  | .local _ .vmem, ⟨7, _⟩ => ⟨S1x1x512x4, .f32⟩
  | .local _ .vmem, ⟨8, _⟩ => ⟨S1x1x4x512, .f32⟩
  | .local _ .vmem, ⟨9, _⟩ => ⟨S1x1x4x512, .f32⟩
  | .local _ .vmem, ⟨10, _⟩ => ⟨S1x512x256, .bf16⟩
  | .local _ .vmem, ⟨11, _⟩ => ⟨S1x512x256, .bf16⟩
  | .local _ .vmem, ⟨12, _⟩ => ⟨S4x512x256, .bf16⟩
  | .local _ .vmem, ⟨13, _⟩ => ⟨S4x512x1, .f32⟩
  | .local _ .vmem, ⟨14, _⟩ => ⟨S4x512x1, .f32⟩
  | .local _ .vmem, ⟨15, _⟩ => ⟨S4x512x256, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 2, 16, 16], ![false, false, false, false]⟩

def k0_cond3 (i : grid0.Coords) : BitVec 1 :=
  let arg3 : BitVec 32 := BitVec.ofNat 32 (i 3).val
  let arg2 : BitVec 32 := BitVec.ofNat 32 (i 2).val
  let v7 : BitVec 1 := Scalar.cmpi .eq arg3 arg2
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  ![arg0.toNat, arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S4x8192x512 : Shape := ⟨3, ![4, 8192, 512]⟩
abbrev S4x8192x8 : Shape := ⟨3, ![4, 8192, 8]⟩
abbrev S4x8192x8x64 : Shape := ⟨4, ![4, 8192, 8, 64]⟩
abbrev S8192 : Shape := ⟨1, ![8192]⟩
abbrev S4x8x8192x8192 : Shape := ⟨4, ![4, 8, 8192, 8192]⟩
abbrev S4x8x8192 : Shape := ⟨3, ![4, 8, 8192]⟩
abbrev S4x8x8192x1 : Shape := ⟨4, ![4, 8, 8192, 1]⟩
abbrev S4x8x1x8192 : Shape := ⟨4, ![4, 8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8x64x8192 : Shape := ⟨4, ![4, 8, 64, 8192]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x8, .f32⟩
  | .hbm, ⟨4, _⟩ => ⟨S4x8192x512, .f32⟩
  | .hbm, ⟨5, _⟩ => ⟨S4x8192x8x64, .f32⟩
  | .hbm, ⟨6, _⟩ => ⟨S4x8192x512, .f32⟩
  | .hbm, ⟨7, _⟩ => ⟨S4x8192x8x64, .f32⟩
  | .hbm, ⟨8, _⟩ => ⟨S4x8192x512, .f32⟩
  | .hbm, ⟨9, _⟩ => ⟨S4x8192x8x64, .f32⟩
  | .hbm, ⟨10, _⟩ => ⟨S8192, .i32⟩
  | .hbm, ⟨11, _⟩ => ⟨S4x8x8192x8192, .f32⟩
  | .hbm, ⟨12, _⟩ => ⟨S4x8x8192, .f32⟩
  | .hbm, ⟨13, _⟩ => ⟨S4x8x8192x1, .f32⟩
  | .hbm, ⟨14, _⟩ => ⟨S4x8x8192x8192, .f32⟩
  | .hbm, ⟨15, _⟩ => ⟨S4x8x8192x8192, .f32⟩
  | .hbm, ⟨16, _⟩ => ⟨S4x8x8192, .f32⟩
  | .hbm, ⟨17, _⟩ => ⟨S4x8x1x8192, .f32⟩
  | .hbm, ⟨18, _⟩ => ⟨S4x8x8192x8192, .f32⟩
  | .hbm, ⟨19, _⟩ => ⟨S4x8x8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S4x8x8192x8192, .i1⟩
  | .hbm, ⟨28, _⟩ => ⟨S4x8x8192x8192, .f32⟩
  | .hbm, ⟨29, _⟩ => ⟨S4x8x8192x8192, .f32⟩
  | .hbm, ⟨30, _⟩ => ⟨S_, .f32⟩
  | .hbm, ⟨31, _⟩ => ⟨S4x8x8192, .f32⟩
  | .hbm, ⟨32, _⟩ => ⟨S_, .f32⟩
  | .hbm, ⟨33, _⟩ => ⟨S4x8x8192, .f32⟩
  | .hbm, ⟨34, _⟩ => ⟨S4x8x8192, .f32⟩
  | .hbm, ⟨35, _⟩ => ⟨S4x8x8192x1, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S_, .f32⟩
  | .hbm, ⟨40, _⟩ => ⟨S4x8x8192, .f32⟩
  | .hbm, ⟨41, _⟩ => ⟨S4x8x8192x1, .f32⟩
  | .hbm, ⟨42, _⟩ => ⟨S4x8x8192x8192, .f32⟩
  | .hbm, ⟨43, _⟩ => ⟨S4x8x8192x8192, .f32⟩
  | .hbm, ⟨44, _⟩ => ⟨S4x8x64x8192, .f32⟩
  | .hbm, ⟨45, _⟩ => ⟨S4x8192x8x64, .f32⟩
  | .hbm, ⟨46, _⟩ => ⟨S4x8192x512, .f32⟩
  | .hbm, ⟨47, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x5384 : Shape := ⟨2, ![1024, 5384]⟩
abbrev S8 : Shape := ⟨1, ![8]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1024x1792 : Shape := ⟨2, ![1024, 1792]⟩
abbrev S1024x64 : Shape := ⟨2, ![1024, 64]⟩
abbrev S1024x1536 : Shape := ⟨2, ![1024, 1536]⟩
abbrev S1024x1920 : Shape := ⟨2, ![1024, 1920]⟩
abbrev S1x1024 : Shape := ⟨2, ![1, 1024]⟩
abbrev S1024x3584 : Shape := ⟨2, ![1024, 3584]⟩
abbrev S120 : Shape := ⟨1, ![120]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S32768x128 : Shape := ⟨2, ![32768, 128]⟩
abbrev S32768x1920 : Shape := ⟨2, ![32768, 1920]⟩
abbrev S512x1024 : Shape := ⟨2, ![512, 1024]⟩
abbrev S512x512 : Shape := ⟨2, ![512, 512]⟩
abbrev S512x128 : Shape := ⟨2, ![512, 128]⟩
abbrev S512x1920 : Shape := ⟨2, ![512, 1920]⟩
abbrev S512 : Shape := ⟨1, ![512]⟩
abbrev S512x1 : Shape := ⟨2, ![512, 1]⟩
abbrev S1024x512 : Shape := ⟨2, ![1024, 512]⟩
abbrev S4x8192x1920 : Shape := ⟨3, ![4, 8192, 1920]⟩
abbrev S4x8192x128 : Shape := ⟨3, ![4, 8192, 128]⟩
abbrev S4x8192x8 : Shape := ⟨3, ![4, 8192, 8]⟩
abbrev S4x1x1920 : Shape := ⟨3, ![4, 1, 1920]⟩
abbrev S4x1920 : Shape := ⟨2, ![4, 1920]⟩
abbrev S4x1536 : Shape := ⟨2, ![4, 1536]⟩
abbrev S4x64 : Shape := ⟨2, ![4, 64]⟩
abbrev S4x128 : Shape := ⟨2, ![4, 128]⟩
abbrev S4x1792 : Shape := ⟨2, ![4, 1792]⟩
abbrev S4x8192x1536 : Shape := ⟨3, ![4, 8192, 1536]⟩
abbrev S4x8192x64 : Shape := ⟨3, ![4, 8192, 64]⟩
abbrev S4x8192x1792 : Shape := ⟨3, ![4, 8192, 1792]⟩

abbrev nBuf : Space → Nat
  | .hbm => 47
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S1024x8, .f32⟩
  | .hbm, ⟨5, _⟩ => ⟨S_, .f32⟩
  | .hbm, ⟨6, _⟩ => ⟨S1024x120, .f32⟩
  | .hbm, ⟨7, _⟩ => ⟨S1024x128, .f32⟩
  | .hbm, ⟨8, _⟩ => ⟨S1024x1792, .f32⟩
  | .hbm, ⟨9, _⟩ => ⟨S_, .f32⟩
  | .hbm, ⟨10, _⟩ => ⟨S1024x64, .f32⟩
  | .hbm, ⟨11, _⟩ => ⟨S1024x1536, .f32⟩
  | .hbm, ⟨12, _⟩ => ⟨S1024x64, .f32⟩
  | .hbm, ⟨13, _⟩ => ⟨S1024x64, .f32⟩
  | .hbm, ⟨14, _⟩ => ⟨S1024x128, .f32⟩
  | .hbm, ⟨15, _⟩ => ⟨S1024x1920, .f32⟩
  | .hbm, ⟨16, _⟩ => ⟨S1x1024, .f32⟩
  | .hbm, ⟨17, _⟩ => ⟨S1024x1536, .f32⟩
  | .hbm, ⟨18, _⟩ => ⟨S1024x3584, .f32⟩
  | .hbm, ⟨19, _⟩ => ⟨S1024x3584, .bf16⟩
  | .hbm, ⟨20, _⟩ => ⟨S_, .f32⟩
  | .hbm, ⟨21, _⟩ => ⟨S120, .f32⟩
  | .hbm, ⟨22, _⟩ => ⟨S128, .f32⟩
  | .hbm, ⟨23, _⟩ => ⟨S1x128, .f32⟩
  | .hbm, ⟨24, _⟩ => ⟨S32768x1024, .f32⟩
  | .hbm, ⟨25, _⟩ => ⟨S32768x512, .bf16⟩
  | .hbm, ⟨26, _⟩ => ⟨S32768x512, .f32⟩
  | .hbm, ⟨27, _⟩ => ⟨S32768x512, .f32⟩
  | .hbm, ⟨28, _⟩ => ⟨S32768x512, .bf16⟩
  | .hbm, ⟨29, _⟩ => ⟨S32768x512, .bf16⟩
  | .hbm, ⟨30, _⟩ => ⟨S32768x128, .f32⟩
  | .hbm, ⟨31, _⟩ => ⟨S32768x1920, .f32⟩
  | .hbm, ⟨32, _⟩ => ⟨S4x8192x1920, .f32⟩
  | .hbm, ⟨33, _⟩ => ⟨S4x8192x128, .f32⟩
  | .hbm, ⟨34, _⟩ => ⟨S4x8192x8, .f32⟩
  | .hbm, ⟨35, _⟩ => ⟨S4x1x1920, .f32⟩
  | .hbm, ⟨36, _⟩ => ⟨S4x1920, .f32⟩
  | .hbm, ⟨37, _⟩ => ⟨S4x1536, .f32⟩
  | .hbm, ⟨38, _⟩ => ⟨S4x64, .f32⟩
  | .hbm, ⟨39, _⟩ => ⟨S4x64, .f32⟩
  | .hbm, ⟨40, _⟩ => ⟨S4x128, .f32⟩
  | .hbm, ⟨41, _⟩ => ⟨S4x1792, .f32⟩
  | .hbm, ⟨42, _⟩ => ⟨S4x8192x1536, .f32⟩
  | .hbm, ⟨43, _⟩ => ⟨S4x8192x64, .f32⟩
  | .hbm, ⟨44, _⟩ => ⟨S4x8192x64, .f32⟩
  | .hbm, ⟨45, _⟩ => ⟨S4x8192x128, .f32⟩
  | .hbm, ⟨46, _⟩ => ⟨S4x8192x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .f32⟩
  | .local _ .vmem, ⟨16, _⟩ => ⟨S512x128, .f32⟩
  | .local _ .vmem, ⟨17, _⟩ => ⟨S512x1920, .f32⟩
  | .local _ .vmem, ⟨18, _⟩ => ⟨S512x1920, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1920 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
abbrev S4x8192x1024 : Shape := ⟨3, ![4, 8192, 1024]⟩
abbrev S1024 : Shape := ⟨1, ![1024]⟩
abbrev S1024x5384 : Shape := ⟨2, ![1024, 5384]⟩
abbrev S8 : Shape := ⟨1, ![8]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1024x1792 : Shape := ⟨2, ![1024, 1792]⟩
abbrev S1024x64 : Shape := ⟨2, ![1024, 64]⟩
abbrev S1024x1536 : Shape := ⟨2, ![1024, 1536]⟩
abbrev S1024x1920 : Shape := ⟨2, ![1024, 1920]⟩
abbrev S1x1024 : Shape := ⟨2, ![1, 1024]⟩
abbrev S1024x3584 : Shape := ⟨2, ![1024, 3584]⟩
abbrev S120 : Shape := ⟨1, ![120]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S32768x128 : Shape := ⟨2, ![32768, 128]⟩
abbrev S32768x1920 : Shape := ⟨2, ![32768, 1920]⟩
abbrev S512x1024 : Shape := ⟨2, ![512, 1024]⟩
abbrev S512x512 : Shape := ⟨2, ![512, 512]⟩
abbrev S512x128 : Shape := ⟨2, ![512, 128]⟩
abbrev S512x1920 : Shape := ⟨2, ![512, 1920]⟩
abbrev S512 : Shape := ⟨1, ![512]⟩
abbrev S512x1 : Shape := ⟨2, ![512, 1]⟩
abbrev S1024x512 : Shape := ⟨2, ![1024, 512]⟩
abbrev S4x8192x1920 : Shape := ⟨3, ![4, 8192, 1920]⟩
abbrev S4x8192x128 : Shape := ⟨3, ![4, 8192, 128]⟩
abbrev S4x8192x8 : Shape := ⟨3, ![4, 8192, 8]⟩
abbrev S4x1x1920 : Shape := ⟨3, ![4, 1, 1920]⟩
abbrev S4x1920 : Shape := ⟨2, ![4, 1920]⟩
abbrev S4x1536 : Shape := ⟨2, ![4, 1536]⟩
abbrev S4x64 : Shape := ⟨2, ![4, 64]⟩
abbrev S4x128 : Shape := ⟨2, ![4, 128]⟩
abbrev S4x1792 : Shape := ⟨2, ![4, 1792]⟩
abbrev S4x8192x1536 : Shape := ⟨3, ![4, 8192, 1536]⟩
abbrev S4x8192x64 : Shape := ⟨3, ![4, 8192, 64]⟩
abbrev S4x8192x1792 : Shape := ⟨3, ![4, 8192, 1792]⟩

abbrev nBuf : Space → Nat
  | .hbm => 47
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S1024x8, .f32⟩
  | .hbm, ⟨5, _⟩ => ⟨S_, .f32⟩
  | .hbm, ⟨6, _⟩ => ⟨S1024x120, .f32⟩
  | .hbm, ⟨7, _⟩ => ⟨S1024x128, .f32⟩
  | .hbm, ⟨8, _⟩ => ⟨S1024x1792, .f32⟩
  | .hbm, ⟨9, _⟩ => ⟨S_, .f32⟩
  | .hbm, ⟨10, _⟩ => ⟨S1024x64, .f32⟩
  | .hbm, ⟨11, _⟩ => ⟨S1024x1536, .f32⟩
  | .hbm, ⟨12, _⟩ => ⟨S1024x64, .f32⟩
  | .hbm, ⟨13, _⟩ => ⟨S1024x64, .f32⟩
  | .hbm, ⟨14, _⟩ => ⟨S1024x128, .f32⟩
  | .hbm, ⟨15, _⟩ => ⟨S1024x1920, .f32⟩
  | .hbm, ⟨16, _⟩ => ⟨S1x1024, .f32⟩
  | .hbm, ⟨17, _⟩ => ⟨S1024x1536, .f32⟩
  | .hbm, ⟨18, _⟩ => ⟨S1024x3584, .f32⟩
  | .hbm, ⟨19, _⟩ => ⟨S1024x3584, .bf16⟩
  | .hbm, ⟨20, _⟩ => ⟨S_, .f32⟩
  | .hbm, ⟨21, _⟩ => ⟨S120, .f32⟩
  | .hbm, ⟨22, _⟩ => ⟨S128, .f32⟩
  | .hbm, ⟨23, _⟩ => ⟨S1x128, .f32⟩
  | .hbm, ⟨24, _⟩ => ⟨S32768x1024, .f32⟩
  | .hbm, ⟨25, _⟩ => ⟨S32768x512, .bf16⟩
  | .hbm, ⟨26, _⟩ => ⟨S32768x512, .f32⟩
  | .hbm, ⟨27, _⟩ => ⟨S32768x512, .f32⟩
  | .hbm, ⟨28, _⟩ => ⟨S32768x512, .bf16⟩
  | .hbm, ⟨29, _⟩ => ⟨S32768x512, .bf16⟩
  | .hbm, ⟨30, _⟩ => ⟨S32768x128, .f32⟩
  | .hbm, ⟨31, _⟩ => ⟨S32768x1920, .f32⟩
  | .hbm, ⟨32, _⟩ => ⟨S4x8192x1920, .f32⟩
  | .hbm, ⟨33, _⟩ => ⟨S4x8192x128, .f32⟩
  | .hbm, ⟨34, _⟩ => ⟨S4x8192x8, .f32⟩
  | .hbm, ⟨35, _⟩ => ⟨S4x1x1920, .f32⟩
  | .hbm, ⟨36, _⟩ => ⟨S4x1920, .f32⟩
  | .hbm, ⟨37, _⟩ => ⟨S4x1536, .f32⟩
  | .hbm, ⟨38, _⟩ => ⟨S4x64, .f32⟩
  | .hbm, ⟨39, _⟩ => ⟨S4x64, .f32⟩
  | .hbm, ⟨40, _⟩ => ⟨S4x128, .f32⟩
  | .hbm, ⟨41, _⟩ => ⟨S4x1792, .f32⟩
  | .hbm, ⟨42, _⟩ => ⟨S4x8192x1536, .f32⟩
  | .hbm, ⟨43, _⟩ => ⟨S4x8192x64, .f32⟩
  | .hbm, ⟨44, _⟩ => ⟨S4x8192x64, .f32⟩
  | .hbm, ⟨45, _⟩ => ⟨S4x8192x128, .f32⟩
  | .hbm, ⟨46, _⟩ => ⟨S4x8192x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .f32⟩
  | .local _ .vmem, ⟨16, _⟩ => ⟨S512x128, .f32⟩
  | .local _ .vmem, ⟨17, _⟩ => ⟨S512x1920, .f32⟩
  | .local _ .vmem, ⟨18, _⟩ => ⟨S512x1920, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1920 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x8192x1024 : Shape := ⟨3, ![4, 8192, 1024]⟩
abbrev S1024 : Shape := ⟨1, ![1024]⟩
abbrev S1024x5384 : Shape := ⟨2, ![1024, 5384]⟩
abbrev S8 : Shape := ⟨1, ![8]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5384 : Shape := ⟨3, ![4, 8192, 5384]⟩
abbrev S4x8192x3336 : Shape := ⟨3, ![4, 8192, 3336]⟩
abbrev S4x8192x512 : Shape := ⟨3, ![4, 8192, 512]⟩
abbrev S4x8192x8 : Shape := ⟨3, ![4, 8192, 8]⟩
abbrev S4x8192x1792 : Shape := ⟨3, ![4, 8192, 1792]⟩
abbrev S1x1x8 : Shape := ⟨3, ![1, 1, 8]⟩
abbrev S32768x512 : Shape := ⟨2, ![32768, 512]⟩
abbrev S4x1x1792 : Shape := ⟨3, ![4, 1, 1792]⟩
abbrev S4x1792 : Shape := ⟨2, ![4, 1792]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x5384, .f32⟩
  | .hbm, ⟨21, _⟩ => ⟨S4x8192x3336, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x8, .f32⟩
  | .hbm, ⟨26, _⟩ => ⟨S4x8192x1792, .f32⟩
  | .hbm, ⟨27, _⟩ => ⟨S1x1x8, .f32⟩
  | .hbm, ⟨28, _⟩ => ⟨S4x8192x8, .f32⟩
  | .hbm, ⟨29, _⟩ => ⟨S4x8192x8, .f32⟩
  | .hbm, ⟨30, _⟩ => ⟨S4x8192x8, .f32⟩
  | .hbm, ⟨31, _⟩ => ⟨S_, .f32⟩
  | .hbm, ⟨32, _⟩ => ⟨S4x8192x8, .f32⟩
  | .hbm, ⟨33, _⟩ => ⟨S4x8192x8, .f32⟩
  | .hbm, ⟨34, _⟩ => ⟨S4x8192x8, .f32⟩
  | .hbm, ⟨35, _⟩ => ⟨S4x8192x8, .f32⟩
  | .hbm, ⟨36, _⟩ => ⟨S4x8192x8, .i1⟩
  | .hbm, ⟨37, _⟩ => ⟨S4x8192x8, .f32⟩
  | .hbm, ⟨38, _⟩ => ⟨S4x8192x8, .f32⟩
  | .hbm, ⟨39, _⟩ => ⟨S4x8192x8, .f32⟩
  | .hbm, ⟨40, _⟩ => ⟨S4x8192x8, .f32⟩
  | .hbm, ⟨41, _⟩ => ⟨S4x8192x8, .f32⟩
  | .hbm, ⟨42, _⟩ => ⟨S4x8192x8, .f32⟩
  | .hbm, ⟨43, _⟩ => ⟨S4x8192x8, .f32⟩
  | .hbm, ⟨44, _⟩ => ⟨S4x8192x8, .f32⟩
  | .hbm, ⟨45, _⟩ => ⟨S4x8192x8, .f32⟩
  | .hbm, ⟨46, _⟩ => ⟨S_, .f32⟩
  | .hbm, ⟨47, _⟩ => ⟨S4x8192x512, .f32⟩
  | .hbm, ⟨48, _⟩ => ⟨S4x8192x512, .f32⟩
  | .hbm, ⟨49, _⟩ => ⟨S32768x512, .f32⟩
  | .hbm, ⟨50, _⟩ => ⟨S32768x512, .bf16⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .bf16⟩
  | .hbm, ⟨55, _⟩ => ⟨S32768x512, .f32⟩
  | .hbm, ⟨56, _⟩ => ⟨S32768x512, .bf16⟩
  | .hbm, ⟨57, _⟩ => ⟨S4x1x1792, .f32⟩
  | .hbm, ⟨58, _⟩ => ⟨S4x1792, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1x1024 : Shape := ⟨2, ![1, 1024]⟩
abbrev S1024x2048 : Shape := ⟨2, ![1024, 2048]⟩
abbrev S32768x128 : Shape := ⟨2, ![32768, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩

abbrev nBuf : Space → Nat
  | .hbm => 25
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x5384, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S32768x1024, .f32⟩
  | .hbm, ⟨23, _⟩ => ⟨S32768x1024, .bf16⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel3Ideal.lean ====
abbrev S32768x1024 : Shape := ⟨2, ![32768, 1024]⟩
abbrev S32768x512 : Shape := ⟨2, ![32768, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1x1024 : Shape := ⟨2, ![1, 1024]⟩
abbrev S1024x2048 : Shape := ⟨2, ![1024, 2048]⟩
abbrev S32768x128 : Shape := ⟨2, ![32768, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩

abbrev nBuf : Space → Nat
  | .hbm => 25
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x5384, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S32768x1024, .f32⟩
  | .hbm, ⟨23, _⟩ => ⟨S32768x1024, .bf16⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32768x1024 : Shape := ⟨2, ![32768, 1024]⟩
abbrev S32768x512 : Shape := ⟨2, ![32768, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x2048 : Shape := ⟨2, ![1024, 2048]⟩
abbrev S32768x2048 : Shape := ⟨2, ![32768, 2048]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x5384, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S1024x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x1024, .f32⟩
  | .hbm, ⟨38, _⟩ => ⟨S32768x1024, .f32⟩
  | .hbm, ⟨39, _⟩ => ⟨S32768x512, .f32⟩
  | .hbm, ⟨40, _⟩ => ⟨S32768x512, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S1x1024, .f32⟩
  | .hbm, ⟨62, _⟩ => ⟨S32768x1024, .f32⟩
  | .hbm, ⟨63, _⟩ => ⟨S32768x1024, .f32⟩
  | .hbm, ⟨64, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel4.lean ====
abbrev S32768x1024 : Shape := ⟨2, ![32768, 1024]⟩
abbrev S32768x128 : Shape := ⟨2, ![32768, 128]⟩
abbrev S32x1024x256 : Shape := ⟨3, ![32, 1024, 256]⟩
abbrev S32x256x1024 : Shape := ⟨3, ![32, 256, 1024]⟩
abbrev S1024 : Shape := ⟨1, ![1024]⟩
abbrev S32x1024x512 : Shape := ⟨3, ![32, 1024, 512]⟩
abbrev S1x1024 : Shape := ⟨2, ![1, 1024]⟩
abbrev S1024x1024 : Shape := ⟨2, ![1024, 1024]⟩
abbrev S1024x128 : Shape := ⟨2, ![1024, 128]⟩
abbrev S1x1024x512 : Shape := ⟨3, ![1, 1024, 512]⟩
abbrev S1x256x1024 : Shape := ⟨3, ![1, 256, 1024]⟩
abbrev S1024x512 : Shape := ⟨2, ![1024, 512]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32x1024x512, .f32⟩
  | .hbm, ⟨8, _⟩ => ⟨S32x1024x512, .bf16⟩
  | .hbm, ⟨9, _⟩ => ⟨S32x256x1024, .bf16⟩
  | .hbm, ⟨10, _⟩ => ⟨S1x1024, .f32⟩
  | .hbm, ⟨11, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1024x512, .bf16⟩
  | .local _ .vmem, ⟨7, _⟩ => ⟨S1x1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel4Ideal.lean ====
abbrev S32768x1024 : Shape := ⟨2, ![32768, 1024]⟩
abbrev S32768x128 : Shape := ⟨2, ![32768, 128]⟩
abbrev S32x1024x256 : Shape := ⟨3, ![32, 1024, 256]⟩
abbrev S32x256x1024 : Shape := ⟨3, ![32, 256, 1024]⟩
abbrev S1024 : Shape := ⟨1, ![1024]⟩
abbrev S32x1024x512 : Shape := ⟨3, ![32, 1024, 512]⟩
abbrev S1x1024 : Shape := ⟨2, ![1, 1024]⟩
abbrev S1024x1024 : Shape := ⟨2, ![1024, 1024]⟩
abbrev S1024x128 : Shape := ⟨2, ![1024, 128]⟩
abbrev S1x1024x512 : Shape := ⟨3, ![1, 1024, 512]⟩
abbrev S1x256x1024 : Shape := ⟨3, ![1, 256, 1024]⟩
abbrev S1024x512 : Shape := ⟨2, ![1024, 512]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32x1024x512, .f32⟩
  | .hbm, ⟨8, _⟩ => ⟨S32x1024x512, .bf16⟩
  | .hbm, ⟨9, _⟩ => ⟨S32x256x1024, .bf16⟩
  | .hbm, ⟨10, _⟩ => ⟨S1x1024, .f32⟩
  | .hbm, ⟨11, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1024x512, .bf16⟩
  | .local _ .vmem, ⟨7, _⟩ => ⟨S1x1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S32768x1024 : Shape := ⟨2, ![32768, 1024]⟩
abbrev S32768x128 : Shape := ⟨2, ![32768, 128]⟩
abbrev S32x1024x256 : Shape := ⟨3, ![32, 1024, 256]⟩
abbrev S32x256x1024 : Shape := ⟨3, ![32, 256, 1024]⟩
abbrev S1024 : Shape := ⟨1, ![1024]⟩
abbrev S32x256x32768 : Shape := ⟨3, ![32, 256, 32768]⟩
abbrev S32x32768x256 : Shape := ⟨3, ![32, 32768, 256]⟩
abbrev S_ : Shape := ⟨0, ![]⟩
abbrev S32x32768x1024 : Shape := ⟨3, ![32, 32768, 1024]⟩
abbrev S32768x32 : Shape := ⟨2, ![32768, 32]⟩
abbrev S32x32768 : Shape := ⟨2, ![32, 32768]⟩
abbrev S32x32768x1 : Shape := ⟨3, ![32, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32768x1024, .f32⟩
  | .hbm, ⟨8, _⟩ => ⟨S32x256x32768, .f32⟩
  | .hbm, ⟨9, _⟩ => ⟨S32x32768x256, .f32⟩
  | .hbm, ⟨10, _⟩ => ⟨S32x32768x256, .f32⟩
  | .hbm, ⟨11, _⟩ => ⟨S32x32768x256, .f32⟩
  | .hbm, ⟨12, _⟩ => ⟨S_, .f32⟩
  | .hbm, ⟨13, _⟩ => ⟨S32x32768x256, .f32⟩
  | .hbm, ⟨14, _⟩ => ⟨S32x32768x256, .f32⟩
  | .hbm, ⟨15, _⟩ => ⟨S_, .f32⟩
  | .hbm, ⟨16, _⟩ => ⟨S32x32768x256, .f32⟩
  | .hbm, ⟨17, _⟩ => ⟨S32x32768x256, .f32⟩
  | .hbm, ⟨18, _⟩ => ⟨S32x32768x256, .f32⟩
  | .hbm, ⟨19, _⟩ => ⟨S32x256x32768, .f32⟩
  | .hbm, ⟨20, _⟩ => ⟨S32x32768x256, .f32⟩
  | .hbm, ⟨21, _⟩ => ⟨S32x32768x256, .f32⟩
  | .hbm, ⟨22, _⟩ => ⟨S32x32768x1024, .f32⟩
  | .hbm, ⟨23, _⟩ => ⟨S32768x32, .f32⟩
  | .hbm, ⟨24, _⟩ => ⟨S32x32768, .f32⟩
  | .hbm, ⟨25, _⟩ => ⟨S32x32768x1, .f32⟩
  | .hbm, ⟨26, _⟩ => ⟨S32x32768x1024, .f32⟩
  | .hbm, ⟨27, _⟩ => ⟨S32x32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Kernel5.lean ====
abbrev S32x4x1024 : Shape := ⟨3, ![32, 4, 1024]⟩
abbrev S1024 : Shape := ⟨1, ![1024]⟩
abbrev S1024x5384 : Shape := ⟨2, ![1024, 5384]⟩
abbrev S8 : Shape := ⟨1, ![8]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1024x1792 : Shape := ⟨2, ![1024, 1792]⟩
abbrev S1024x64 : Shape := ⟨2, ![1024, 64]⟩
abbrev S1024x1536 : Shape := ⟨2, ![1024, 1536]⟩
abbrev S1024x1920 : Shape := ⟨2, ![1024, 1920]⟩
abbrev S1x1024 : Shape := ⟨2, ![1, 1024]⟩
abbrev S1024x3584 : Shape := ⟨2, ![1024, 3584]⟩
abbrev S120 : Shape := ⟨1, ![120]⟩
abbrev S128 : Shape := ⟨1, ![128]⟩
abbrev S1x128 : Shape := ⟨2, ![1, 128]⟩
abbrev S128x1024 : Shape := ⟨2, ![128, 1024]⟩
abbrev S128x512 : Shape := ⟨2, ![128, 512]⟩
abbrev S128x128 : Shape := ⟨2, ![128, 128]⟩
abbrev S128x1920 : Shape := ⟨2, ![128, 1920]⟩
abbrev S128x1 : Shape := ⟨2, ![128, 1]⟩
abbrev S1024x512 : Shape := ⟨2, ![1024, 512]⟩
abbrev S32x4x1920 : Shape := ⟨3, ![32, 4, 1920]⟩
abbrev S32x4x128 : Shape := ⟨3, ![32, 4, 128]⟩
abbrev S32x4x8 : Shape := ⟨3, ![32, 4, 8]⟩
abbrev S32x1x1920 : Shape := ⟨3, ![32, 1, 1920]⟩
abbrev S32x1920 : Shape := ⟨2, ![32, 1920]⟩
abbrev S32x1536 : Shape := ⟨2, ![32, 1536]⟩
abbrev S32x64 : Shape := ⟨2, ![32, 64]⟩
abbrev S32x128 : Shape := ⟨2, ![32, 128]⟩
abbrev S32x1792 : Shape := ⟨2, ![32, 1792]⟩
abbrev S32x4x1536 : Shape := ⟨3, ![32, 4, 1536]⟩
abbrev S32x4x64 : Shape := ⟨3, ![32, 4, 64]⟩
abbrev S32x4x1792 : Shape := ⟨3, ![32, 4, 1792]⟩

abbrev nBuf : Space → Nat
  | .hbm => 47
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S1024x8, .f32⟩
  | .hbm, ⟨5, _⟩ => ⟨S_, .f32⟩
  | .hbm, ⟨6, _⟩ => ⟨S1024x120, .f32⟩
  | .hbm, ⟨7, _⟩ => ⟨S1024x128, .f32⟩
  | .hbm, ⟨8, _⟩ => ⟨S1024x1792, .f32⟩
  | .hbm, ⟨9, _⟩ => ⟨S_, .f32⟩
  | .hbm, ⟨10, _⟩ => ⟨S1024x64, .f32⟩
  | .hbm, ⟨11, _⟩ => ⟨S1024x1536, .f32⟩
  | .hbm, ⟨12, _⟩ => ⟨S1024x64, .f32⟩
  | .hbm, ⟨13, _⟩ => ⟨S1024x64, .f32⟩
  | .hbm, ⟨14, _⟩ => ⟨S1024x128, .f32⟩
  | .hbm, ⟨15, _⟩ => ⟨S1024x1920, .f32⟩
  | .hbm, ⟨16, _⟩ => ⟨S1x1024, .f32⟩
  | .hbm, ⟨17, _⟩ => ⟨S1024x1536, .f32⟩
  | .hbm, ⟨18, _⟩ => ⟨S1024x3584, .f32⟩
  | .hbm, ⟨19, _⟩ => ⟨S1024x3584, .bf16⟩
  | .hbm, ⟨20, _⟩ => ⟨S_, .f32⟩
  | .hbm, ⟨21, _⟩ => ⟨S120, .f32⟩
  | .hbm, ⟨22, _⟩ => ⟨S128, .f32⟩
  | .hbm, ⟨23, _⟩ => ⟨S1x128, .f32⟩
  | .hbm, ⟨24, _⟩ => ⟨S128x1024, .f32⟩
  | .hbm, ⟨25, _⟩ => ⟨S128x512, .bf16⟩
  | .hbm, ⟨26, _⟩ => ⟨S128x512, .f32⟩
  | .hbm, ⟨27, _⟩ => ⟨S128x512, .f32⟩
  | .hbm, ⟨28, _⟩ => ⟨S128x512, .bf16⟩
  | .hbm, ⟨29, _⟩ => ⟨S128x512, .bf16⟩
  | .hbm, ⟨30, _⟩ => ⟨S128x128, .f32⟩
  | .hbm, ⟨31, _⟩ => ⟨S128x1920, .f32⟩
  | .hbm, ⟨32, _⟩ => ⟨S32x4x1920, .f32⟩
  | .hbm, ⟨33, _⟩ => ⟨S32x4x128, .f32⟩
  | .hbm, ⟨34, _⟩ => ⟨S32x4x8, .f32⟩
  | .hbm, ⟨35, _⟩ => ⟨S32x1x1920, .f32⟩
  | .hbm, ⟨36, _⟩ => ⟨S32x1920, .f32⟩
  | .hbm, ⟨37, _⟩ => ⟨S32x1536, .f32⟩
  | .hbm, ⟨38, _⟩ => ⟨S32x64, .f32⟩
  | .hbm, ⟨39, _⟩ => ⟨S32x64, .f32⟩
  | .hbm, ⟨40, _⟩ => ⟨S32x128, .f32⟩
  | .hbm, ⟨41, _⟩ => ⟨S32x1792, .f32⟩
  | .hbm, ⟨42, _⟩ => ⟨S32x4x1536, .f32⟩
  | .hbm, ⟨43, _⟩ => ⟨S32x4x64, .f32⟩
  | .hbm, ⟨44, _⟩ => ⟨S32x4x64, .f32⟩
  | .hbm, ⟨45, _⟩ => ⟨S32x4x128, .f32⟩
  | .hbm, ⟨46, _⟩ => ⟨S32x4x1792, .f32⟩
  | .local _ .vmem, ⟨0, _⟩ => ⟨S128x1024, .f32⟩
  | .local _ .vmem, ⟨1, _⟩ => ⟨S1x1024, .f32⟩
  | .local _ .vmem, ⟨2, _⟩ => ⟨S1024x3584, .bf16⟩
  | .local _ .vmem, ⟨3, _⟩ => ⟨S1x128, .f32⟩
  | .local _ .vmem, ⟨4, _⟩ => ⟨S128x512, .bf16⟩
  | .local _ .vmem, ⟨5, _⟩ => ⟨S128x512, .f32⟩
  | .local _ .vmem, ⟨6, _⟩ => ⟨S128x512, .f32⟩
  | .local _ .vmem, ⟨7, _⟩ => ⟨S128x512, .bf16⟩
  | .local _ .vmem, ⟨8, _⟩ => ⟨S128x512, .bf16⟩
  | .local _ .vmem, ⟨9, _⟩ => ⟨S128x128, .f32⟩
  | .local _ .vmem, ⟨10, _⟩ => ⟨S128x1920, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference5Ideal.lean ====
abbrev S32x4x1024 : Shape := ⟨3, ![32, 4, 1024]⟩
abbrev S1024 : Shape := ⟨1, ![1024]⟩
abbrev S1024x5384 : Shape := ⟨2, ![1024, 5384]⟩
abbrev S8 : Shape := ⟨1, ![8]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5384 : Shape := ⟨3, ![32, 4, 5384]⟩
abbrev S32x4x3336 : Shape := ⟨3, ![32, 4, 3336]⟩
abbrev S32x4x512 : Shape := ⟨3, ![32, 4, 512]⟩
abbrev S32x4x8 : Shape := ⟨3, ![32, 4, 8]⟩
abbrev S32x4x1792 : Shape := ⟨3, ![32, 4, 1792]⟩
abbrev S1x1x8 : Shape := ⟨3, ![1, 1, 8]⟩
abbrev S128x512 : Shape := ⟨2, ![128, 512]⟩
abbrev S32x1x1792 : Shape := ⟨3, ![32, 1, 1792]⟩
abbrev S32x1792 : Shape := ⟨2, ![32, 1792]⟩

abbrev nBuf : Space → Nat
  | .hbm => 59
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S32x4x5384, .f32⟩
  | .hbm, ⟨21, _⟩ => ⟨S32x4x3336, .f32⟩
  | .hbm, ⟨22, _⟩ => ⟨S32x4x512, .f32⟩
  | .hbm, ⟨23, _⟩ => ⟨S32x4x512, .f32⟩
  | .hbm, ⟨24, _⟩ => ⟨S32x4x512, .f32⟩
  | .hbm, ⟨25, _⟩ => ⟨S32x4x8, .f32⟩
  | .hbm, ⟨26, _⟩ => ⟨S32x4x1792, .f32⟩
  | .hbm, ⟨27, _⟩ => ⟨S1x1x8, .f32⟩
  | .hbm, ⟨28, _⟩ => ⟨S32x4x8, .f32⟩
  | .hbm, ⟨29, _⟩ => ⟨S32x4x8, .f32⟩
  | .hbm, ⟨30, _⟩ => ⟨S32x4x8, .f32⟩
  | .hbm, ⟨31, _⟩ => ⟨S_, .f32⟩
  | .hbm, ⟨32, _⟩ => ⟨S32x4x8, .f32⟩
  | .hbm, ⟨33, _⟩ => ⟨S32x4x8, .f32⟩
  | .hbm, ⟨34, _⟩ => ⟨S32x4x8, .f32⟩
  | .hbm, ⟨35, _⟩ => ⟨S32x4x8, .f32⟩
  | .hbm, ⟨36, _⟩ => ⟨S32x4x8, .i1⟩
  | .hbm, ⟨37, _⟩ => ⟨S32x4x8, .f32⟩
  | .hbm, ⟨38, _⟩ => ⟨S32x4x8, .f32⟩
  | .hbm, ⟨39, _⟩ => ⟨S32x4x8, .f32⟩
  | .hbm, ⟨40, _⟩ => ⟨S32x4x8, .f32⟩
  | .hbm, ⟨41, _⟩ => ⟨S32x4x8, .f32⟩
  | .hbm, ⟨42, _⟩ => ⟨S32x4x8, .f32⟩
  | .hbm, ⟨43, _⟩ => ⟨S32x4x8, .f32⟩
  | .hbm, ⟨44, _⟩ => ⟨S32x4x8, .f32⟩
  | .hbm, ⟨45, _⟩ => ⟨S32x4x8, .f32⟩
  | .hbm, ⟨46, _⟩ => ⟨S_, .f32⟩
  | .hbm, ⟨47, _⟩ => ⟨S32x4x512, .f32⟩
  | .hbm, ⟨48, _⟩ => ⟨S32x4x512, .f32⟩
  | .hbm, ⟨49, _⟩ => ⟨S128x512, .f32⟩
  | .hbm, ⟨50, _⟩ => ⟨S128x512, .bf16⟩
  | .hbm, ⟨51, _⟩ => ⟨S128x512, .f32⟩
  | .hbm, ⟨52, _⟩ => ⟨S128x512, .f32⟩
  | .hbm, ⟨53, _⟩ => ⟨S128x512, .f32⟩
  | .hbm, ⟨54, _⟩ => ⟨S128x512, .bf16⟩
  | .hbm, ⟨55, _⟩ => ⟨S128x512, .f32⟩
  | .hbm, ⟨56, _⟩ => ⟨S128x512, .bf16⟩
  | .hbm, ⟨57, _⟩ => ⟨S32x1x1792, .f32⟩
  | .hbm, ⟨58, _⟩ => ⟨S32x1792, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel6.lean ====
abbrev S128x1024 : Shape := ⟨2, ![128, 1024]⟩
abbrev S128x512 : Shape := ⟨2, ![128, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1x1024 : Shape := ⟨2, ![1, 1024]⟩
abbrev S1024x2048 : Shape := ⟨2, ![1024, 2048]⟩
abbrev S128x128 : Shape := ⟨2, ![128, 128]⟩
abbrev S128 : Shape := ⟨1, ![128]⟩
abbrev S128x1 : Shape := ⟨2, ![128, 1]⟩
abbrev S128x2048 : Shape := ⟨2, ![128, 2048]⟩

abbrev nBuf : Space → Nat
  | .hbm => 25
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S1024, .f32⟩
  | .hbm, ⟨4, _⟩ => ⟨S1024x5384, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S128x1024, .f32⟩
  | .hbm, ⟨23, _⟩ => ⟨S128x1024, .bf16⟩
  | .hbm, ⟨24, _⟩ => ⟨S128x128, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1x1024, .f32⟩
  | .local _ .vmem, ⟨4, _⟩ => ⟨S1024x2048, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x128, .bf16⟩
  | .local _ .vmem, ⟨10, _⟩ => ⟨S128x1024, .f32⟩
  | .local _ .vmem, ⟨11, _⟩ => ⟨S128x1024, .bf16⟩
  | .local _ .vmem, ⟨12, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference6Ideal.lean ====
abbrev S128x1024 : Shape := ⟨2, ![128, 1024]⟩
abbrev S128x512 : Shape := ⟨2, ![128, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S1024x2048 : Shape := ⟨2, ![1024, 2048]⟩
abbrev S128x2048 : Shape := ⟨2, ![128, 2048]⟩

abbrev nBuf : Space → Nat
  | .hbm => 65
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S1024, .f32⟩
  | .hbm, ⟨4, _⟩ => ⟨S1024x5384, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S1024x2048, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S_, .f32⟩
  | .hbm, ⟨35, _⟩ => ⟨S128x2048, .f32⟩
  | .hbm, ⟨36, _⟩ => ⟨S128x2048, .f32⟩
  | .hbm, ⟨37, _⟩ => ⟨S128x1024, .f32⟩
  | .hbm, ⟨38, _⟩ => ⟨S128x1024, .f32⟩
  | .hbm, ⟨39, _⟩ => ⟨S128x512, .f32⟩
  | .hbm, ⟨40, _⟩ => ⟨S128x512, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S_, .f32⟩
  | .hbm, ⟨56, _⟩ => ⟨S128x1, .f32⟩
  | .hbm, ⟨57, _⟩ => ⟨S128x1, .f32⟩
  | .hbm, ⟨58, _⟩ => ⟨S128x1, .f32⟩
  | .hbm, ⟨59, _⟩ => ⟨S128x1024, .f32⟩
  | .hbm, ⟨60, _⟩ => ⟨S128x1024, .f32⟩
  | .hbm, ⟨61, _⟩ => ⟨S1x1024, .f32⟩
  | .hbm, ⟨62, _⟩ => ⟨S128x1024, .f32⟩
  | .hbm, ⟨63, _⟩ => ⟨S128x1024, .f32⟩
  | .hbm, ⟨64, _⟩ => ⟨S128x1024, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel7.lean ====
abbrev S128x1024 : Shape := ⟨2, ![128, 1024]⟩
abbrev S128x128 : Shape := ⟨2, ![128, 128]⟩
abbrev S32x1024x256 : Shape := ⟨3, ![32, 1024, 256]⟩
abbrev S32x256x1024 : Shape := ⟨3, ![32, 256, 1024]⟩
abbrev S1024 : Shape := ⟨1, ![1024]⟩
abbrev S32x1024x512 : Shape := ⟨3, ![32, 1024, 512]⟩
abbrev S1x1024 : Shape := ⟨2, ![1, 1024]⟩
abbrev S1x1024x512 : Shape := ⟨3, ![1, 1024, 512]⟩
abbrev S1x256x1024 : Shape := ⟨3, ![1, 256, 1024]⟩
abbrev S1024x512 : Shape := ⟨2, ![1024, 512]⟩
abbrev S128x512 : Shape := ⟨2, ![128, 512]⟩
abbrev S128x256 : Shape := ⟨2, ![128, 256]⟩
abbrev S256x1024 : Shape := ⟨2, ![256, 1024]⟩
abbrev S128 : Shape := ⟨1, ![128]⟩
abbrev S128x1 : Shape := ⟨2, ![128, 1]⟩

abbrev nBuf : Space → Nat
  | .hbm => 12
  | .vmem => 10
  | .smem => 0
  | _ => 0

abbrev bufTy : (tb : Table) → Fin (tcTables nBuf tb) → BufTy
  | .hbm, ⟨0, _⟩ => ⟨S128x1024, .bf16⟩
  | .hbm, ⟨1, _⟩ => ⟨S128x128, .f32⟩
  | .hbm, ⟨2, _⟩ => ⟨S128x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32x1024x512, .f32⟩
  | .hbm, ⟨8, _⟩ => ⟨S32x1024x512, .bf16⟩
  | .hbm, ⟨9, _⟩ => ⟨S32x256x1024, .bf16⟩
  | .hbm, ⟨10, _⟩ => ⟨S1x1024, .f32⟩
  | .hbm, ⟨11, _⟩ => ⟨S128x1024, .f32⟩
  | .local _ .vmem, ⟨0, _⟩ => ⟨S128x1024, .bf16⟩
  | .local _ .vmem, ⟨1, _⟩ => ⟨S128x128, .f32⟩
  | .local _ .vmem, ⟨2, _⟩ => ⟨S128x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x1024, .f32⟩
  | .local _ .vmem, ⟨8, _⟩ => ⟨S128x1024, .f32⟩
  | .local _ .vmem, ⟨9, _⟩ => ⟨S128x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference7Ideal.lean ====
abbrev S128x1024 : Shape := ⟨2, ![128, 1024]⟩
abbrev S128x128 : Shape := ⟨2, ![128, 128]⟩
abbrev S32x1024x256 : Shape := ⟨3, ![32, 1024, 256]⟩
abbrev S32x256x1024 : Shape := ⟨3, ![32, 256, 1024]⟩
abbrev S1024 : Shape := ⟨1, ![1024]⟩
abbrev S32x256x128 : Shape := ⟨3, ![32, 256, 128]⟩
abbrev S32x128x256 : Shape := ⟨3, ![32, 128, 256]⟩
abbrev S_ : Shape := ⟨0, ![]⟩
abbrev S32x128x1024 : Shape := ⟨3, ![32, 128, 1024]⟩
abbrev S128x32 : Shape := ⟨2, ![128, 32]⟩
abbrev S32x128 : Shape := ⟨2, ![32, 128]⟩
abbrev S32x128x1 : Shape := ⟨3, ![32, 128, 1]⟩
abbrev S128 : Shape := ⟨1, ![128]⟩
abbrev S128x1 : Shape := ⟨2, ![128, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x128, .f32⟩
  | .hbm, ⟨2, _⟩ => ⟨S128x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S128x1024, .f32⟩
  | .hbm, ⟨8, _⟩ => ⟨S32x256x128, .f32⟩
  | .hbm, ⟨9, _⟩ => ⟨S32x128x256, .f32⟩
  | .hbm, ⟨10, _⟩ => ⟨S32x128x256, .f32⟩
  | .hbm, ⟨11, _⟩ => ⟨S32x128x256, .f32⟩
  | .hbm, ⟨12, _⟩ => ⟨S_, .f32⟩
  | .hbm, ⟨13, _⟩ => ⟨S32x128x256, .f32⟩
  | .hbm, ⟨14, _⟩ => ⟨S32x128x256, .f32⟩
  | .hbm, ⟨15, _⟩ => ⟨S_, .f32⟩
  | .hbm, ⟨16, _⟩ => ⟨S32x128x256, .f32⟩
  | .hbm, ⟨17, _⟩ => ⟨S32x128x256, .f32⟩
  | .hbm, ⟨18, _⟩ => ⟨S32x128x256, .f32⟩
  | .hbm, ⟨19, _⟩ => ⟨S32x256x128, .f32⟩
  | .hbm, ⟨20, _⟩ => ⟨S32x128x256, .f32⟩
  | .hbm, ⟨21, _⟩ => ⟨S32x128x256, .f32⟩
  | .hbm, ⟨22, _⟩ => ⟨S32x128x1024, .f32⟩
  | .hbm, ⟨23, _⟩ => ⟨S128x32, .f32⟩
  | .hbm, ⟨24, _⟩ => ⟨S32x128, .f32⟩
  | .hbm, ⟨25, _⟩ => ⟨S32x128x1, .f32⟩
  | .hbm, ⟨26, _⟩ => ⟨S32x128x1024, .f32⟩
  | .hbm, ⟨27, _⟩ => ⟨S32x128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x1024, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Kernel8.lean ====
abbrev S32768x1024 : Shape := ⟨2, ![32768, 1024]⟩
abbrev S32768x512 : Shape := ⟨2, ![32768, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1x1024 : Shape := ⟨2, ![1, 1024]⟩
abbrev S1024x2048 : Shape := ⟨2, ![1024, 2048]⟩
abbrev S32768x128 : Shape := ⟨2, ![32768, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩

abbrev nBuf : Space → Nat
  | .hbm => 25
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x5384, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S32768x1024, .f32⟩
  | .hbm, ⟨23, _⟩ => ⟨S32768x1024, .bf16⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel8Ideal.lean ====
abbrev S32768x1024 : Shape := ⟨2, ![32768, 1024]⟩
abbrev S32768x512 : Shape := ⟨2, ![32768, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1x1024 : Shape := ⟨2, ![1, 1024]⟩
abbrev S1024x2048 : Shape := ⟨2, ![1024, 2048]⟩
abbrev S32768x128 : Shape := ⟨2, ![32768, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩

abbrev nBuf : Space → Nat
  | .hbm => 25
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x5384, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S32768x1024, .f32⟩
  | .hbm, ⟨23, _⟩ => ⟨S32768x1024, .bf16⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F] [Named F]

def κ : String → Option EReal := fun
  | "mask" => some ⊥
  | _ => none

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S32768x1024 : Shape := ⟨2, ![32768, 1024]⟩
abbrev S32768x512 : Shape := ⟨2, ![32768, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x2048 : Shape := ⟨2, ![1024, 2048]⟩
abbrev S32768x2048 : Shape := ⟨2, ![32768, 2048]⟩
abbrev S32768x4 : Shape := ⟨2, ![32768, 4]⟩
abbrev S4 : Shape := ⟨1, ![4]⟩
abbrev S1x4 : Shape := ⟨2, ![1, 4]⟩
abbrev S32768x32 : Shape := ⟨2, ![32768, 32]⟩
abbrev S32768x4x8 : Shape := ⟨3, ![32768, 4, 8]⟩
abbrev S32768x4x1 : Shape := ⟨3, ![32768, 4, 1]⟩
abbrev S32768x8 : Shape := ⟨2, ![32768, 8]⟩
abbrev S32768x2 : Shape := ⟨2, ![32768, 2]⟩
abbrev S32768x2x1 : Shape := ⟨3, ![32768, 2, 1]⟩
abbrev S1x1x128 : Shape := ⟨3, ![1, 1, 128]⟩
abbrev S32768x2x128 : Shape := ⟨3, ![32768, 2, 128]⟩
abbrev S32768x128 : Shape := ⟨2, ![32768, 128]⟩

abbrev nBuf : Space → Nat
  | .hbm => 137
  | .vmem => 0
  | .smem => 0
  | _ => 0

abbrev hbmTy0_0 (i : Nat) : BufTy := match i % 128 with
  | 0 => ⟨S32768x1024, .f32⟩
  | 1 => ⟨S32768x512, .bf16⟩
  | 2 => ⟨S32768x512, .bf16⟩
  | 3 => ⟨S1024, .f32⟩
  | 4 => ⟨S1024x5384, .f32⟩
  | 5 => ⟨S512x1024, .f32⟩
  | 6 => ⟨S512x1024, .f32⟩
  | 7 => ⟨S1024x1024, .f32⟩
  | 8 => ⟨S1024, .f32⟩
  | 9 => ⟨S1024x4, .f32⟩
  | 10 => ⟨S1024x32, .f32⟩
  | 11 => ⟨S32768x1024, .f32⟩
  | 12 => ⟨S_, .f32⟩
  | 13 => ⟨S32768, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x1, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S1024x2048, .f32⟩
  | 28 => ⟨S32768x2048, .f32⟩
  | 29 => ⟨S32768x2048, .f32⟩
  | 30 => ⟨S32768x2048, .f32⟩
  | 31 => ⟨S_, .f32⟩
  | 32 => ⟨S32768x2048, .f32⟩
  | 33 => ⟨S32768x2048, .f32⟩
  | 34 => ⟨S_, .f32⟩
  | 35 => ⟨S32768x2048, .f32⟩
  | 36 => ⟨S32768x2048, .f32⟩
  | 37 => ⟨S32768x1024, .f32⟩
  | 38 => ⟨S32768x1024, .f32⟩
  | 39 => ⟨S32768x512, .f32⟩
  | 40 => ⟨S32768x512, .f32⟩
  | 41 => ⟨S32768x1024, .f32⟩
  | 42 => ⟨S32768x1024, .f32⟩
  | 43 => ⟨S32768x1024, .f32⟩
  | 44 => ⟨S32768x1024, .f32⟩
  | 45 => ⟨S32768x1024, .f32⟩
  | 46 => ⟨S32768x1024, .f32⟩
  | 47 => ⟨S32768x1024, .f32⟩
  | 48 => ⟨S32768x1024, .f32⟩
  | 49 => ⟨S_, .f32⟩
  | 50 => ⟨S32768, .f32⟩
  | 51 => ⟨S32768x1, .f32⟩
  | 52 => ⟨S_, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S32768x1, .f32⟩
  | 59 => ⟨S32768x1024, .f32⟩
  | 60 => ⟨S32768x1024, .f32⟩
  | 61 => ⟨S1x1024, .f32⟩
  | 62 => ⟨S32768x1024, .f32⟩
  | 63 => ⟨S32768x1024, .f32⟩
  | 64 => ⟨S32768x4, .f32⟩
  | 65 => ⟨S32768x1, .f32⟩
  | 66 => ⟨S32768x1, .i32⟩
  | 67 => ⟨S4, .i32⟩
  | 68 => ⟨S1x4, .i32⟩
  | 69 => ⟨S32768x4, .i32⟩
  | 70 => ⟨S32768x4, .i32⟩
  | 71 => ⟨S32768x4, .i1⟩
  | 72 => ⟨S_, .f32⟩
  | 73 => ⟨S32768, .f32⟩
  | 74 => ⟨S_, .f32⟩
  | 75 => ⟨S32768, .f32⟩
  | 76 => ⟨S32768, .f32⟩
  | 77 => ⟨S32768x1, .f32⟩
  | 78 => ⟨S32768x4, .f32⟩
  | 79 => ⟨S32768x4, .f32⟩
  | 80 => ⟨S32768x4, .f32⟩
  | 81 => ⟨S_, .f32⟩
  | 82 => ⟨S32768, .f32⟩
  | 83 => ⟨S32768x1, .f32⟩
  | 84 => ⟨S32768x4, .f32⟩
  | 85 => ⟨S32768x4, .f32⟩
  | 86 => ⟨S_, .f32⟩
  | 87 => ⟨S_, .f32⟩
  | 88 => ⟨S32768x4, .f32⟩
  | 89 => ⟨S32768x4, .f32⟩
  | 90 => ⟨S_, .f32⟩
  | 91 => ⟨S32768, .f32⟩
  | 92 => ⟨S32768x1, .f32⟩
  | 93 => ⟨S32768x32, .f32⟩
  | 94 => ⟨S32768x4x8, .f32⟩
  | 95 => ⟨S32768x4x1, .i1⟩
  | 96 => ⟨S_, .f32⟩
  | 97 => ⟨S_, .f32⟩
  | 98 => ⟨S32768x4x8, .i1⟩
  | 99 => ⟨S32768x4x8, .f32⟩
  | 100 => ⟨S32768x4x8, .f32⟩
  | 101 => ⟨S_, .f32⟩
  | 102 => ⟨S32768x8, .f32⟩
  | 103 => ⟨S32768x2, .f32⟩
  | 104 => ⟨S32768x2, .i32⟩
  | 105 => ⟨S_, .f32⟩
  | 106 => ⟨S32768, .f32⟩
  | 107 => ⟨S_, .f32⟩
  | 108 => ⟨S32768, .f32⟩
  | 109 => ⟨S32768, .f32⟩
  | 110 => ⟨S32768x1, .f32⟩
  | 111 => ⟨S32768x2, .f32⟩
  | 112 => ⟨S32768x2, .f32⟩
  | 113 => ⟨S32768x2, .f32⟩
  | 114 => ⟨S_, .f32⟩
  | 115 => ⟨S32768, .f32⟩
  | 116 => ⟨S32768x1, .f32⟩
  | 117 => ⟨S32768x2, .f32⟩
  | 118 => ⟨S32768x2, .f32⟩
  | 119 => ⟨S32768x2, .f32⟩
  | 120 => ⟨S32768x2, .f32⟩
  | 121 => ⟨S_, .i32⟩
  | 122 => ⟨S32768x1, .i32⟩
  | 123 => ⟨S32768x1, .i32⟩
  | 124 => ⟨S32768x2, .i32⟩
  | 125 => ⟨S32768x2, .i32⟩
  | 126 => ⟨S32768x2x1, .i32⟩
  | 127 => ⟨S1x1x128, .i32⟩
  | _ => ⟨S32768x1024, .f32⟩

abbrev hbmTy0_1 (i : Nat) : BufTy := match i % 128 with
  | 0 => ⟨S32768x2x128, .i32⟩
  | 1 => ⟨S32768x2x128, .i32⟩
  | 2 => ⟨S32768x2x128, .i1⟩
  | 3 => ⟨S32768x2x128, .f32⟩
  | 4 => ⟨S32768x2x1, .f32⟩
  | 5 => ⟨S32768x2x128, .f32⟩
  | 6 => ⟨S32768x2x128, .f32⟩
  | 7 => ⟨S_, .f32⟩
  | 8 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_values : Ref sig .tc := ⟨.hbm, 65, rfl⟩
abbrev main_indices : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_call0_v0 : Ref sig .tc := ⟨.hbm, 87, rfl⟩
abbrev main_call0_v1 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_values_14 : Ref sig .tc := ⟨.hbm, 103, rfl⟩
abbrev main_indices_15 : Ref sig .tc := ⟨.hbm, 104, rfl⟩
abbrev main_cst_16 : Ref sig .tc := ⟨.hbm, 105, rfl⟩
abbrev main_v70 : Ref sig .tc := ⟨.hbm, 106, rfl⟩
abbrev main_cst_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩

abbrev nD : Nat := 1
abbrev τ : Topo := Topo.v7x

variable {F : FTy → Type} [FloatOps F]
-- ==== Kernel9.lean ====
abbrev S32768x128 : Shape := ⟨2, ![32768, 128]⟩
abbrev S4x8192x128 : Shape := ⟨3, ![4, 8192, 128]⟩
abbrev S1x512x128 : Shape := ⟨3, ![1, 512, 128]⟩
abbrev S1x128 : Shape := ⟨2, ![1, 128]⟩
abbrev S512x128 : Shape := ⟨2, ![512, 128]⟩
abbrev S512x512 : Shape := ⟨2, ![512, 512]⟩
abbrev S4x8192x8 : Shape := ⟨3, ![4, 8192, 8]⟩

abbrev nBuf : Space → Nat
  | .hbm => 4
  | .vmem => 5
  | .smem => 0
  | _ => 0

abbrev bufTy : (tb : Table) → Fin (tcTables nBuf tb) → BufTy
  | .hbm, ⟨0, _⟩ => ⟨S32768x128, .f32⟩
  | .hbm, ⟨1, _⟩ => ⟨S4x8192x128, .f32⟩
  | .hbm, ⟨2, _⟩ => ⟨S4x8192x128, .f32⟩
  | .hbm, ⟨3, _⟩ => ⟨S4x8192x8, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference9Ideal.lean ====
abbrev S32768x128 : Shape := ⟨2, ![32768, 128]⟩
abbrev S4x8192x128 : Shape := ⟨3, ![4, 8192, 128]⟩
abbrev S4x8192x8 : Shape := ⟨3, ![4, 8192, 8]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S4x8192x128, .f32⟩
  | .hbm, ⟨2, _⟩ => ⟨S4x8192x8, .f32⟩
  | .hbm, ⟨3, _⟩ => ⟨S_, .f32⟩
  | .hbm, ⟨4, _⟩ => ⟨S_, .f32⟩
  | .hbm, ⟨5, _⟩ => ⟨S4x8192x8, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S128x1024 : Shape := ⟨2, ![128, 1024]⟩
abbrev S128x512 : Shape := ⟨2, ![128, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1x1024 : Shape := ⟨2, ![1, 1024]⟩
abbrev S1024x2048 : Shape := ⟨2, ![1024, 2048]⟩
abbrev S128x128 : Shape := ⟨2, ![128, 128]⟩
abbrev S128 : Shape := ⟨1, ![128]⟩
abbrev S128x1 : Shape := ⟨2, ![128, 1]⟩
abbrev S128x2048 : Shape := ⟨2, ![128, 2048]⟩

abbrev nBuf : Space → Nat
  | .hbm => 25
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S1024, .f32⟩
  | .hbm, ⟨4, _⟩ => ⟨S1024x5384, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S128x1024, .f32⟩
  | .hbm, ⟨23, _⟩ => ⟨S128x1024, .bf16⟩
  | .hbm, ⟨24, _⟩ => ⟨S128x128, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1x1024, .f32⟩
  | .local _ .vmem, ⟨4, _⟩ => ⟨S1024x2048, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x128, .bf16⟩
  | .local _ .vmem, ⟨10, _⟩ => ⟨S128x1024, .f32⟩
  | .local _ .vmem, ⟨11, _⟩ => ⟨S128x1024, .bf16⟩
  | .local _ .vmem, ⟨12, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Kernel10Ideal.lean ====
variable {F : FTy → Type} [FloatOps F] [Named F]
def κ : String → Option EReal := fun
  | "mask" => some ⊥
  | _ => none
-- ==== Reference10Ideal.lean ====
abbrev S128x1024 : Shape := ⟨2, ![128, 1024]⟩
abbrev S128x512 : Shape := ⟨2, ![128, 512]⟩
abbrev S1024 : Shape := ⟨1, ![1024]⟩
abbrev S1024x5384 : Shape := ⟨2, ![1024, 5384]⟩
abbrev S512x1024 : Shape := ⟨2, ![512, 1024]⟩
abbrev S1024x1024 : Shape := ⟨2, ![1024, 1024]⟩
abbrev S1024x4 : Shape := ⟨2, ![1024, 4]⟩
abbrev S1024x32 : Shape := ⟨2, ![1024, 32]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S1024x2048 : Shape := ⟨2, ![1024, 2048]⟩
abbrev S128x2048 : Shape := ⟨2, ![128, 2048]⟩
abbrev S128x4 : Shape := ⟨2, ![128, 4]⟩
abbrev S4 : Shape := ⟨1, ![4]⟩
abbrev S1x4 : Shape := ⟨2, ![1, 4]⟩
abbrev S128x32 : Shape := ⟨2, ![128, 32]⟩
abbrev S128x4x8 : Shape := ⟨3, ![128, 4, 8]⟩
abbrev S128x4x1 : Shape := ⟨3, ![128, 4, 1]⟩
abbrev S128x8 : Shape := ⟨2, ![128, 8]⟩
abbrev S128x2 : Shape := ⟨2, ![128, 2]⟩
abbrev S128x2x1 : Shape := ⟨3, ![128, 2, 1]⟩
abbrev S1x1x128 : Shape := ⟨3, ![1, 1, 128]⟩
abbrev S128x2x128 : Shape := ⟨3, ![128, 2, 128]⟩
abbrev S128x128 : Shape := ⟨2, ![128, 128]⟩

abbrev nBuf : Space → Nat
  | .hbm => 137
  | .vmem => 0
  | .smem => 0
  | _ => 0

abbrev hbmTy0_0 (i : Nat) : BufTy := match i % 128 with
  | 0 => ⟨S128x1024, .f32⟩
  | 1 => ⟨S128x512, .bf16⟩
  | 2 => ⟨S128x512, .bf16⟩
  | 3 => ⟨S1024, .f32⟩
  | 4 => ⟨S1024x5384, .f32⟩
  | 5 => ⟨S512x1024, .f32⟩
  | 6 => ⟨S512x1024, .f32⟩
  | 7 => ⟨S1024x1024, .f32⟩
  | 8 => ⟨S1024, .f32⟩
  | 9 => ⟨S1024x4, .f32⟩
  | 10 => ⟨S1024x32, .f32⟩
  | 11 => ⟨S128x1024, .f32⟩
  | 12 => ⟨S_, .f32⟩
  | 13 => ⟨S128, .f32⟩
  | 14 => ⟨S128x1, .f32⟩
  | 15 => ⟨S_, .f32⟩
  | 16 => ⟨S128x1, .f32⟩
  | 17 => ⟨S128x1, .f32⟩
  | 18 => ⟨S_, .f32⟩
  | 19 => ⟨S128x1, .f32⟩
  | 20 => ⟨S128x1, .f32⟩
  | 21 => ⟨S128x1, .f32⟩
  | 22 => ⟨S128x1024, .f32⟩
  | 23 => ⟨S128x1024, .f32⟩
  | 24 => ⟨S1x1024, .f32⟩
  | 25 => ⟨S128x1024, .f32⟩
  | 26 => ⟨S128x1024, .f32⟩
  | 27 => ⟨S1024x2048, .f32⟩
  | 28 => ⟨S128x2048, .f32⟩
  | 29 => ⟨S128x2048, .f32⟩
  | 30 => ⟨S128x2048, .f32⟩
  | 31 => ⟨S_, .f32⟩
  | 32 => ⟨S128x2048, .f32⟩
  | 33 => ⟨S128x2048, .f32⟩
  | 34 => ⟨S_, .f32⟩
  | 35 => ⟨S128x2048, .f32⟩
  | 36 => ⟨S128x2048, .f32⟩
  | 37 => ⟨S128x1024, .f32⟩
  | 38 => ⟨S128x1024, .f32⟩
  | 39 => ⟨S128x512, .f32⟩
  | 40 => ⟨S128x512, .f32⟩
  | 41 => ⟨S128x1024, .f32⟩
  | 42 => ⟨S128x1024, .f32⟩
  | 43 => ⟨S128x1024, .f32⟩
  | 44 => ⟨S128x1024, .f32⟩
  | 45 => ⟨S128x1024, .f32⟩
  | 46 => ⟨S128x1024, .f32⟩
  | 47 => ⟨S128x1024, .f32⟩
  | 48 => ⟨S128x1024, .f32⟩
  | 49 => ⟨S_, .f32⟩
  | 50 => ⟨S128, .f32⟩
  | 51 => ⟨S128x1, .f32⟩
  | 52 => ⟨S_, .f32⟩
  | 53 => ⟨S128x1, .f32⟩
  | 54 => ⟨S128x1, .f32⟩
  | 55 => ⟨S_, .f32⟩
  | 56 => ⟨S128x1, .f32⟩
  | 57 => ⟨S128x1, .f32⟩
  | 58 => ⟨S128x1, .f32⟩
  | 59 => ⟨S128x1024, .f32⟩
  | 60 => ⟨S128x1024, .f32⟩
  | 61 => ⟨S1x1024, .f32⟩
  | 62 => ⟨S128x1024, .f32⟩
  | 63 => ⟨S128x1024, .f32⟩
  | 64 => ⟨S128x4, .f32⟩
  | 65 => ⟨S128x1, .f32⟩
  | 66 => ⟨S128x1, .i32⟩
  | 67 => ⟨S4, .i32⟩
  | 68 => ⟨S1x4, .i32⟩
  | 69 => ⟨S128x4, .i32⟩
  | 70 => ⟨S128x4, .i32⟩
  | 71 => ⟨S128x4, .i1⟩
  | 72 => ⟨S_, .f32⟩
  | 73 => ⟨S128, .f32⟩
  | 74 => ⟨S_, .f32⟩
  | 75 => ⟨S128, .f32⟩
  | 76 => ⟨S128, .f32⟩
  | 77 => ⟨S128x1, .f32⟩
  | 78 => ⟨S128x4, .f32⟩
  | 79 => ⟨S128x4, .f32⟩
  | 80 => ⟨S128x4, .f32⟩
  | 81 => ⟨S_, .f32⟩
  | 82 => ⟨S128, .f32⟩
  | 83 => ⟨S128x1, .f32⟩
  | 84 => ⟨S128x4, .f32⟩
  | 85 => ⟨S128x4, .f32⟩
  | 86 => ⟨S_, .f32⟩
  | 87 => ⟨S_, .f32⟩
  | 88 => ⟨S128x4, .f32⟩
  | 89 => ⟨S128x4, .f32⟩
  | 90 => ⟨S_, .f32⟩
  | 91 => ⟨S128, .f32⟩
  | 92 => ⟨S128x1, .f32⟩
  | 93 => ⟨S128x32, .f32⟩
  | 94 => ⟨S128x4x8, .f32⟩
  | 95 => ⟨S128x4x1, .i1⟩
  | 96 => ⟨S_, .f32⟩
  | 97 => ⟨S_, .f32⟩
  | 98 => ⟨S128x4x8, .i1⟩
  | 99 => ⟨S128x4x8, .f32⟩
  | 100 => ⟨S128x4x8, .f32⟩
  | 101 => ⟨S_, .f32⟩
  | 102 => ⟨S128x8, .f32⟩
  | 103 => ⟨S128x2, .f32⟩
  | 104 => ⟨S128x2, .i32⟩
  | 105 => ⟨S_, .f32⟩
  | 106 => ⟨S128, .f32⟩
  | 107 => ⟨S_, .f32⟩
  | 108 => ⟨S128, .f32⟩
  | 109 => ⟨S128, .f32⟩
  | 110 => ⟨S128x1, .f32⟩
  | 111 => ⟨S128x2, .f32⟩
  | 112 => ⟨S128x2, .f32⟩
  | 113 => ⟨S128x2, .f32⟩
  | 114 => ⟨S_, .f32⟩
  | 115 => ⟨S128, .f32⟩
  | 116 => ⟨S128x1, .f32⟩
  | 117 => ⟨S128x2, .f32⟩
  | 118 => ⟨S128x2, .f32⟩
  | 119 => ⟨S128x2, .f32⟩
  | 120 => ⟨S128x2, .f32⟩
  | 121 => ⟨S_, .i32⟩
  | 122 => ⟨S128x1, .i32⟩
  | 123 => ⟨S128x1, .i32⟩
  | 124 => ⟨S128x2, .i32⟩
  | 125 => ⟨S128x2, .i32⟩
  | 126 => ⟨S128x2x1, .i32⟩
  | 127 => ⟨S1x1x128, .i32⟩
  | _ => ⟨S128x1024, .f32⟩

abbrev hbmTy0_1 (i : Nat) : BufTy := match i % 128 with
  | 0 => ⟨S128x2x128, .i32⟩
  | 1 => ⟨S128x2x128, .i32⟩
  | 2 => ⟨S128x2x128, .i1⟩
  | 3 => ⟨S128x2x128, .f32⟩
  | 4 => ⟨S128x2x1, .f32⟩
  | 5 => ⟨S128x2x128, .f32⟩
  | 6 => ⟨S128x2x128, .f32⟩
  | 7 => ⟨S_, .f32⟩
  | 8 => ⟨S128x128, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_values : Ref sig .tc := ⟨.hbm, 65, rfl⟩
abbrev main_indices : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_call0_v0 : Ref sig .tc := ⟨.hbm, 87, rfl⟩
abbrev main_call0_v1 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_values_14 : Ref sig .tc := ⟨.hbm, 103, rfl⟩
abbrev main_indices_15 : Ref sig .tc := ⟨.hbm, 104, rfl⟩
abbrev main_cst_16 : Ref sig .tc := ⟨.hbm, 105, rfl⟩
abbrev main_v70 : Ref sig .tc := ⟨.hbm, 106, rfl⟩
abbrev main_cst_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩

abbrev nD : Nat := 1
abbrev τ : Topo := Topo.v7x

variable {F : FTy → Type} [FloatOps F]
-- ==== Proof.Att.Base.lean ====
/- The branch conditions of the attention body over the grid, and the memrefs a point hands it. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 2048 := Nat.lt_of_lt_of_eq t.isLt N_0
    have e0 : (grid0.coords t 0).val = t.val / 512 % 4 := Pipeline.Grid.coords_val t 0 (by decide) rfl
    have e1 : (grid0.coords t 1).val = t.val / 256 % 2 := Pipeline.Grid.coords_val t 1 (by decide) rfl
    have e2 : (grid0.coords t 2).val = t.val / 16 % 16 := Pipeline.Grid.coords_val t 2 (by decide) rfl
    have e3 : (grid0.coords t 3).val = t.val / 1 % 16 := Pipeline.Grid.coords_val t 3 (by decide) rfl
    simp only [cond0_0, e0, e1, e2, e3]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sle (BitVec.ofNat 32 (i 3).val) (BitVec.ofNat 32 (i 2).val))) 0#32) = 1#1
/-- It holds at the points whose coordinates have i3 ≤ i2 — decided over the grid. -/
theorem hcond0_1 : ∀ t : Fin cfg0.N, cond0_1 (grid0.coords t) ↔ t.val % 16 ≤ t.val / 16 % 16 :=
  (by decide +kernel : ∀ t : Fin grid0.N, cond0_1 (grid0.coords t) ↔ t.val % 16 ≤ t.val / 16 % 16)

/-- The condition of the body's `scf.if` 2 (`k0_h3`), from the grid coordinates (the skeleton's scalar
    chain substituted). -/
abbrev cond0_2 (i : grid0.Coords) : Prop := k0_cond3 i = 1#1
/-- It holds at the points whose coordinates have i2 = i3 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4x512x256 .bf16 := Memref.whole cc0_scratch0
abbrev scM0_1 : Memref sig .tc .vmem S4x512x1 .f32 := Memref.whole cc0_scratch1
abbrev scM0_2 : Memref sig .tc .vmem S4x512x1 .f32 := Memref.whole cc0_scratch2
abbrev scM0_3 : Memref sig .tc .vmem S4x512x256 .f32 := Memref.whole cc0_scratch3
/-- The scratch `arg10` the kernel carries between points, as a view: what it holds is stated through it. -/
abbrev VS0_0 : View sig .tc .vmem S4x512x256 .bf16 := scM0_0.view
/-- The scratch `arg11` the kernel carries between points, as a view: what it holds is stated through it. -/
abbrev VS0_1 : View sig .tc .vmem S4x512x1 .f32 := scM0_1.view
/-- The scratch `arg12` the kernel carries between points, as a view: what it holds is stated through it. -/
abbrev VS0_2 : View sig .tc .vmem S4x512x1 .f32 := scM0_2.view
/-- The scratch `arg13` the kernel carries between points, as a view: what it holds is stated through it. -/
abbrev VS0_3 : View sig .tc .vmem S4x512x256 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Att

end
-- ==== Proof.Att.Step.lean ====
/- One grid point of the attention body as functions of the state it carries: a head's masked scores, its new
   running maximum, the running sum and the running weighted values, and what the last block writes out. -/
module

public import proofs.«01_k».proof.Proof.Att.Base
public import Idealize.ShloMosaic.Lib.WritesUnit
public import Idealize.ShloMosaic.Lib.WholeRead
public import Idealize.ShloMosaic.Lib.Pipeline.ReadBack

@[expose] public section

set_option maxRecDepth 16384

noncomputable section

namespace Cert.KernelIdeal.Att

open Idealize.ShloMosaic Idealize.ShloMosaic.TcCoe
open Cert.KernelIdeal.Gen

variable {F : FTy → Type} [FloatOps F] [Named F]

/-- The index of a one-head block at a row and a column. -/
def at0 {w : ℕ} (r : Fin 512) (c : Fin w) : Shape.Idx ⟨3, ![1, 512, w]⟩ :=
  fun a => match a with | ⟨0, _⟩ => (0 : Fin 1) | ⟨1, _⟩ => r | ⟨2, _⟩ => c

/-- One head's slab of a four-head buffer. -/
def slab {n w : ℕ} {e : EltTy} (X : Vec F ⟨3, ![n, 512, w]⟩ e) (h : Fin n) : Vec F ⟨3, ![1, 512, w]⟩ e :=
  fun y => X (fun a => match a with | ⟨0, _⟩ => h | ⟨1, _⟩ => y 1 | ⟨2, _⟩ => y 2)

/-- Head `h`'s column of the query-side biases, -/
def colOf (x : FVec F S512x4 .f32) (h : Fin 4) : FVec F S512x1 .f32 :=
  fun y => x (fun a => match a with | ⟨0, _⟩ => y 0 | ⟨1, _⟩ => h)

/-- and its row of the key-side ones. -/
def rowOf (x : FVec F S4x512 .f32) (h : Fin 4) : FVec F S1x512 .f32 :=
  fun y => x (fun a => match a with | ⟨0, _⟩ => h | ⟨1, _⟩ => y 1)

/-- A head's scores of one block: query times key plus the bias difference, the masked entries at the mask's value. -/
def scores (msk : IVec S512x512 1) (k : FVec F S512x256 .bf16) (q : Vec F S1x512x256 .bf16) (cq : FVec F S512x1 .f32)
    (ck : FVec F S1x512 .f32) : FVec F S512x512 .f32 :=
  select msk
    (addf (matmul dot_S512x256_S512x256_S512x512_1_1_0_0_n_n none (shapeCast S512x256 q shapeCasts_S1x512x256_S512x256) k
        (constant S512x512 .f32 0x00000000#32))
      (subf (broadcastTo S512x512 cq broadcasts_S512x1_S512x512) (broadcastTo S512x512 ck broadcasts_S1x512_S512x512)))
    (broadcast S512x512 (Named.named κ "mask" 0xF149F2CA#32))

/-- The running maximum after a block. -/
def newMax (s : FVec F S512x512 .f32) (mo : Vec F S1x512x1 .f32) : FVec F S512x1 .f32 :=
  maximumf (shapeCast S512x1 mo shapeCasts_S1x512x1_S512x1)
    (shapeCast S512x1 (multiReduction .maximumf [1] S512 s 0xFF800000#32 reduces_S512x512_S512 (.inl rfl) rfl) shapeCasts_S512_S512x1)

/-- What the sums so far are scaled by, -/
def factor (s : FVec F S512x512 .f32) (mo : Vec F S1x512x1 .f32) : FVec F S512x1 .f32 :=
  exp (subf (shapeCast S512x1 mo shapeCasts_S1x512x1_S512x1) (newMax s mo))

/-- and the block's weights. -/
def weights (s : FVec F S512x512 .f32) (mo : Vec F S1x512x1 .f32) : FVec F S512x512 .f32 :=
  exp (subf s (broadcastTo S512x512 (newMax s mo) broadcasts_S512x1_S512x512))

/-- The head's new maximum as stored, -/
def headM (s : FVec F S512x512 .f32) (mo : Vec F S1x512x1 .f32) : Vec F S1x512x1 .f32 :=
  shapeCast S1x512x1 (newMax s mo) shapeCasts_S512x1_S1x512x1

/-- its new sum, -/
def headL (s : FVec F S512x512 .f32) (mo lo : Vec F S1x512x1 .f32) : Vec F S1x512x1 .f32 :=
  shapeCast S1x512x1
    (addf (mulf (factor s mo) (shapeCast S512x1 lo shapeCasts_S1x512x1_S512x1))
      (shapeCast S512x1 (multiReduction .add [1] S512 (weights s mo) 0x00000000#32 reduces_S512x512_S512 (.inl rfl) rfl)
        shapeCasts_S512_S512x1)) shapeCasts_S512x1_S1x512x1

/-- its new weighted values. -/
def headA (v : FVec F S512x256 .bf16) (s : FVec F S512x512 .f32) (mo : Vec F S1x512x1 .f32) (ao : Vec F S1x512x256 .f32) :
    Vec F S1x512x256 .f32 :=
  shapeCast S1x512x256
    (addf (mulf (broadcastTo S512x256 (factor s mo) broadcasts_S512x1_S512x256) (shapeCast S512x256 ao shapeCasts_S1x512x256_S512x256))
      (matmul dot_S512x512_S512x256_S512x256_1_0_0_1_n_n none (truncf .bf16 (weights s mo) bitsLt_bf16_f32) v
        (constant S512x256 .f32 0x00000000#32))) shapeCasts_S512x256_S1x512x256

/-- Which lanes belong to a head. -/
def lanes (lo hi : BitVec 32) : IVec S512x256 1 :=
  andi (cmpi .sge (iota .tc S512x256 32 [1] iota_S512x256_d1_w32) (broadcast S512x256 lo))
    (cmpi .slt (iota .tc S512x256 32 [1] iota_S512x256_d1_w32) (broadcast S512x256 hi))

/-- Head `h`'s lanes. -/
def headLanes (h : Fin 4) : IVec S512x256 1 := lanes (BitVec.ofNat 32 (64 * h.val)) (BitVec.ofNat 32 (64 * h.val + 64))

/-- A head's queries: the other heads' lanes at zero. -/
def headQ (x0 : Vec F S1x512x256 .bf16) (h : Fin 4) : Vec F S1x512x256 .bf16 :=
  shapeCast S1x512x256
    (truncf .bf16 (select (headLanes h) (extf .f32 (shapeCast S512x256 x0 shapeCasts_S1x512x256_S512x256) bitsLt_bf16_f32)
      (broadcast S512x256 (Scalar.ofBits .f32 0x00000000#32))) bitsLt_bf16_f32) shapeCasts_S512x256_S1x512x256

/-- A head's share of the output: its weighted values over its sum in its own lanes. -/
def headOut (h : Fin 4) (a : Vec F S1x512x256 .f32) (l : Vec F S1x512x1 .f32) : FVec F S512x256 .f32 :=
  select (headLanes h)
    (divf (shapeCast S512x256 a shapeCasts_S1x512x256_S512x256)
      (broadcastTo S512x256 (shapeCast S512x1 l shapeCasts_S1x512x1_S512x1) broadcasts_S512x1_S512x256))
    (broadcast S512x256 (Scalar.ofBits .f32 0x00000000#32))

/-- What the body carries from point to point: the masked queries, the maxima, the sums and the weighted values. -/
structure St (F : FTy → Type) [FloatOps F] where
  q : Vec F S4x512x256 .bf16
  m : Vec F S4x512x1 .f32
  l : Vec F S4x512x1 .f32
  a : Vec F S4x512x256 .f32

/-- The state a row of blocks starts from. -/
def St.init (x0 : Vec F S1x512x256 .bf16) : St F where
  q := fun y => headQ x0 (y 0) (at0 (y 1) (y 2))
  m := k0_pay2
  l := k0_pay3
  a := k0_pay4

/-- The scores of head `h` at a point, from the state's queries. -/
def St.sc (s : St F) (i : grid0.Coords) (x1 : Vec F S1x512x256 .bf16) (x3 : Vec F S1x1x512x4 .f32) (x4 : Vec F S1x1x4x512 .f32)
    (h : Fin 4) : FVec F S512x512 .f32 :=
  scores (k0_pay16 (BitVec.ofNat 32 (i 2).val) (BitVec.ofNat 32 (i 3).val)) (k0_pay12 x1) (slab s.q h) (colOf (k0_pay14 x3) h) (rowOf (k0_pay15 x4) h)

/-- The state after a block on or below the diagonal. -/
def St.step (s : St F) (i : grid0.Coords) (x1 x2 : Vec F S1x512x256 .bf16) (x3 : Vec F S1x1x512x4 .f32) (x4 : Vec F S1x1x4x512 .f32) : St F where
  q := s.q
  m := fun y => headM (s.sc i x1 x3 x4 (y 0)) (slab s.m (y 0)) (at0 (y 1) (y 2))
  l := fun y => headL (s.sc i x1 x3 x4 (y 0)) (slab s.m (y 0)) (slab s.l (y 0)) (at0 (y 1) (y 2))
  a := fun y => headA (k0_pay13 x2) (s.sc i x1 x3 x4 (y 0)) (slab s.m (y 0)) (slab s.a (y 0)) (at0 (y 1) (y 2))

/-- What the diagonal block writes out. -/
def St.out (s : St F) : Vec F S1x512x256 .bf16 :=
  shapeCast S1x512x256
    (truncf .bf16
      (addf (addf (addf (addf (broadcast S512x256 (Scalar.ofBits .f32 0x00000000#32)) (headOut 0 (slab s.a 0) (slab s.l 0)))
        (headOut 1 (slab s.a 1) (slab s.l 1))) (headOut 2 (slab s.a 2) (slab s.l 2))) (headOut 3 (slab s.a 3) (slab s.l 3)))
      bitsLt_bf16_f32) shapeCasts_S512x256_S1x512x256

/-! ## Reading the heads' stores back -/

variable {sig' : RefSig} {κ' : Kind} {sp : Space} {e : EltTy} {w : ℕ}

/-- Four stores, a head each, newest first, over any earlier ones: an entry is read from its own head's store. -/
theorem read_heads (v : View sig' κ' sp ⟨3, ![4, 512, w]⟩ e) (f : v.ty.Contents (Elt F))
    (p : Fin 4 → Vec F ⟨3, ![1, 512, w]⟩ e) (i3 i2 i1 i0) (L : List (View.Piece (Elt F) ⟨3, ![4, 512, w]⟩ e)) :
    v.read (Elt F) (v.writes (Elt F) f (⟨Rect.unit ![3, 0, 0] ![1, 512, w] i3, p 3⟩ :: ⟨Rect.unit ![2, 0, 0] ![1, 512, w] i2, p 2⟩
        :: ⟨Rect.unit ![1, 0, 0] ![1, 512, w] i1, p 1⟩ :: ⟨Rect.unit ![0, 0, 0] ![1, 512, w] i0, p 0⟩ :: L))
      = fun y => p (y 0) (at0 (y 1) (y 2)) := by
  funext y
  have key : ∀ (h : Fin 4) (y : Shape.Idx ⟨3, ![4, 512, w]⟩) (i) (L), y 0 = h →
      v.read (Elt F) (v.writes (Elt F) f (⟨Rect.unit ![h.val, 0, 0] ![1, 512, w] i, p h⟩ :: L)) y
        = p (y 0) (at0 (y 1) (y 2)) := by
    intro h y i L hy
    subst hy
    exact View.read_writes_cons_unit_of_mem v f i _ L y (at0 (y 1) (y 2)) rfl
      (fun a => by fin_cases a <;> simp [at0])
  have skip : ∀ (h : ℕ) (P : Vec F ⟨3, ![1, 512, w]⟩ e) (y : Shape.Idx ⟨3, ![4, 512, w]⟩) (i) (L), (y 0).val ≠ h →
      v.read (Elt F) (v.writes (Elt F) f (⟨Rect.unit ![h, 0, 0] ![1, 512, w] i, P⟩ :: L)) y = v.read (Elt F) (v.writes (Elt F) f L) y := by
    intro h P y i L hy
    refine View.read_writes_cons_unit_of_not_mem v f i _ L y rfl 0 ?_
    simp only [Matrix.cons_val_zero]
    omega
  have h4 : (y 0).val < 4 := (y 0).isLt
  rcases (by omega : (y 0).val = 3 ∨ (y 0).val = 2 ∨ (y 0).val = 1 ∨ (y 0).val = 0) with h | h | h | h
  · exact key 3 y _ _ (Fin.ext h)
  · rw [skip 3 _ y _ _ (by omega)]; exact key 2 y _ _ (Fin.ext h)
  · rw [skip 3 _ y _ _ (by omega), skip 2 _ y _ _ (by omega)]; exact key 1 y _ _ (Fin.ext h)
  · rw [skip 3 _ y _ _ (by omega), skip 2 _ y _ _ (by omega), skip 1 _ y _ _ (by omega)]; exact key 0 y _ _ (Fin.ext h)

/-- A head's load of a buffer is its slab. -/
theorem ld_head (X : Vec F ⟨3, ![4, 512, w]⟩ e) (h : Fin 4) (i) :
    View.ld X (Rect.unit ![h.val, 0, 0] ![1, 512, w] i) = slab X h := by
  funext y
  refine View.ld_unit_apply_of X _ _ _ _ _ fun a => ?_
  have h0 : (y 0).val = 0 := Nat.lt_one_iff.mp (y 0).isLt
  fin_cases a <;> simp [h0]

/-- The same of a buffer held at known contents. -/
theorem readAt_head {m : Memref sig' κ' sp ⟨3, ![4, 512, w]⟩ e} (hm : m.IsWhole) (X : Vec F ⟨3, ![4, 512, w]⟩ e) (h : Fin 4) (i) :
    View.readAt (Elt F) m.view (Rect.unit ![h.val, 0, 0] ![1, 512, w] i).toLoadRect (hm.unread X) = slab X h := by
  rw [← ld_head X h i]
  funext y
  exact hm.readAt_unread X _ y

/-- A load of the whole buffer held at known contents. -/
theorem readAt_all {s : Shape} {m : Memref sig' κ' sp s e} (hm : m.IsWhole) (X : Vec F s e) (off : Fin s.rank → ℕ) (h0 : ∀ a, off a = 0) (i) :
    View.readAt (Elt F) m.view (Rect.unit off s.size i).toLoadRect (hm.unread X) = X := by
  funext y
  rw [hm.readAt_unread X _ y]
  exact congrArg X (funext fun a => Fin.ext (by show off a + 1 * (y a).val = _; rw [h0]; omega))

theorem slice_col (x : FVec F S512x4 .f32) (h : Fin 4) (hs) : extractStridedSlice S512x1 ![0, h.val] x hs = colOf x h := by
  funext y
  refine congrArg x (funext fun a => Fin.ext ?_)
  have h1 : (y 1).val = 0 := Nat.lt_one_iff.mp (y 1).isLt
  fin_cases a <;> simp [h1]

theorem slice_row (x : FVec F S4x512 .f32) (h : Fin 4) (hs) : extractStridedSlice S1x512 ![h.val, 0] x hs = rowOf x h := by
  funext y
  refine congrArg x (funext fun a => Fin.ext ?_)
  have h1 : (y 0).val = 0 := Nat.lt_one_iff.mp (y 0).isLt
  fin_cases a <;> simp [h1]

end Cert.KernelIdeal.Att

end
-- ==== Proof.Att.Heads.lean ====
/- The four heads' stored terms of the attention body, as the head functions of the step. -/
module

public import proofs.«01_k».proof.Proof.Att.Step

@[expose] public section

set_option maxRecDepth 16384

noncomputable section

namespace Cert.KernelIdeal.Att

open Idealize.ShloMosaic Idealize.ShloMosaic.TcCoe
open Cert.KernelIdeal.Gen

variable {F : FTy → Type} [FloatOps F] [Named F]

variable (a2 a3 : BitVec 32) (x1 : Vec F S1x512x256 .bf16) (x3 : Vec F S1x1x512x4 .f32) (x4 : Vec F S1x1x4x512 .f32)
  (k v : FVec F S512x256 .bf16) (cq : FVec F S512x4 .f32) (ck : FVec F S4x512 .f32) (msk : IVec S512x512 1)
  (q : Vec F S1x512x256 .bf16) (mo lo : Vec F S1x512x1 .f32) (ao : Vec F S1x512x256 .f32)

/-! ## The scores -/

theorem scores_0 : k0_pay17 a2 a3 x1 x3 x4 q = scores (k0_pay16 a2 a3) (k0_pay12 x1) q (colOf (k0_pay14 x3) 0) (rowOf (k0_pay15 x4) 0) := by
  rw [← slice_col (k0_pay14 x3) 0 slices_S512x4_o0_0_S512x1, ← slice_row (k0_pay15 x4) 0 slices_S4x512_o0_0_S1x512]
  rfl

theorem scores_1 : k0_pay27 msk (k0_pay25 k cq ck q) k0_pay26 = scores msk k q (colOf cq 1) (rowOf ck 1) := by
  rw [← slice_col cq 1 slices_S512x4_o0_1_S512x1, ← slice_row ck 1 slices_S4x512_o1_0_S1x512]
  rfl

theorem scores_2 : k0_pay35 k cq ck msk q = scores msk k q (colOf cq 2) (rowOf ck 2) := by
  rw [← slice_col cq 2 slices_S512x4_o0_2_S512x1, ← slice_row ck 2 slices_S4x512_o2_0_S1x512]
  rfl

theorem scores_3 : k0_pay44 k cq ck msk q = scores msk k q (colOf cq 3) (rowOf ck 3) := by
  rw [← slice_col cq 3 slices_S512x4_o0_3_S512x1, ← slice_row ck 3 slices_S4x512_o3_0_S1x512]
  rfl

/-! ## The maxima -/

theorem headM_0 : k0_pay24 (k0_pay19 a2 a3 x1 x3 x4 q mo) = headM (k0_pay17 a2 a3 x1 x3 x4 q) mo := rfl
theorem headM_1 (S N : FVec F S512x512 .f32) : k0_pay34 msk S N mo = headM (k0_pay27 msk S N) mo := rfl
theorem headM_2 : k0_pay43 (k0_pay37 k cq ck msk q mo) = headM (k0_pay35 k cq ck msk q) mo := rfl
theorem headM_3 : k0_pay6 (k0_pay46 k cq ck msk q mo) = headM (k0_pay44 k cq ck msk q) mo := rfl

/-! ## The sums -/

theorem headL_0 : k0_pay22 (scores (k0_pay16 a2 a3) (k0_pay12 x1) q (colOf (k0_pay14 x3) 0) (rowOf (k0_pay15 x4) 0)) (k0_pay19 a2 a3 x1 x3 x4 q mo) (k0_pay20 a2 a3 x1 x3 x4 q mo) lo
    = headL (scores (k0_pay16 a2 a3) (k0_pay12 x1) q (colOf (k0_pay14 x3) 0) (rowOf (k0_pay15 x4) 0)) mo lo := by
  rw [← scores_0]; rfl
theorem headL_1 (S N : FVec F S512x512 .f32) : k0_pay32 msk S N mo lo = headL (k0_pay27 msk S N) mo lo := rfl
theorem headL_2 : k0_pay40 k cq ck msk q mo lo = headL (k0_pay35 k cq ck msk q) mo lo := rfl
theorem headL_3 : k0_pay49 k cq ck msk q mo lo = headL (k0_pay44 k cq ck msk q) mo lo := rfl

/-! ## The weighted values -/

theorem headA_0 : k0_pay23 v (scores (k0_pay16 a2 a3) (k0_pay12 x1) q (colOf (k0_pay14 x3) 0) (rowOf (k0_pay15 x4) 0)) (k0_pay19 a2 a3 x1 x3 x4 q mo) (k0_pay20 a2 a3 x1 x3 x4 q mo) ao
    = headA v (scores (k0_pay16 a2 a3) (k0_pay12 x1) q (colOf (k0_pay14 x3) 0) (rowOf (k0_pay15 x4) 0)) mo ao := by
  rw [← scores_0]; rfl
theorem headA_1 (S N : FVec F S512x512 .f32) : k0_pay33 v msk S N mo ao = headA v (k0_pay27 msk S N) mo ao := rfl
theorem headA_2 : k0_pay42 (k0_pay41 k v cq ck msk q mo ao) = headA v (k0_pay35 k cq ck msk q) mo ao := rfl
theorem headA_3 : k0_pay5 v (k0_pay47 k cq ck msk q mo) (k0_pay48 k cq ck msk q mo) ao = headA v (k0_pay44 k cq ck msk q) mo ao := rfl

/-! ## The queries and the output -/

/-- An index of a four-head buffer from its head, row and column. -/
theorem slab_at0 {w : ℕ} {e : EltTy} (X : Vec F ⟨3, ![4, 512, w]⟩ e) (y : Shape.Idx ⟨3, ![4, 512, w]⟩) :
    slab X (y 0) (at0 (y 1) (y 2)) = X y :=
  congrArg X (funext fun a => by fin_cases a <;> rfl)

/-- A buffer put together from the heads' slabs has them as its slabs. -/
theorem slab_of_heads {w : ℕ} {e : EltTy} (p : Fin 4 → Vec F ⟨3, ![1, 512, w]⟩ e) (h : Fin 4) :
    slab (fun y : Shape.Idx ⟨3, ![4, 512, w]⟩ => p (y 0) (at0 (y 1) (y 2))) h = p h := by
  funext y
  refine congrArg (p h) (funext fun a => ?_)
  have h0 : (y 0).val = 0 := Nat.lt_one_iff.mp (y 0).isLt
  fin_cases a
  · exact Fin.ext h0.symm
  · rfl
  · rfl

theorem slab_init (h : Fin 4) : slab (St.init x1 : St F).q h = headQ x1 h :=
  slab_of_heads (headQ x1) h

theorem headQ_0 : k0_pay9 (no_index (iota .tc S512x256 32 [1] iota_S512x256_d1_w32)) x1 = slab (St.init x1 : St F).q 0 := (slab_init x1 0).symm
theorem headQ_1 : k0_pay10 (no_index (iota .tc S512x256 32 [1] iota_S512x256_d1_w32)) x1 = slab (St.init x1 : St F).q 1 := (slab_init x1 1).symm
theorem headQ_2 : k0_pay11 (no_index (iota .tc S512x256 32 [1] iota_S512x256_d1_w32)) x1 = slab (St.init x1 : St F).q 2 := (slab_init x1 2).symm
theorem headQ_3 : k0_pay1 (k0_pay8 x1) = slab (St.init x1 : St F).q 3 := (slab_init x1 3).symm

theorem out_heads (a0 a1 a2 a3 : Vec F S1x512x256 .f32) (l0 l1 l2 l3 : Vec F S1x512x1 .f32) :
    k0_pay7 (k0_pay50 (no_index (iota .tc S512x256 32 [1] iota_S512x256_d1_w32)) a0 l0 a1 l1) (k0_pay51 (no_index (iota .tc S512x256 32 [1] iota_S512x256_d1_w32)))
        (k0_pay52 a2) l2 a3 l3
      = shapeCast S1x512x256
    (truncf .bf16
      (addf (addf (addf (addf (broadcast S512x256 (Scalar.ofBits .f32 0x00000000#32)) (headOut 0 a0 l0)) (headOut 1 a1 l1))
        (headOut 2 a2 l2)) (headOut 3 a3 l3)) bitsLt_bf16_f32) shapeCasts_S512x256_S1x512x256 := rfl

/-- A store of the whole buffer is read back. -/
theorem read_whole3 {sig' : RefSig} {κ' : Kind} {sp : Space} {e : EltTy} {n w : ℕ} (v : View sig' κ' sp ⟨3, ![n, 512, w]⟩ e)
    (f : v.ty.Contents (Elt F)) (P : Vec F ⟨3, ![n, 512, w]⟩ e) (i L) :
    v.read (Elt F) (v.writes (Elt F) f (⟨Rect.unit ![0, 0, 0] ![n, 512, w] i, P⟩ :: L)) = P := by
  funext y
  exact View.read_writes_cons_unit_of_mem v f i _ L y y rfl (fun a => by fin_cases a <;> simp)

/-- What is written out after a step, from the heads' new sums. -/
theorem out_step (s : St F) (i : grid0.Coords) (x1 x2 : Vec F S1x512x256 .bf16) (x3 : Vec F S1x1x512x4 .f32) (x4 : Vec F S1x1x4x512 .f32) :
    (s.step i x1 x2 x3 x4).out = shapeCast S1x512x256
    (truncf .bf16
      (addf (addf (addf (addf (broadcast S512x256 (Scalar.ofBits .f32 0x00000000#32))
          (headOut 0 (headA (k0_pay13 x2) (s.sc i x1 x3 x4 0) (slab s.m 0) (slab s.a 0)) (headL (s.sc i x1 x3 x4 0) (slab s.m 0) (slab s.l 0))))
          (headOut 1 (headA (k0_pay13 x2) (s.sc i x1 x3 x4 1) (slab s.m 1) (slab s.a 1)) (headL (s.sc i x1 x3 x4 1) (slab s.m 1) (slab s.l 1))))
          (headOut 2 (headA (k0_pay13 x2) (s.sc i x1 x3 x4 2) (slab s.m 2) (slab s.a 2)) (headL (s.sc i x1 x3 x4 2) (slab s.m 2) (slab s.l 2))))
          (headOut 3 (headA (k0_pay13 x2) (s.sc i x1 x3 x4 3) (slab s.m 3) (slab s.a 3)) (headL (s.sc i x1 x3 x4 3) (slab s.m 3) (slab s.l 3))))
      bitsLt_bf16_f32) shapeCasts_S512x256_S1x512x256 := by
  have ha : ∀ h, slab (s.step i x1 x2 x3 x4).a h = headA (k0_pay13 x2) (s.sc i x1 x3 x4 h) (slab s.m h) (slab s.a h) :=
    slab_of_heads fun h => headA (k0_pay13 x2) (s.sc i x1 x3 x4 h) (slab s.m h) (slab s.a h)
  have hl : ∀ h, slab (s.step i x1 x2 x3 x4).l h = headL (s.sc i x1 x3 x4 h) (slab s.m h) (slab s.l h) :=
    slab_of_heads fun h => headL (s.sc i x1 x3 x4 h) (slab s.m h) (slab s.l h)
  simp only [St.out, ha, hl]

/-! ## The loads, at the heads' literal offsets -/

variable {sig' : RefSig} {κ' : Kind} {sp : Space} {e : EltTy} {w : ℕ}

theorem lt_of_inb {j : ℕ} (i : ∀ a, (![j, 0, 0] : Fin 3 → ℕ) a + (![1, 512, w] : Fin 3 → ℕ) a ≤ (⟨3, ![4, 512, w]⟩ : Shape).size a) : j < 4 := by
  have := i 0; simp at this; omega

theorem ld_lit (X : Vec F ⟨3, ![4, 512, w]⟩ e) (j : ℕ) (i) :
    View.ld X (Rect.unit ![j, 0, 0] ![1, 512, w] i) = slab X ⟨j, lt_of_inb i⟩ := ld_head X ⟨j, lt_of_inb i⟩ i

theorem readAt_lit {m : Memref sig' κ' sp ⟨3, ![4, 512, w]⟩ e} (hm : m.IsWhole) (X : Vec F ⟨3, ![4, 512, w]⟩ e) (j : ℕ) (i) :
    View.readAt (Elt F) m.view (Rect.unit ![j, 0, 0] ![1, 512, w] i).toLoadRect (hm.unread X) = slab X ⟨j, lt_of_inb i⟩ :=
  readAt_head hm X ⟨j, lt_of_inb i⟩ i

theorem readAt_all3 {n : ℕ} {m : Memref sig' κ' sp ⟨3, ![n, 512, w]⟩ e} (hm : m.IsWhole) (X : Vec F ⟨3, ![n, 512, w]⟩ e) (i) :
    View.readAt (Elt F) m.view (Rect.unit ![0, 0, 0] ![n, 512, w] i).toLoadRect (hm.unread X) = X :=
  readAt_all hm X ![0, 0, 0] (fun a => by fin_cases a <;> rfl) i

theorem readAt_all4 {n n' : ℕ} {m : Memref sig' κ' sp ⟨4, ![1, 1, n, n']⟩ e} (hm : m.IsWhole) (X : Vec F ⟨4, ![1, 1, n, n']⟩ e) (i) :
    View.readAt (Elt F) m.view (Rect.unit ![0, 0, 0, 0] ![1, 1, n, n'] i).toLoadRect (hm.unread X) = X :=
  readAt_all hm X ![0, 0, 0, 0] (fun a => by fin_cases a <;> rfl) i

end Cert.KernelIdeal.Att

end
-- ==== Proof.Att.RunA.lean ====
/- One case of the attention body's run. -/
module

public import proofs.«01_k».proof.Proof.Att.Base

@[expose] public section

-- membership in a rectangle of production extents (`View.cover_of_tiled`): the elaborator's structural look
-- recurses once per coordinate of the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run on the first diagonal block (initialise, update, write out): the pieces each buffer it stores into ends with, together with
    the triple that says so. -/
noncomputable def kernelRun0_A (c : Dev nD) (i : grid0.Coords) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x1x512x4 .f32) (harg7 : arg7.IsWhole) (arg8 : Memref sig .tc .vmem S1x1x4x512 .f32) (harg8 : arg8.IsWhole) (arg9 : Memref sig .tc .vmem S1x512x256 .bf16) (harg9 : arg9.IsWhole) (arg10 : Memref sig .tc .vmem S4x512x256 .bf16) (harg10 : arg10.IsWhole) (arg11 : Memref sig .tc .vmem S4x512x1 .f32) (harg11 : arg11.IsWhole) (arg12 : Memref sig .tc .vmem S4x512x1 .f32) (harg12 : arg12.IsWhole) (arg13 : Memref sig .tc .vmem S4x512x256 .f32) (harg13 : arg13.IsWhole) (hc0 : cond0_0 i) (hc1 : cond0_1 i) (hc2 : cond0_2 i)
    (x0 : Vec F S1x512x256 .bf16) (x1 : Vec F S1x512x256 .bf16) (x2 : Vec F S1x512x256 .bf16) (x3 : Vec F S1x1x512x4 .f32) (x4 : Vec F S1x1x4x512 .f32) :
    Σ' (LO : List (View.Piece (Elt F) S1x512x256 .bf16)), Σ' (LS0 : List (View.Piece (Elt F) S4x512x256 .bf16)), Σ' (LS1 : List (View.Piece (Elt F) S4x512x1 .f32)), Σ' (LS2 : List (View.Piece (Elt F) S4x512x1 .f32)), { LS3 : List (View.Piece (Elt F) S4x512x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0_fox_prompt i arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_fox_prompt_eq_skeleton]; unfold cc0_fox_prompt_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; iexact H5
    isplitl [HS0]; · iexists _; iexact HS0
    isplitl [HS1]; · iexists _; iexact HS1
    isplitl [HS2]; · iexists _; iexact HS2
    iexists _; iexact HS3

end Cert.KernelIdeal.Att

end
-- ==== Proof.Att.RunB.lean ====
/- One case of the attention body's run. -/
module

public import proofs.«01_k».proof.Proof.Att.RunA

@[expose] public section

-- membership in a rectangle of production extents (`View.cover_of_tiled`): the elaborator's structural look
-- recurses once per coordinate of the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run above the diagonal (nothing happens): the pieces each buffer it stores into ends with, together with
    the triple that says so. -/
noncomputable def kernelRun0_B (c : Dev nD) (i : grid0.Coords) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x1x512x4 .f32) (harg7 : arg7.IsWhole) (arg8 : Memref sig .tc .vmem S1x1x4x512 .f32) (harg8 : arg8.IsWhole) (arg9 : Memref sig .tc .vmem S1x512x256 .bf16) (harg9 : arg9.IsWhole) (arg10 : Memref sig .tc .vmem S4x512x256 .bf16) (harg10 : arg10.IsWhole) (arg11 : Memref sig .tc .vmem S4x512x1 .f32) (harg11 : arg11.IsWhole) (arg12 : Memref sig .tc .vmem S4x512x1 .f32) (harg12 : arg12.IsWhole) (arg13 : Memref sig .tc .vmem S4x512x256 .f32) (harg13 : arg13.IsWhole) (xo : Vec F S1x512x256 .bf16) (hc0 : ¬cond0_0 i) (hc1 : ¬cond0_1 i) (hc2 : ¬cond0_2 i)
    (x0 : Vec F S1x512x256 .bf16) (x1 : Vec F S1x512x256 .bf16) (x2 : Vec F S1x512x256 .bf16) (x3 : Vec F S1x1x512x4 .f32) (x4 : Vec F S1x1x4x512 .f32) (xs0 : Vec F S4x512x256 .bf16) (xs1 : Vec F S4x512x1 .f32) (xs2 : Vec F S4x512x1 .f32) (xs3 : Vec F S4x512x256 .f32) :
    Σ' (LS0 : List (View.Piece (Elt F) S4x512x256 .bf16)), Σ' (LS1 : List (View.Piece (Elt F) S4x512x1 .f32)), Σ' (LS2 : List (View.Piece (Elt F) S4x512x1 .f32)), { LS3 : List (View.Piece (Elt F) S4x512x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ owns (c : Thread nD τ) arg10 fullShare xs0 ∗ owns (c : Thread nD τ) arg11 fullShare xs1 ∗ owns (c : Thread nD τ) arg12 fullShare xs2 ∗ owns (c : Thread nD τ) arg13 fullShare xs3) -∗ K ⟨⟩))
          ⊢ wp frame (wpE (defs₀ (F := F)) Variants.none c none) E (cc0_fox_prompt i arg4 harg4 arg5 harg5 arg6 harg6 arg7 harg7 arg8 harg8 arg9 harg9 arg10 harg10 arg11 harg11 arg12 harg12 arg13 harg13) K } := by
  refine ⟨[], [], [], [], fun E K => ?run⟩
  case run =>
    simp only [cc0_fox_prompt_eq_skeleton]; unfold cc0_fox_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2; obtain rfl := harg13.eq_unread hfs3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    iexists _; isplitr; · ipureintro; exact harg13.read_unread _
    iexact HS3

end Cert.KernelIdeal.Att

end
-- ==== Proof.Att.RunC.lean ====
/- One case of the attention body's run. -/
module

public import proofs.«01_k».proof.Proof.Att.RunB

@[expose] public section

-- membership in a rectangle of production extents (`View.cover_of_tiled`): the elaborator's structural look
-- recurses once per coordinate of the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run in the first column (initialise, update): the pieces each buffer it stores into ends with, together with
    the triple that says so. -/
noncomputable def kernelRun0_C (c : Dev nD) (i : grid0.Coords) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x1x512x4 .f32) (harg7 : arg7.IsWhole) (arg8 : Memref sig .tc .vmem S1x1x4x512 .f32) (harg8 : arg8.IsWhole) (arg9 : Memref sig .tc .vmem S1x512x256 .bf16) (harg9 : arg9.IsWhole) (arg10 : Memref sig .tc .vmem S4x512x256 .bf16) (harg10 : arg10.IsWhole) (arg11 : Memref sig .tc .vmem S4x512x1 .f32) (harg11 : arg11.IsWhole) (arg12 : Memref sig .tc .vmem S4x512x1 .f32) (harg12 : arg12.IsWhole) (arg13 : Memref sig .tc .vmem S4x512x256 .f32) (harg13 : arg13.IsWhole) (xo : Vec F S1x512x256 .bf16) (hc0 : cond0_0 i) (hc1 : cond0_1 i) (hc2 : ¬cond0_2 i)
    (x0 : Vec F S1x512x256 .bf16) (x1 : Vec F S1x512x256 .bf16) (x2 : Vec F S1x512x256 .bf16) (x3 : Vec F S1x1x512x4 .f32) (x4 : Vec F S1x1x4x512 .f32) :
    Σ' (LS0 : List (View.Piece (Elt F) S4x512x256 .bf16)), Σ' (LS1 : List (View.Piece (Elt F) S4x512x1 .f32)), Σ' (LS2 : List (View.Piece (Elt F) S4x512x1 .f32)), { LS3 : List (View.Piece (Elt F) S4x512x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0_fox_prompt i arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_fox_prompt_eq_skeleton]; unfold cc0_fox_prompt_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HS0]; · iexists _; iexact HS0
    isplitl [HS1]; · iexists _; iexact HS1
    isplitl [HS2]; · iexists _; iexact HS2
    iexists _; iexact HS3

end Cert.KernelIdeal.Att

end
-- ==== Proof.Att.RunD.lean ====
/- One case of the attention body's run. -/
module

public import proofs.«01_k».proof.Proof.Att.RunC

@[expose] public section

-- membership in a rectangle of production extents (`View.cover_of_tiled`): the elaborator's structural look
-- recurses once per coordinate of the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- The body's run on the diagonal (update, write out): the pieces each buffer it stores into ends with, together with
    the triple that says so. -/
noncomputable def kernelRun0_D (c : Dev nD) (i : grid0.Coords) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x1x512x4 .f32) (harg7 : arg7.IsWhole) (arg8 : Memref sig .tc .vmem S1x1x4x512 .f32) (harg8 : arg8.IsWhole) (arg9 : Memref sig .tc .vmem S1x512x256 .bf16) (harg9 : arg9.IsWhole) (arg10 : Memref sig .tc .vmem S4x512x256 .bf16) (harg10 : arg10.IsWhole) (arg11 : Memref sig .tc .vmem S4x512x1 .f32) (harg11 : arg11.IsWhole) (arg12 : Memref sig .tc .vmem S4x512x1 .f32) (harg12 : arg12.IsWhole) (arg13 : Memref sig .tc .vmem S4x512x256 .f32) (harg13 : arg13.IsWhole) (hc0 : ¬cond0_0 i) (hc1 : cond0_1 i) (hc2 : cond0_2 i)
    (x0 : Vec F S1x512x256 .bf16) (x1 : Vec F S1x512x256 .bf16) (x2 : Vec F S1x512x256 .bf16) (x3 : Vec F S1x1x512x4 .f32) (x4 : Vec F S1x1x4x512 .f32) (xs0 : Vec F S4x512x256 .bf16) (xs1 : Vec F S4x512x1 .f32) (xs2 : Vec F S4x512x1 .f32) (xs3 : Vec F S4x512x256 .f32) :
    Σ' (LO : List (View.Piece (Elt F) S1x512x256 .bf16)), Σ' (LS0 : List (View.Piece (Elt F) S4x512x256 .bf16)), Σ' (LS1 : List (View.Piece (Elt F) S4x512x1 .f32)), Σ' (LS2 : List (View.Piece (Elt F) S4x512x1 .f32)), { LS3 : List (View.Piece (Elt F) S4x512x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f LO) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0_fox_prompt i arg4 harg4 arg5 harg5 arg6 harg6 arg7 harg7 arg8 harg8 arg9 harg9 arg10 harg10 arg11 harg11 arg12 harg12 arg13 harg13) K } := by
  refine ⟨?_, [], ?_, ?_, ?_, fun E K => ?run⟩
  case run =>
    simp only [cc0_fox_prompt_eq_skeleton]; unfold cc0_fox_prompt_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1; obtain rfl := harg12.eq_unread hfs2; obtain rfl := harg13.eq_unread hfs3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; iexact H5
    isplitl [HS0]
    · iexists _; isplitr; · ipureintro; exact harg10.read_unread _
      iexact HS0
    isplitl [HS1]; · iexists _; iexact HS1
    isplitl [HS2]; · iexists _; iexact HS2
    iexists _; iexact HS3

end Cert.KernelIdeal.Att

end
-- ==== Proof.Att.RunE.lean ====
/- One case of the attention body's run. -/
module

public import proofs.«01_k».proof.Proof.Att.RunD

@[expose] public section

-- membership in a rectangle of production extents (`View.cover_of_tiled`): the elaborator's structural look
-- recurses once per coordinate of the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- The body's run strictly below the diagonal (update): the pieces each buffer it stores into ends with, together with
    the triple that says so. -/
noncomputable def kernelRun0_E (c : Dev nD) (i : grid0.Coords) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x1x512x4 .f32) (harg7 : arg7.IsWhole) (arg8 : Memref sig .tc .vmem S1x1x4x512 .f32) (harg8 : arg8.IsWhole) (arg9 : Memref sig .tc .vmem S1x512x256 .bf16) (harg9 : arg9.IsWhole) (arg10 : Memref sig .tc .vmem S4x512x256 .bf16) (harg10 : arg10.IsWhole) (arg11 : Memref sig .tc .vmem S4x512x1 .f32) (harg11 : arg11.IsWhole) (arg12 : Memref sig .tc .vmem S4x512x1 .f32) (harg12 : arg12.IsWhole) (arg13 : Memref sig .tc .vmem S4x512x256 .f32) (harg13 : arg13.IsWhole) (xo : Vec F S1x512x256 .bf16) (hc0 : ¬cond0_0 i) (hc1 : cond0_1 i) (hc2 : ¬cond0_2 i)
    (x0 : Vec F S1x512x256 .bf16) (x1 : Vec F S1x512x256 .bf16) (x2 : Vec F S1x512x256 .bf16) (x3 : Vec F S1x1x512x4 .f32) (x4 : Vec F S1x1x4x512 .f32) (xs0 : Vec F S4x512x256 .bf16) (xs1 : Vec F S4x512x1 .f32) (xs2 : Vec F S4x512x1 .f32) (xs3 : Vec F S4x512x256 .f32) :
    Σ' (LS0 : List (View.Piece (Elt F) S4x512x256 .bf16)), Σ' (LS1 : List (View.Piece (Elt F) S4x512x1 .f32)), Σ' (LS2 : List (View.Piece (Elt F) S4x512x1 .f32)), { LS3 : List (View.Piece (Elt F) S4x512x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0_fox_prompt i arg4 harg4 arg5 harg5 arg6 harg6 arg7 harg7 arg8 harg8 arg9 harg9 arg10 harg10 arg11 harg11 arg12 harg12 arg13 harg13) K } := by
  refine ⟨[], ?_, ?_, ?_, fun E K => ?run⟩
  case run =>
    simp only [cc0_fox_prompt_eq_skeleton]; unfold cc0_fox_prompt_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2; obtain rfl := harg13.eq_unread hfs3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [HS0]
    · iexists _; isplitr; · ipureintro; exact harg10.read_unread _
      iexact HS0
    isplitl [HS1]; · iexists _; iexact HS1
    isplitl [HS2]; · iexists _; iexact HS2
    iexists _; iexact HS3

end Cert.KernelIdeal.Att

end
-- ==== Proof.Att.Pieces.lean ====
/- The stores of the body's runs, read back as the state's step. -/
module

public import proofs.«01_k».proof.Proof.Att.Heads
public import proofs.«01_k».proof.Proof.Att.RunE

@[expose] public section

set_option maxRecDepth 16384

noncomputable section

namespace Cert.KernelIdeal.Att

open Idealize.ShloMosaic Idealize.ShloMosaic.TcCoe Idealize.ShloMosaic.Tactic
open Cert.KernelIdeal.Gen

variable {F : FTy → Type} [FloatOps F] [Named F]

variable (c : Dev nD) (i : grid0.Coords) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x1x512x4 .f32) (harg7 : arg7.IsWhole) (arg8 : Memref sig .tc .vmem S1x1x4x512 .f32) (harg8 : arg8.IsWhole) (arg9 : Memref sig .tc .vmem S1x512x256 .bf16) (harg9 : arg9.IsWhole) (arg10 : Memref sig .tc .vmem S4x512x256 .bf16) (harg10 : arg10.IsWhole) (arg11 : Memref sig .tc .vmem S4x512x1 .f32) (harg11 : arg11.IsWhole) (arg12 : Memref sig .tc .vmem S4x512x1 .f32) (harg12 : arg12.IsWhole) (arg13 : Memref sig .tc .vmem S4x512x256 .f32) (harg13 : arg13.IsWhole)
  (x0 x1 x2 : Vec F S1x512x256 .bf16) (x3 : Vec F S1x1x512x4 .f32) (x4 : Vec F S1x1x4x512 .f32) (xo : Vec F S1x512x256 .bf16) (s : St F)

theorem stored_E (hc0 : ¬cond0_0 i) (hc1 : cond0_1 i) (hc2 : ¬cond0_2 i) :
    (∀ f : arg11.view.ty.Contents (Elt F), arg11.view.read (Elt F) (arg11.view.writes (Elt F) f (kernelRun0_E c i arg4 harg4 arg5 harg5 arg6 harg6 arg7 harg7 arg8 harg8 arg9 harg9 arg10 harg10 arg11 harg11 arg12 harg12 arg13 harg13 xo hc0 hc1 hc2 x0 x1 x2 x3 x4 s.q s.m s.l s.a).2.1) = (s.step i x1 x2 x3 x4).m)
      ∧ (∀ f : arg12.view.ty.Contents (Elt F), arg12.view.read (Elt F) (arg12.view.writes (Elt F) f (kernelRun0_E c i arg4 harg4 arg5 harg5 arg6 harg6 arg7 harg7 arg8 harg8 arg9 harg9 arg10 harg10 arg11 harg11 arg12 harg12 arg13 harg13 xo hc0 hc1 hc2 x0 x1 x2 x3 x4 s.q s.m s.l s.a).2.2.1) = (s.step i x1 x2 x3 x4).l)
      ∧ (∀ f : arg13.view.ty.Contents (Elt F), arg13.view.read (Elt F) (arg13.view.writes (Elt F) f (kernelRun0_E c i arg4 harg4 arg5 harg5 arg6 harg6 arg7 harg7 arg8 harg8 arg9 harg9 arg10 harg10 arg11 harg11 arg12 harg12 arg13 harg13 xo hc0 hc1 hc2 x0 x1 x2 x3 x4 s.q s.m s.l s.a).2.2.2.1) = (s.step i x1 x2 x3 x4).a) := by
  refine ⟨fun f => ?_, fun f => ?_, fun f => ?_⟩ <;> (
    unfold kernelRun0_E; sl_unfold_words
    dsimp only
    simp (disch := decide) only [↓ View.readCov_skip, ↓ View.readCov_cons_toLoadRect, ↓ View.readCov_fill, readAt_all3, readAt_all4,
      readAt_lit, ld_lit, headM_0, headM_1, headM_2, headM_3, headL_0, headL_1, headL_2, headL_3, headA_0, headA_1, headA_2, headA_3,
      headQ_0, headQ_1, headQ_2, headQ_3, scores_0, scores_1, scores_2, scores_3, out_heads])
  · exact read_heads arg11.view f (fun h => headM (s.sc i x1 x3 x4 h) (slab s.m h)) _ _ _ _ _
  · exact read_heads arg12.view f (fun h => headL (s.sc i x1 x3 x4 h) (slab s.m h) (slab s.l h)) _ _ _ _ _
  · exact read_heads arg13.view f (fun h => headA (k0_pay13 x2) (s.sc i x1 x3 x4 h) (slab s.m h) (slab s.a h)) _ _ _ _ _

theorem stored_D (hc0 : ¬cond0_0 i) (hc1 : cond0_1 i) (hc2 : cond0_2 i) :
    (∀ f : arg11.view.ty.Contents (Elt F), arg11.view.read (Elt F) (arg11.view.writes (Elt F) f (kernelRun0_D c i arg4 harg4 arg5 harg5 arg6 harg6 arg7 harg7 arg8 harg8 arg9 harg9 arg10 harg10 arg11 harg11 arg12 harg12 arg13 harg13 hc0 hc1 hc2 x0 x1 x2 x3 x4 s.q s.m s.l s.a).2.2.1) = (s.step i x1 x2 x3 x4).m)
      ∧ (∀ f : arg12.view.ty.Contents (Elt F), arg12.view.read (Elt F) (arg12.view.writes (Elt F) f (kernelRun0_D c i arg4 harg4 arg5 harg5 arg6 harg6 arg7 harg7 arg8 harg8 arg9 harg9 arg10 harg10 arg11 harg11 arg12 harg12 arg13 harg13 hc0 hc1 hc2 x0 x1 x2 x3 x4 s.q s.m s.l s.a).2.2.2.1) = (s.step i x1 x2 x3 x4).l)
      ∧ (∀ f : arg13.view.ty.Contents (Elt F), arg13.view.read (Elt F) (arg13.view.writes (Elt F) f (kernelRun0_D c i arg4 harg4 arg5 harg5 arg6 harg6 arg7 harg7 arg8 harg8 arg9 harg9 arg10 harg10 arg11 harg11 arg12 harg12 arg13 harg13 hc0 hc1 hc2 x0 x1 x2 x3 x4 s.q s.m s.l s.a).2.2.2.2.1) = (s.step i x1 x2 x3 x4).a)
      ∧ (∀ f : arg9.view.ty.Contents (Elt F), arg9.view.read (Elt F) (arg9.view.writes (Elt F) f (kernelRun0_D c i arg4 harg4 arg5 harg5 arg6 harg6 arg7 harg7 arg8 harg8 arg9 harg9 arg10 harg10 arg11 harg11 arg12 harg12 arg13 harg13 hc0 hc1 hc2 x0 x1 x2 x3 x4 s.q s.m s.l s.a).1) = (s.step i x1 x2 x3 x4).out) := by
  refine ⟨fun f => ?_, fun f => ?_, fun f => ?_, fun f => ?_⟩ <;> (
    unfold kernelRun0_D; sl_unfold_words
    dsimp only
    simp (disch := decide) only [↓ View.readCov_skip, ↓ View.readCov_cons_toLoadRect, ↓ View.readCov_fill, readAt_all3, readAt_all4,
      readAt_lit, ld_lit, headM_0, headM_1, headM_2, headM_3, headL_0, headL_1, headL_2, headL_3, headA_0, headA_1, headA_2, headA_3,
      headQ_0, headQ_1, headQ_2, headQ_3, scores_0, scores_1, scores_2, scores_3, out_heads])
  · exact read_heads arg11.view f (fun h => headM (s.sc i x1 x3 x4 h) (slab s.m h)) _ _ _ _ _
  · exact read_heads arg12.view f (fun h => headL (s.sc i x1 x3 x4 h) (slab s.m h) (slab s.l h)) _ _ _ _ _
  · exact read_heads arg13.view f (fun h => headA (k0_pay13 x2) (s.sc i x1 x3 x4 h) (slab s.m h) (slab s.a h)) _ _ _ _ _
  · exact (read_whole3 arg9.view f _ _ []).trans (out_step _ _ _ _ _ _).symm

theorem stored_C (hc0 : cond0_0 i) (hc1 : cond0_1 i) (hc2 : ¬cond0_2 i) :
    (∀ f : arg10.view.ty.Contents (Elt F), arg10.view.read (Elt F) (arg10.view.writes (Elt F) f (kernelRun0_C c i arg4 harg4 arg5 harg5 arg6 harg6 arg7 harg7 arg8 harg8 arg9 harg9 arg10 harg10 arg11 harg11 arg12 harg12 arg13 harg13 xo hc0 hc1 hc2 x0 x1 x2 x3 x4).1) = ((St.init x0 : St F).step i x1 x2 x3 x4).q)
      ∧ (∀ f : arg11.view.ty.Contents (Elt F), arg11.view.read (Elt F) (arg11.view.writes (Elt F) f (kernelRun0_C c i arg4 harg4 arg5 harg5 arg6 harg6 arg7 harg7 arg8 harg8 arg9 harg9 arg10 harg10 arg11 harg11 arg12 harg12 arg13 harg13 xo hc0 hc1 hc2 x0 x1 x2 x3 x4).2.1) = ((St.init x0 : St F).step i x1 x2 x3 x4).m)
      ∧ (∀ f : arg12.view.ty.Contents (Elt F), arg12.view.read (Elt F) (arg12.view.writes (Elt F) f (kernelRun0_C c i arg4 harg4 arg5 harg5 arg6 harg6 arg7 harg7 arg8 harg8 arg9 harg9 arg10 harg10 arg11 harg11 arg12 harg12 arg13 harg13 xo hc0 hc1 hc2 x0 x1 x2 x3 x4).2.2.1) = ((St.init x0 : St F).step i x1 x2 x3 x4).l)
      ∧ (∀ f : arg13.view.ty.Contents (Elt F), arg13.view.read (Elt F) (arg13.view.writes (Elt F) f (kernelRun0_C c i arg4 harg4 arg5 harg5 arg6 harg6 arg7 harg7 arg8 harg8 arg9 harg9 arg10 harg10 arg11 harg11 arg12 harg12 arg13 harg13 xo hc0 hc1 hc2 x0 x1 x2 x3 x4).2.2.2.1) = ((St.init x0 : St F).step i x1 x2 x3 x4).a) := by
  refine ⟨fun f => ?_, fun f => ?_, fun f => ?_, fun f => ?_⟩ <;> (
    unfold kernelRun0_C; sl_unfold_words
    dsimp only
    simp (disch := decide) only [↓ View.readCov_skip, ↓ View.readCov_cons_toLoadRect, ↓ View.readCov_fill, readAt_all3, readAt_all4,
      readAt_lit, ld_lit, headM_0, headM_1, headM_2, headM_3, headL_0, headL_1, headL_2, headL_3, headA_0, headA_1, headA_2, headA_3,
      headQ_0, headQ_1, headQ_2, headQ_3, scores_0, scores_1, scores_2, scores_3, out_heads])
  · exact (read_heads arg10.view f (fun h => slab (St.init x0).q h) _ _ _ _ _).trans (funext fun y => slab_at0 _ y)
  · exact read_heads arg11.view f (fun h => headM ((St.init x0).sc i x1 x3 x4 h) (slab (St.init x0).m h)) _ _ _ _ _
  · exact read_heads arg12.view f (fun h => headL ((St.init x0).sc i x1 x3 x4 h) (slab (St.init x0).m h) (slab (St.init x0).l h)) _ _ _ _ _
  · exact read_heads arg13.view f (fun h => headA (k0_pay13 x2) ((St.init x0).sc i x1 x3 x4 h) (slab (St.init x0).m h) (slab (St.init x0).a h)) _ _ _ _ _

theorem stored_A (hc0 : cond0_0 i) (hc1 : cond0_1 i) (hc2 : cond0_2 i) :
    (∀ f : arg10.view.ty.Contents (Elt F), arg10.view.read (Elt F) (arg10.view.writes (Elt F) f (kernelRun0_A c i arg4 harg4 arg5 harg5 arg6 harg6 arg7 harg7 arg8 harg8 arg9 harg9 arg10 harg10 arg11 harg11 arg12 harg12 arg13 harg13 hc0 hc1 hc2 x0 x1 x2 x3 x4).2.1) = ((St.init x0 : St F).step i x1 x2 x3 x4).q)
      ∧ (∀ f : arg11.view.ty.Contents (Elt F), arg11.view.read (Elt F) (arg11.view.writes (Elt F) f (kernelRun0_A c i arg4 harg4 arg5 harg5 arg6 harg6 arg7 harg7 arg8 harg8 arg9 harg9 arg10 harg10 arg11 harg11 arg12 harg12 arg13 harg13 hc0 hc1 hc2 x0 x1 x2 x3 x4).2.2.1) = ((St.init x0 : St F).step i x1 x2 x3 x4).m)
      ∧ (∀ f : arg12.view.ty.Contents (Elt F), arg12.view.read (Elt F) (arg12.view.writes (Elt F) f (kernelRun0_A c i arg4 harg4 arg5 harg5 arg6 harg6 arg7 harg7 arg8 harg8 arg9 harg9 arg10 harg10 arg11 harg11 arg12 harg12 arg13 harg13 hc0 hc1 hc2 x0 x1 x2 x3 x4).2.2.2.1) = ((St.init x0 : St F).step i x1 x2 x3 x4).l)
      ∧ (∀ f : arg13.view.ty.Contents (Elt F), arg13.view.read (Elt F) (arg13.view.writes (Elt F) f (kernelRun0_A c i arg4 harg4 arg5 harg5 arg6 harg6 arg7 harg7 arg8 harg8 arg9 harg9 arg10 harg10 arg11 harg11 arg12 harg12 arg13 harg13 hc0 hc1 hc2 x0 x1 x2 x3 x4).2.2.2.2.1) = ((St.init x0 : St F).step i x1 x2 x3 x4).a)
      ∧ (∀ f : arg9.view.ty.Contents (Elt F), arg9.view.read (Elt F) (arg9.view.writes (Elt F) f (kernelRun0_A c i arg4 harg4 arg5 harg5 arg6 harg6 arg7 harg7 arg8 harg8 arg9 harg9 arg10 harg10 arg11 harg11 arg12 harg12 arg13 harg13 hc0 hc1 hc2 x0 x1 x2 x3 x4).1) = ((St.init x0 : St F).step i x1 x2 x3 x4).out) := by
  refine ⟨fun f => ?_, fun f => ?_, fun f => ?_, fun f => ?_, fun f => ?_⟩ <;> (
    unfold kernelRun0_A; sl_unfold_words
    dsimp only
    simp (disch := decide) only [↓ View.readCov_skip, ↓ View.readCov_cons_toLoadRect, ↓ View.readCov_fill, readAt_all3, readAt_all4,
      readAt_lit, ld_lit, headM_0, headM_1, headM_2, headM_3, headL_0, headL_1, headL_2, headL_3, headA_0, headA_1, headA_2, headA_3,
      headQ_0, headQ_1, headQ_2, headQ_3, scores_0, scores_1, scores_2, scores_3, out_heads])
  · exact (read_heads arg10.view f (fun h => slab (St.init x0).q h) _ _ _ _ _).trans (funext fun y => slab_at0 _ y)
  · exact read_heads arg11.view f (fun h => headM ((St.init x0).sc i x1 x3 x4 h) (slab (St.init x0).m h)) _ _ _ _ _
  · exact read_heads arg12.view f (fun h => headL ((St.init x0).sc i x1 x3 x4 h) (slab (St.init x0).m h) (slab (St.init x0).l h)) _ _ _ _ _
  · exact read_heads arg13.view f (fun h => headA (k0_pay13 x2) ((St.init x0).sc i x1 x3 x4 h) (slab (St.init x0).m h) (slab (St.init x0).a h)) _ _ _ _ _
  · exact (read_whole3 arg9.view f _ _ []).trans (out_step _ _ _ _ _ _).symm

end Cert.KernelIdeal.Att

end
-- ==== Proof.Att.Frame.lean ====
/- The launch of the attention kernel: what the body carries from point to point, what the diagonal points write, the run. -/
module

public import proofs.«01_k».proof.Proof.Att.Pieces
public import proofs.«01_k».proof.Proof.Gen.KernelIdeal.Frame
public import Idealize.ShloMosaic.Lib.Pipeline.TableIdle
public import proofs.«01_k».proof.Proof.Gen.KernelIdeal.Skeleton
public import proofs.«01_k».proof.Proof.Gen.KernelIdeal.Points
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The state over the grid -/

/-- What a point makes of the state it finds: a row's first point starts afresh; a point past the diagonal leaves it. -/
def next (c : Dev nD) (t : Fin cfg0.N) (s : St F) : St F :=
  if t.val % 16 = 0 then
    (St.init (iblk m c 0 t)).step (grid0.coords t) (iblk m c 1 t) (iblk m c 2 t) (iblk m c 3 t) (iblk m c 4 t)
  else if t.val % 16 ≤ t.val / 16 % 16 then
    s.step (grid0.coords t) (iblk m c 1 t) (iblk m c 2 t) (iblk m c 3 t) (iblk m c 4 t)
  else s

/-- The state after each point. -/
def stAt (c : Dev nD) : (n : ℕ) → n < cfg0.N → St F
  | 0, h => next m c ⟨0, h⟩ (St.init (iblk m c 0 ⟨0, h⟩))
  | n + 1, h => next m c ⟨n + 1, h⟩ (stAt c n (Nat.lt_of_succ_lt h))

theorem stAt_start (c : Dev nD) (t : Fin cfg0.N) (h0 : t.val % 16 = 0) :
    stAt m c t.val t.isLt
      = (St.init (iblk m c 0 t)).step (grid0.coords t) (iblk m c 1 t) (iblk m c 2 t) (iblk m c 3 t) (iblk m c 4 t) := by
  obtain ⟨n, hn⟩ := t
  cases n with
  | zero => show next m c _ _ = _; unfold next; rw [if_pos h0]
  | succ n => show next m c _ _ = _; unfold next; rw [if_pos h0]

theorem stAt_next (c : Dev nD) (t : Fin cfg0.N) (h0 : ¬t.val % 16 = 0) :
    stAt m c t.val t.isLt = next m c t (stAt m c (t.val - 1) (Nat.lt_of_le_of_lt (Nat.sub_le _ _) t.isLt)) := by
  obtain ⟨n, hn⟩ := t
  cases n with
  | zero => exact absurd (Nat.zero_mod _) h0
  | succ n => rfl

theorem stAt_step (c : Dev nD) (t : Fin cfg0.N) (h0 : ¬t.val % 16 = 0) (h1 : t.val % 16 ≤ t.val / 16 % 16) :
    stAt m c t.val t.isLt
      = (stAt m c (t.val - 1) (Nat.lt_of_le_of_lt (Nat.sub_le _ _) t.isLt)).step (grid0.coords t) (iblk m c 1 t) (iblk m c 2 t) (iblk m c 3 t)
          (iblk m c 4 t) := by
  rw [stAt_next m c t h0]; exact (if_neg h0).trans (if_pos h1)

theorem stAt_skip (c : Dev nD) (t : Fin cfg0.N) (h0 : ¬t.val % 16 = 0) (h1 : ¬t.val % 16 ≤ t.val / 16 % 16) :
    stAt m c t.val t.isLt = stAt m c (t.val - 1) (Nat.lt_of_le_of_lt (Nat.sub_le _ _) t.isLt) := by
  rw [stAt_next m c t h0]; exact (if_neg h0).trans (if_neg h1)

/-- The diagonal point of a point's row of blocks. -/
def diag (t : Fin cfg0.N) : Fin cfg0.N :=
  ⟨t.val / 16 * 16 + t.val / 16 % 16, by
    have ht : t.val < 2048 := Nat.lt_of_lt_of_eq t.isLt N_0
    exact Nat.lt_of_lt_of_eq (by omega) N_0.symm⟩

theorem diag_self (t : Fin cfg0.N) (h : t.val / 16 % 16 = t.val % 16) : diag t = t := Fin.ext (by simp only [diag]; omega)

/-- What the row's diagonal point writes out. -/
def outAt (c : Dev nD) (t : Fin cfg0.N) : Vec F S1x512x256 .bf16 := (stAt m c (diag t).val (diag t).isLt).out

theorem outAt_pred (c : Dev nD) (t : Fin cfg0.N) (h : ¬t.val % 16 = 0) :
    outAt m c t = outAt m c ⟨t.val - 1, Nat.lt_of_le_of_lt (Nat.sub_le _ _) t.isLt⟩ := by
  have e : diag t = diag ⟨t.val - 1, Nat.lt_of_le_of_lt (Nat.sub_le _ _) t.isLt⟩ := Fin.ext (by simp only [diag]; omega)
  simp only [outAt, e]

theorem outAt_diag (c : Dev nD) (t : Fin cfg0.N) (h : t.val / 16 % 16 = t.val % 16) : outAt m c t = (stAt m c t.val t.isLt).out := by
  simp only [outAt, diag_self t h]

/-! ## The invariant and the proof data -/

/-- The scratch buffers at a state, and the generator register at some state. -/
def held (c : Dev nD) (s : St F) : sProp 𝕄 :=
  iprop(iprop(owns (c : Thread nD τ) scM0_0 fullShare s.q ∗ owns (c : Thread nD τ) scM0_1 fullShare s.m ∗ owns (c : Thread nD τ) scM0_2 fullShare s.l ∗ owns (c : Thread nD τ) scM0_3 fullShare s.a) ∗ (∃ r, prngReg c r))

/-- Before the first point the scratch holds anything; afterwards the state the point before left. -/
def PhiS (c : Dev nD) : (n : ℕ) → n ≤ cfg0.N → sProp 𝕄
  | 0, _ => Pipeline.ΦA spec0 c
  | n + 1, hn => held c (stAt m c n hn)

theorem PhiS_pos (c : Dev nD) (n : ℕ) (h : n ≤ cfg0.N) (hz : n ≠ 0) :
    PhiS m c n h = held c (stAt m c (n - 1) (by omega)) := by
  cases n with
  | zero => exact absurd rfl hz
  | succ n => rfl

theorem held_any (c : Dev nD) (s : St F) : held c s ⊢ (Pipeline.ΦA spec0 c : sProp 𝕄) := by
  rw [PhiA0_eq]; unfold held
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- At any time what the scratch holds may be forgotten. -/
theorem PhiS_any (c : Dev nD) : ∀ (n : ℕ) (h : n ≤ cfg0.N), PhiS m c n h ⊢ (Pipeline.ΦA spec0 c : sProp 𝕄)
  | 0, _ => .rfl
  | _ + 1, _ => held_any c _

/-- The proof data: each input's buffer at its block, the output's at what the row's diagonal point writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]

/-! ## The output window: stored at the diagonal, written back at the row's end -/

theorem idle0_5 (t : Fin cfg0.N) : cfg0.idle 5 (grid0.coords t) = !decide (t.val / 16 % 16 = t.val % 16) := by
  show (!(k0_cond3 (grid0.coords t) == 1#1)) = _
  congr 1
  rw [Bool.eq_iff_iff, beq_iff_eq, decide_eq_true_iff]
  exact hcond0_2 t

/-- The output's buffer holds nothing of the row's exactly up to the diagonal. -/
theorem fresh0_5 (n : ℕ) (h : n ≤ cfg0.N) : cfg0.fresh 5 n = decide (n % 16 ≤ n / 16 % 16) := by
  refine cfg0.fresh_tab 5 (fun n => decide (n % 16 ≤ n / 16 % 16)) rfl (fun t => ?_) n h
  have hf : (cfg0.win 5).flush t = decide (t.val % 16 = 15) := by
    rw [Bool.eq_iff_iff, decide_eq_true_iff]; exact flush0_5 t
  rw [hf, show cfg0.idle 5 (cfg0.grid.coords t) = _ from idle0_5 t]
  rw [Bool.eq_iff_iff]
  simp only [Bool.or_eq_true, Bool.and_eq_true, Bool.not_eq_true', decide_eq_true_iff, decide_eq_false_iff_not]
  by_cases e : t.val % 16 = 15
  · have e1 : (t.val + 1) % 16 = 0 := by omega
    simp [e, e1]
  · have e1 : (t.val + 1) / 16 = t.val / 16 := by omega
    have e2 : (t.val + 1) % 16 = t.val % 16 + 1 := by omega
    rw [e1, e2]
    omega

theorem before0_5 (c : Dev nD) (t : Fin cfg0.N) (h1 : ¬t.val % 16 ≤ t.val / 16 % 16) (d) :
    (dats m 0 c).before 5 t d = outAt m c t := by
  rw [(dats m 0 c).before_out_traj 5 rfl (fun _ _ => rfl) (fun t ht hi hfr => ?_) t.val t rfl d]
  · rw [fresh0_5 _ (Nat.le_of_lt t.isLt), decide_eq_false h1, if_neg Bool.false_ne_true, after0_5]
    exact (outAt_pred m c t (by omega)).symm
  · rw [fresh0_5 _ (Nat.le_of_lt t.isLt)] at hfr
    have := of_decide_eq_false hfr
    rw [after0_5, after0_5]; exact outAt_pred m c t (by omega)

theorem leaves0_5_diag (c : Dev nD) (t : Fin cfg0.N) (h2 : t.val / 16 % 16 = t.val % 16) :
    (dats m 0 c).leavesExact 5 t = owns (c : Thread nD τ) (ms0_5 t) fullShare (stAt m c t.val t.isLt).out := by
  unfold Dat.leavesExact
  rw [show cfg0.idle 5 (cfg0.grid.coords t) = false from (idle0_5 t).trans (by simp [h2]), after0_5, outAt_diag m c t h2]

theorem leaves0_5_off (c : Dev nD) (t : Fin cfg0.N) (h2 : ¬t.val / 16 % 16 = t.val % 16) (d) :
    owns (c : Thread nD τ) (ms0_5 t) fullShare ((dats m 0 c).before 5 t d) ⊢ ((dats m 0 c).leavesExact 5 t : sProp 𝕄) := by
  have hi : cfg0.idle 5 (cfg0.grid.coords t) = true := (idle0_5 t).trans (by simp [h2])
  by_cases hf : t.val % 16 = 15
  · have hn : t.val < 2048 := Nat.lt_of_lt_of_eq t.isLt N_0
    rw [before0_5 m c t (by omega) d]
    unfold Dat.leavesExact
    rw [hi, (flush0_5 t).mpr hf, after0_5]
  · rw [Dat.leavesExact_idle _ 5 t hi (Bool.eq_false_iff.mpr fun h => hf ((flush0_5 t).mp h))]
    iintro H
    iexists d; iexact H

/-! ## The body at a point -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 16000000 in
/-- The body at any point, by the case the point is in: the run of the case, its stores read back as the state's step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = held c (stAt m c t.val t.isLt) from rfl, PhiS_castSucc m c t]
  have hN : t.val < 2048 := lt_of_lt_of_eq t.isLt (show cfg0.N = 2048 from N_0)
  by_cases h0 : t.val % 16 = 0
  · have h1 : t.val % 16 ≤ t.val / 16 % 16 := by omega
    by_cases h2 : t.val / 16 % 16 = t.val % 16
    · refine BIBase.Entails.trans (sep_mono (PhiS_any m c _ _) .rfl) ?_
      rw [PhiA0_eq, stAt_start m c t h0]
      rw [leaves0_5_diag m c t h2, stAt_start m c t h0]
      unfold held
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact (stored_A (hc0 := ((hcond0_0 t).mpr h0)) (hc1 := ((hcond0_1 t).mpr h1)) (hc2 := ((hcond0_2 t).mpr h2)) ..).1 _
          isplitl [HS1]
          · unfold owns; iexists _; isplitr
            swap; · iexact HS1
            ipureintro; exact (stored_A (hc0 := ((hcond0_0 t).mpr h0)) (hc1 := ((hcond0_1 t).mpr h1)) (hc2 := ((hcond0_2 t).mpr h2)) ..).2.1 _
          isplitl [HS2]
          · unfold owns; iexists _; isplitr
            swap; · iexact HS2
            ipureintro; exact (stored_A (hc0 := ((hcond0_0 t).mpr h0)) (hc1 := ((hcond0_1 t).mpr h1)) (hc2 := ((hcond0_2 t).mpr h2)) ..).2.2.1 _
          unfold owns; iexists _; isplitr
          swap; · iexact HS3
          ipureintro; exact (stored_A (hc0 := ((hcond0_0 t).mpr h0)) (hc1 := ((hcond0_1 t).mpr h1)) (hc2 := ((hcond0_2 t).mpr h2)) ..).2.2.2.1 _
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact (stored_A (hc0 := ((hcond0_0 t).mpr h0)) (hc1 := ((hcond0_1 t).mpr h1)) (hc2 := ((hcond0_2 t).mpr h2)) ..).2.2.2.2 _
    · refine BIBase.Entails.trans (sep_mono (PhiS_any m c _ _) .rfl) ?_
      rw [PhiA0_eq, stAt_start m c t h0]
      unfold held
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact (stored_C (hc0 := ((hcond0_0 t).mpr h0)) (hc1 := ((hcond0_1 t).mpr h1)) (hc2 := (fun h => h2 ((hcond0_2 t).mp h))) ..).1 _
          isplitl [HS1]
          · unfold owns; iexists _; isplitr
            swap; · iexact HS1
            ipureintro; exact (stored_C (hc0 := ((hcond0_0 t).mpr h0)) (hc1 := ((hcond0_1 t).mpr h1)) (hc2 := (fun h => h2 ((hcond0_2 t).mp h))) ..).2.1 _
          isplitl [HS2]
          · unfold owns; iexists _; isplitr
            swap; · iexact HS2
            ipureintro; exact (stored_C (hc0 := ((hcond0_0 t).mpr h0)) (hc1 := ((hcond0_1 t).mpr h1)) (hc2 := (fun h => h2 ((hcond0_2 t).mp h))) ..).2.2.1 _
          unfold owns; iexists _; isplitr
          swap; · iexact HS3
          ipureintro; exact (stored_C (hc0 := ((hcond0_0 t).mpr h0)) (hc1 := ((hcond0_1 t).mpr h1)) (hc2 := (fun h => h2 ((hcond0_2 t).mp h))) ..).2.2.2 _
        iexact Hg
      isplitl [Ho]; · iexact Ho
      isplitl [H0]; · iexact H0
      isplitl [H1]; · iexact H1
      isplitl [H2]; · iexact H2
      isplitl [H3]; · iexact H3
      isplitl [H4]; · iexact H4
      iapply (leaves0_5_off m c t h2 d5); iexact H5
  · by_cases h1 : t.val % 16 ≤ t.val / 16 % 16
    · by_cases h2 : t.val / 16 % 16 = t.val % 16
      · rw [PhiS_pos m c _ _ (by omega), stAt_step m c t h0 h1]
        rw [leaves0_5_diag m c t h2, stAt_step m c t h0 h1]
        unfold held
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_D c (grid0.coords t) _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) _ _ _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, HS0, ⟨%es1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact (stored_D (hc0 := (fun h => h0 ((hcond0_0 t).mp h))) (hc1 := ((hcond0_1 t).mpr h1)) (hc2 := ((hcond0_2 t).mpr h2)) ..).1 _
            isplitl [HS2]
            · unfold owns; iexists _; isplitr
              swap; · iexact HS2
              ipureintro; exact (stored_D (hc0 := (fun h => h0 ((hcond0_0 t).mp h))) (hc1 := ((hcond0_1 t).mpr h1)) (hc2 := ((hcond0_2 t).mpr h2)) ..).2.1 _
            unfold owns; iexists _; isplitr
            swap; · iexact HS3
            ipureintro; exact (stored_D (hc0 := (fun h => h0 ((hcond0_0 t).mp h))) (hc1 := ((hcond0_1 t).mpr h1)) (hc2 := ((hcond0_2 t).mpr h2)) ..).2.2.1 _
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact (stored_D (hc0 := (fun h => h0 ((hcond0_0 t).mp h))) (hc1 := ((hcond0_1 t).mpr h1)) (hc2 := ((hcond0_2 t).mpr h2)) ..).2.2.2 _
      · rw [PhiS_pos m c _ _ (by omega), stAt_step m c t h0 h1]
        unfold held
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_E c (grid0.coords t) _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, ⟨%es1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact (stored_E (hc0 := (fun h => h0 ((hcond0_0 t).mp h))) (hc1 := ((hcond0_1 t).mpr h1)) (hc2 := (fun h => h2 ((hcond0_2 t).mp h))) ..).1 _
            isplitl [HS2]
            · unfold owns; iexists _; isplitr
              swap; · iexact HS2
              ipureintro; exact (stored_E (hc0 := (fun h => h0 ((hcond0_0 t).mp h))) (hc1 := ((hcond0_1 t).mpr h1)) (hc2 := (fun h => h2 ((hcond0_2 t).mp h))) ..).2.1 _
            unfold owns; iexists _; isplitr
            swap; · iexact HS3
            ipureintro; exact (stored_E (hc0 := (fun h => h0 ((hcond0_0 t).mp h))) (hc1 := ((hcond0_1 t).mpr h1)) (hc2 := (fun h => h2 ((hcond0_2 t).mp h))) ..).2.2 _
          iexact Hg
        isplitl [Ho]; · iexact Ho
        isplitl [H0]; · iexact H0
        isplitl [H1]; · iexact H1
        isplitl [H2]; · iexact H2
        isplitl [H3]; · iexact H3
        isplitl [H4]; · iexact H4
        iapply (leaves0_5_off m c t h2 d5); iexact H5
    · have h2 : ¬t.val / 16 % 16 = t.val % 16 := by omega
      rw [PhiS_pos m c _ _ (by omega), stAt_skip m c t h0 h1]
      unfold held
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      iapply (leaves0_5_off m c t h2 d5); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run and the frame -/

set_option backward.isDefEq.respectTransparency.types false in
/-- The launch: every run ends with the output array as the proof data say, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.KernelIdeal.Att

end
-- ==== Proof.Att.Softmax.lean ====
/- Softmax-weighted sums met a stretch of keys at a time, over the extended reals: the running maximum, the running sum
   and the running weighted values, how a stretch extends them, and their quotient as the weighted sum. -/
module

public import Idealize.ShloMosaic.PureOps.Ideal
public import Mathlib.Data.EReal.Operations

@[expose] public section

noncomputable section

namespace Cert.Online

open Idealize.ShloMosaic
open scoped BigOperators

/-! ## The exponential -/

theorem exp_coe (r : ℝ) : Ideal.exp (r : EReal) = (Real.exp r : EReal) := rfl
theorem exp_bot : Ideal.exp ⊥ = 0 := rfl

theorem exp_nonneg (x : EReal) : 0 ≤ Ideal.exp x := by
  induction x with
  | bot => exact le_refl _
  | top => exact le_top
  | coe r => rw [exp_coe]; exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

/-- Moving the reference point from `a` to `b`. -/
theorem exp_shift {x : EReal} (h : x ≠ ⊤) (a b : ℝ) :
    Ideal.exp (x - b) = Ideal.exp ((a : EReal) - b) * Ideal.exp (x - a) := by
  induction x with
  | top => exact absurd rfl h
  | bot => rw [EReal.bot_sub, EReal.bot_sub, exp_bot, mul_zero]
  | coe r =>
    rw [← EReal.coe_sub, ← EReal.coe_sub, ← EReal.coe_sub, exp_coe, exp_coe, exp_coe, ← EReal.coe_mul, ← Real.exp_add]
    congr 2; ring

/-- A real factor that is not negative distributes over any sum of extended reals. -/
theorem mul_sum {ι : Type} (a : EReal) (h0 : 0 ≤ a) (h1 : a ≠ ⊤) (f : ι → EReal) (I : Finset ι) :
    a * ∑ k ∈ I, f k = ∑ k ∈ I, a * f k := by
  classical
  induction I using Finset.induction_on with
  | empty => simp
  | insert k I hk ih =>
    rw [Finset.sum_insert hk, Finset.sum_insert hk, EReal.left_distrib_of_nonneg_of_ne_top h0 h1, ih]

/-! ## The running quantities -/

variable (s v : ℕ → EReal)

/-- The greatest of the first `n` scores, -/
def mx (n : ℕ) : EReal := (Finset.range n).sup s

/-- the sum of their weights, -/
def sm (n : ℕ) : EReal := ∑ k ∈ Finset.range n, Ideal.exp (s k - mx s n)

/-- the weighted values. -/
def ac (n : ℕ) : EReal := ∑ k ∈ Finset.range n, Ideal.exp (s k - mx s n) * v k

theorem mx_zero : mx s 0 = ⊥ := rfl
theorem sm_zero : sm s 0 = 0 := rfl
theorem ac_zero : ac s v 0 = 0 := rfl

/-- The first `n` and `w` more. -/
theorem mx_add (n w : ℕ) : mx s (n + w) = max (mx s n) ((Finset.range w).sup fun t => s (n + t)) := by
  unfold mx
  apply le_antisymm
  · refine Finset.sup_le fun k hk => ?_
    rcases Nat.lt_or_ge k n with h | h
    · exact le_max_of_le_left (Finset.le_sup (f := s) (Finset.mem_range.mpr h))
    · refine le_max_of_le_right ?_
      have hk' := Finset.mem_range.mp hk
      have := Finset.le_sup (f := fun t => s (n + t)) (Finset.mem_range.mpr (by omega : k - n < w))
      simpa only [Nat.add_sub_cancel' h] using this
  · refine max_le (Finset.sup_le fun k hk => ?_) (Finset.sup_le fun t ht => ?_)
    · exact Finset.le_sup (f := s) (Finset.mem_range.mpr (by have := Finset.mem_range.mp hk; omega))
    · exact Finset.le_sup (f := s) (Finset.mem_range.mpr (by have := Finset.mem_range.mp ht; omega))

variable {s} (hs : ∀ k, s k ≠ ⊤) (h0 : s 0 ≠ ⊥)
include hs h0

/-- The maximum over some scores is a real number. -/
theorem mx_real {n : ℕ} (hn : 0 < n) : ∃ r : ℝ, mx s n = r := by
  have hb : mx s n ≠ ⊥ := fun h => h0 (le_bot_iff.mp (h ▸ Finset.le_sup (f := s) (Finset.mem_range.mpr hn)))
  have ht : mx s n ≠ ⊤ := by
    refine ne_of_lt ((Finset.sup_lt_iff (by simp)).mpr fun k _ => lt_top_iff_ne_top.mpr (hs k))
  exact ⟨(mx s n).toReal, (EReal.coe_toReal ht hb).symm⟩

/-- The sums so far, moved from their own reference point to a later one. -/
theorem sum_shift (n w : ℕ) (hw : 0 < n + w) (u : ℕ → EReal) :
    Ideal.exp (mx s n - mx s (n + w)) * ∑ k ∈ Finset.range n, Ideal.exp (s k - mx s n) * u k
      = ∑ k ∈ Finset.range n, Ideal.exp (s k - mx s (n + w)) * u k := by
  rcases Nat.eq_zero_or_pos n with hn | hn
  · subst hn; simp
  obtain ⟨a, ha⟩ := mx_real hs h0 hn
  obtain ⟨b, hb⟩ := mx_real hs h0 hw
  rw [ha, hb, mul_sum _ (exp_nonneg _) (exp_ne_top (by rw [← EReal.coe_sub]; exact EReal.coe_ne_top _))]
  refine Finset.sum_congr rfl fun k _ => ?_
  rw [exp_shift (hs k) a b, mul_assoc]

theorem ac_add (n w : ℕ) (hw : 0 < n + w) :
    ac s v (n + w) = Ideal.exp (mx s n - mx s (n + w)) * ac s v n
      + ∑ t ∈ Finset.range w, Ideal.exp (s (n + t) - mx s (n + w)) * v (n + t) := by
  unfold ac
  rw [sum_shift hs h0 n w hw, Finset.sum_range_add]

theorem sm_add (n w : ℕ) (hw : 0 < n + w) :
    sm s (n + w) = Ideal.exp (mx s n - mx s (n + w)) * sm s n
      + ∑ t ∈ Finset.range w, Ideal.exp (s (n + t) - mx s (n + w)) := by
  have := ac_add (v := fun _ => (1 : EReal)) hs h0 n w hw
  simp only [ac, mul_one] at this
  exact this

omit hs h0 in
/-- Keys masked out from `n` on change nothing. -/
theorem mx_stable {n : ℕ} (hm : ∀ k, n ≤ k → s k = ⊥) (w : ℕ) : mx s (n + w) = mx s n := by
  rw [mx_add]
  refine max_eq_left (Finset.sup_le fun t _ => ?_)
  rw [hm _ (Nat.le_add_right n t)]; exact bot_le

omit hs h0 in
theorem ac_stable {n : ℕ} (hm : ∀ k, n ≤ k → s k = ⊥) (w : ℕ) : ac s v (n + w) = ac s v n := by
  unfold ac
  rw [Finset.sum_range_add, mx_stable hm, Finset.sum_eq_zero (s := Finset.range w), add_zero]
  intro t _
  rw [hm _ (Nat.le_add_right n t), EReal.bot_sub, exp_bot, zero_mul]

omit hs h0 in
theorem sm_stable {n : ℕ} (hm : ∀ k, n ≤ k → s k = ⊥) (w : ℕ) : sm s (n + w) = sm s n := by
  have := ac_stable (v := fun _ => (1 : EReal)) hm w
  simp only [ac, mul_one] at this
  exact this

/-- The sum of the weights is a positive real number. -/
theorem sm_real {n : ℕ} (hn : 0 < n) : ∃ r : ℝ, 0 < r ∧ sm s n = r := by
  obtain ⟨b, hb⟩ := mx_real hs h0 hn
  have hx : ∀ k, s k - mx s n ≠ ⊤ := fun k => by
    rw [hb]
    cases h : s k with
    | bot => rw [EReal.bot_sub]; exact bot_ne_top
    | top => exact absurd h (hs k)
    | coe r => rw [← EReal.coe_sub]; exact EReal.coe_ne_top _
  have hpos : 0 < sm s n := by
    have h1 : Ideal.exp (s 0 - mx s n) ≤ sm s n :=
      Finset.single_le_sum (f := fun k => Ideal.exp (s k - mx s n)) (fun k _ => exp_nonneg _) (Finset.mem_range.mpr hn)
    refine lt_of_lt_of_le ?_ h1
    rw [hb]
    cases h : s 0 with
    | bot => exact absurd h h0
    | top => exact absurd h (hs 0)
    | coe r => rw [← EReal.coe_sub, exp_coe]; exact EReal.coe_pos.mpr (Real.exp_pos _)
  have hlt : sm s n ≠ ⊤ := by
    have key : ∀ I : Finset ℕ, (∑ k ∈ I, Ideal.exp (s k - mx s n)) ≠ ⊤ := fun I => by
      classical
      induction I using Finset.induction_on with
      | empty => simp
      | insert k I hk ih => rw [Finset.sum_insert hk]; exact EReal.add_ne_top (exp_ne_top (hx k)) ih
    exact key _
  have e := EReal.coe_toReal hlt (ne_of_gt (lt_of_le_of_lt bot_le hpos))
  exact ⟨(sm s n).toReal, by rw [← EReal.coe_pos, e]; exact hpos, e.symm⟩

/-- The weighted values over the sum of the weights: each value by its share of the weights. -/
theorem quotient {n : ℕ} (hn : 0 < n) :
    Ideal.div (ac s v n) (sm s n)
      = ∑ k ∈ Finset.range n, v k * Ideal.div (Ideal.exp (s k - mx s n)) (sm s n) := by
  obtain ⟨r, hr, e⟩ := sm_real hs h0 hn
  have hne : (r : EReal) ≠ 0 := by rw [Ne, EReal.coe_eq_zero]; exact hr.ne'
  simp only [Ideal.div, e, if_neg hne]
  rw [← EReal.coe_inv, mul_comm, ac, mul_sum _ (EReal.coe_nonneg.mpr (inv_nonneg.mpr hr.le)) (EReal.coe_ne_top _)]
  refine Finset.sum_congr rfl fun k _ => ?_
  ac_rfl

end Cert.Online

end
-- ==== Proof.Att.Point.lean ====
/- The attention body's operations over the extended reals, read at an index. -/
module

public import proofs.«01_k».proof.Proof.Att.Step
public import proofs.«01_k».proof.Proof.Att.Softmax
public import Idealize.ShloMosaic.Lib.Pointwise
public import Idealize.ShloMosaic.PureOps.IdealRules
public import Idealize.ShloMosaic.Lib.WordArith

@[expose] public section

set_option maxRecDepth 16384

noncomputable section

namespace Cert.KernelIdeal.Att

open Idealize.ShloMosaic Idealize.ShloMosaic.TcCoe
open Cert.KernelIdeal.Gen
open scoped BigOperators

theorem at0_eq {w : ℕ} (r : Fin 512) (c : Fin w) : at0 r c = ix3 (0 : Fin 1) r c := by
  funext a; fin_cases a <;> rfl

/-- The mask's value. -/
theorem mask_bot : (Named.named κ "mask" 0xF149F2CA#32 : Ideal .f32) = ⊥ :=
  IdealRules.named_const.ideal_named_scalar _ _ _ _ rfl

theorem slab_at {n w : ℕ} {e : EltTy} (X : Vec Ideal ⟨3, ![n, 512, w]⟩ e) (h : Fin n) (z : Fin 1) (r : Fin 512) (c : Fin w) :
    slab X h (ix3 z r c) = X (ix3 h r c) := by
  refine congrArg X (funext fun a => ?_)
  fin_cases a <;> rfl

theorem colOf_at (x : FVec Ideal S512x4 .f32) (h : Fin 4) (r : Fin 512) (z : Fin 1) : colOf x h (ix2 r z) = x (ix2 r h) := by
  refine congrArg x (funext fun a => ?_)
  fin_cases a <;> rfl

theorem rowOf_at (x : FVec Ideal S4x512 .f32) (h : Fin 4) (r : Fin 512) (z : Fin 1) : rowOf x h (ix2 z r) = x (ix2 h r) := by
  refine congrArg x (funext fun a => ?_)
  fin_cases a <;> rfl

/-- Words that count compare as the numbers they count. -/
theorem sle_nat {x y : ℕ} (hx : x < 2 ^ 31) (hy : y < 2 ^ 31) :
    IntOp.cmpi .sle (BitVec.ofNat 32 x) (BitVec.ofNat 32 y) = if x ≤ y then 1#1 else 0#1 := by
  have h : ((BitVec.ofNat 32 x).sle (BitVec.ofNat 32 y)) = decide (x ≤ y) := by
    rw [Bool.eq_iff_iff, BitVec.sle_iff_toInt_le, decide_eq_true_iff, WordArith.toInt_ofNat_small x hx, WordArith.toInt_ofNat_small y hy]
    exact Int.ofNat_le
  show BitVec.ofBool _ = _
  rw [h]
  split_ifs with hc <;> simp [hc]

/-- The greatest of finitely many values, as a fold and over the numbers below the count. -/
theorem fold_max_range {n : ℕ} (f : Fin n → EReal) :
    Finset.univ.fold max ⊥ f = (Finset.range n).sup fun t => if h : t < n then f ⟨t, h⟩ else ⊥ := by
  show Finset.univ.sup f = _
  apply le_antisymm
  · refine Finset.sup_le fun k _ => ?_
    have := Finset.le_sup (f := fun t => if h : t < n then f ⟨t, h⟩ else ⊥) (Finset.mem_range.mpr k.isLt)
    simpa only [k.isLt, dif_pos, Fin.eta] using this
  · refine Finset.sup_le fun t ht => ?_
    have h := Finset.mem_range.mp ht
    rw [dif_pos h]
    exact Finset.le_sup (f := f) (Finset.mem_univ _)

theorem neg_inf : Ideal.ofBits .f32 0xFF800000#32 = ⊥ := by
  simp [Ideal.ofBits, Ideal.ieee]

theorem scores_at (msk : IVec S512x512 1) (k : FVec Ideal S512x256 .bf16) (q : Vec Ideal S1x512x256 .bf16) (cq : FVec Ideal S512x1 .f32)
    (ck : FVec Ideal S1x512 .f32) (a b : Fin 512) :
    scores msk k q cq ck (ix2 a b)
      = Scalar.select (msk (ix2 a b))
          ((∑ l : Fin 256, q (ix3 0 a l) * k (ix2 b l)) + (cq (ix2 a 0) - ck (ix2 0 b))) ⊥ := by
  pointwise [scores]
  exact congrArg (Scalar.select _ _) mask_bot

theorem newMax_at (s : FVec Ideal S512x512 .f32) (mo : Vec Ideal S1x512x1 .f32) (a : Fin 512) :
    newMax s mo (ix2 a 0) = max (mo (ix3 0 a 0)) ((Finset.range 512).sup fun t => if h : t < 512 then s (ix2 a ⟨t, h⟩) else ⊥) := by
  pointwise [newMax]
  rw [neg_inf]
  exact congrArg _ (fold_max_range fun x => s (ix2 a x))

theorem factor_at (s : FVec Ideal S512x512 .f32) (mo : Vec Ideal S1x512x1 .f32) (a : Fin 512) :
    factor s mo (ix2 a 0) = Ideal.exp (mo (ix3 0 a 0) - newMax s mo (ix2 a 0)) := by
  pointwise [factor]

theorem weights_at (s : FVec Ideal S512x512 .f32) (mo : Vec Ideal S1x512x1 .f32) (a b : Fin 512) :
    weights s mo (ix2 a b) = Ideal.exp (s (ix2 a b) - newMax s mo (ix2 a 0)) := by
  pointwise [weights]

theorem headM_at (s : FVec Ideal S512x512 .f32) (mo : Vec Ideal S1x512x1 .f32) (a : Fin 512) :
    headM s mo (ix3 0 a 0) = newMax s mo (ix2 a 0) := by
  pointwise [headM]

theorem headL_at (s : FVec Ideal S512x512 .f32) (mo lo : Vec Ideal S1x512x1 .f32) (a : Fin 512) :
    headL s mo lo (ix3 0 a 0)
      = Ideal.exp (mo (ix3 0 a 0) - newMax s mo (ix2 a 0)) * lo (ix3 0 a 0)
        + ∑ b : Fin 512, Ideal.exp (s (ix2 a b) - newMax s mo (ix2 a 0)) := by
  pointwise [headL, factor_at, weights_at]

theorem headA_at (v : FVec Ideal S512x256 .bf16) (s : FVec Ideal S512x512 .f32) (mo : Vec Ideal S1x512x1 .f32) (ao : Vec Ideal S1x512x256 .f32)
    (a : Fin 512) (w : Fin 256) :
    headA v s mo ao (ix3 0 a w)
      = Ideal.exp (mo (ix3 0 a 0) - newMax s mo (ix2 a 0)) * ao (ix3 0 a w)
        + ∑ b : Fin 512, Ideal.exp (s (ix2 a b) - newMax s mo (ix2 a 0)) * v (ix2 b w) := by
  pointwise [headA, factor_at, weights_at]

/-- Whether a lane is one of a head's. -/
theorem headLanes_at (h : Fin 4) (a : Fin 512) (l : Fin 256) :
    headLanes h (ix2 a l) = if l.val / 64 = h.val then 1#1 else 0#1 := by
  pointwise [headLanes, lanes]
  revert h l; decide +kernel

theorem headQ_at (x0 : Vec Ideal S1x512x256 .bf16) (h : Fin 4) (a : Fin 512) (l : Fin 256) :
    headQ x0 h (ix3 0 a l) = Scalar.select (headLanes h (ix2 a l)) (x0 (ix3 0 a l)) (0 : EReal) := by
  pointwise [headQ]

theorem headOut_at (h : Fin 4) (a : Vec Ideal S1x512x256 .f32) (l : Vec Ideal S1x512x1 .f32) (r : Fin 512) (w : Fin 256) :
    headOut h a l (ix2 r w) = Scalar.select (headLanes h (ix2 r w)) (Ideal.div (a (ix3 0 r w)) (l (ix3 0 r 0))) (0 : EReal) := by
  pointwise [headOut]

/-- The causal mask of a pair of blocks. -/
theorem causal_at (i j : ℕ) (hi : i < 16) (hj : j < 16) (a b : Fin 512) :
    k0_pay16 (BitVec.ofNat 32 i) (BitVec.ofNat 32 j) (ix2 a b) = if j * 512 + b.val ≤ i * 512 + a.val then 1#1 else 0#1 := by
  pointwise [k0_pay16]
  have e : ∀ n : ℕ, ∀ z : Fin 512, IntOp.addi (Scalar.muli (BitVec.ofNat 32 n) 512#32) (BitVec.ofNat 32 z.val) = BitVec.ofNat 32 (n * 512 + z.val) := by
    intro n z
    rw [BitVec.ofNat_add, BitVec.ofNat_mul]; rfl
  rw [e, e, sle_nat (by omega) (by omega)]

theorem pay12_at (x : Vec Ideal S1x512x256 .bf16) (a : Fin 512) (w : Fin 256) : k0_pay12 x (ix2 a w) = x (ix3 0 a w) := by
  pointwise [k0_pay12]
theorem pay13_at (x : Vec Ideal S1x512x256 .bf16) (a : Fin 512) (w : Fin 256) : k0_pay13 x (ix2 a w) = x (ix3 0 a w) := by
  pointwise [k0_pay13]
theorem pay14_at (x : Vec Ideal S1x1x512x4 .f32) (a : Fin 512) (h : Fin 4) : k0_pay14 x (ix2 a h) = x (ix4 0 0 a h) := by
  pointwise [k0_pay14]
theorem pay15_at (x : Vec Ideal S1x1x4x512 .f32) (a : Fin 512) (h : Fin 4) : k0_pay15 x (ix2 h a) = x (ix4 0 0 h a) := by
  pointwise [k0_pay15]

theorem out_at (s : St Ideal) (r : Fin 512) (w : Fin 256) :
    s.out (ix3 0 r w) = 0 + headOut 0 (slab s.a 0) (slab s.l 0) (ix2 r w) + headOut 1 (slab s.a 1) (slab s.l 1) (ix2 r w)
      + headOut 2 (slab s.a 2) (slab s.l 2) (ix2 r w) + headOut 3 (slab s.a 3) (slab s.l 3) (ix2 r w) := by
  pointwise [St.out]

end Cert.KernelIdeal.Att

end
-- ==== Proof.Att.Blocks.lean ====
/- The attention call's input blocks and biases, read at an index from the arrays it is given. -/
module

public import proofs.«01_k».proof.Proof.Att.Frame
public import proofs.«01_k».proof.Proof.Att.Point

@[expose] public section

set_option maxRecDepth 16384

noncomputable section

namespace Cert.KernelIdeal.Att

open Idealize.ShloMosaic Idealize.ShloMosaic.TcCoe Idealize.ShloMosaic.Tactic
open Cert.KernelIdeal.Gen

variable (m : (ℓ : Loc nD τ sig) → Buf (Elt Ideal) ℓ)

theorem idx : ∀ t : Fin cfg0.N, win0_0.index t = ![t.val / 512, t.val / 16 % 16, t.val / 256 % 2]
    ∧ win0_1.index t = ![t.val / 512, min (t.val % 16) (t.val / 16 % 16), t.val / 256 % 2]
    ∧ win0_2.index t = ![t.val / 512, min (t.val % 16) (t.val / 16 % 16), t.val / 256 % 2]
    ∧ win0_3.index t = ![t.val / 512, t.val / 256 % 2, t.val / 16 % 16, 0]
    ∧ win0_4.index t = ![t.val / 512, t.val / 256 % 2, 0, min (t.val % 16) (t.val / 16 % 16)]
    ∧ win0_5.index t = ![t.val / 512, t.val / 16 % 16, t.val / 256 % 2] :=
  (by decide +kernel : ∀ t : Fin grid0.N, _)

theorem tl (t : Fin cfg0.N) : t.val < 2048 := Nat.lt_of_lt_of_eq t.isLt N_0

theorem blk0 (c : Dev nD) (t : Fin cfg0.N) (a : Fin 512) (l : Fin 256) :
    iblk m c 0 t (ix3 0 a l) = m ((c : Thread nD τ).loc main_arg0)
      (ix3 ⟨t.val / 512, by have := tl t; omega⟩ ⟨t.val / 16 % 16 * 512 + a.val, by omega⟩ ⟨t.val / 256 % 2 * 256 + l.val, by omega⟩) := by
  blk_ext [iblk, V, idx t]

theorem blk1 (c : Dev nD) (t : Fin cfg0.N) (hj : t.val % 16 ≤ t.val / 16 % 16) (a : Fin 512) (l : Fin 256) :
    iblk m c 1 t (ix3 0 a l) = m ((c : Thread nD τ).loc main_arg1)
      (ix3 ⟨t.val / 512, by have := tl t; omega⟩ ⟨t.val % 16 * 512 + a.val, by omega⟩ ⟨t.val / 256 % 2 * 256 + l.val, by omega⟩) := by
  blk_ext [iblk, V, idx t]

theorem blk2 (c : Dev nD) (t : Fin cfg0.N) (hj : t.val % 16 ≤ t.val / 16 % 16) (a : Fin 512) (l : Fin 256) :
    iblk m c 2 t (ix3 0 a l) = m ((c : Thread nD τ).loc main_arg2)
      (ix3 ⟨t.val / 512, by have := tl t; omega⟩ ⟨t.val % 16 * 512 + a.val, by omega⟩ ⟨t.val / 256 % 2 * 256 + l.val, by omega⟩) := by
  blk_ext [iblk, V, idx t]

/-- The biases as the call is given them: by batch, group of heads, position and head, -/
theorem V_v1 (c : Dev nD) (b : Fin 4) (g : Fin 2) (r : Fin 8192) (h : Fin 4) :
    V m c main_v1 (ix4 b g r h) = m ((c : Thread nD τ).loc main_arg3) (ix3 b r ⟨g.val * 4 + h.val, by omega⟩) := by
  entry_read
  pointwise

/-- and with the positions last. -/
theorem V_v2 (c : Dev nD) (b : Fin 4) (g : Fin 2) (r : Fin 8192) (h : Fin 4) :
    V m c main_v2 (ix4 b g h r) = m ((c : Thread nD τ).loc main_arg3) (ix3 b r ⟨g.val * 4 + h.val, by omega⟩) := by
  entry_read
  pointwise

theorem blk3 (c : Dev nD) (t : Fin cfg0.N) (a : Fin 512) (h : Fin 4) :
    iblk m c 3 t (ix4 0 0 a h) = m ((c : Thread nD τ).loc main_arg3)
      (ix3 ⟨t.val / 512, by have := tl t; omega⟩ ⟨t.val / 16 % 16 * 512 + a.val, by omega⟩ ⟨t.val / 256 % 2 * 4 + h.val, by omega⟩) := by
  refine Eq.trans ?_ (V_v1 m c ⟨t.val / 512, by have := tl t; omega⟩ ⟨t.val / 256 % 2, by omega⟩ ⟨t.val / 16 % 16 * 512 + a.val, by omega⟩ h)
  blk_ext [iblk, idx t]

theorem blk4 (c : Dev nD) (t : Fin cfg0.N) (hj : t.val % 16 ≤ t.val / 16 % 16) (a : Fin 512) (h : Fin 4) :
    iblk m c 4 t (ix4 0 0 h a) = m ((c : Thread nD τ).loc main_arg3)
      (ix3 ⟨t.val / 512, by have := tl t; omega⟩ ⟨t.val % 16 * 512 + a.val, by omega⟩ ⟨t.val / 256 % 2 * 4 + h.val, by omega⟩) := by
  refine Eq.trans ?_ (V_v2 m c ⟨t.val / 512, by have := tl t; omega⟩ ⟨t.val / 256 % 2, by omega⟩ ⟨t.val % 16 * 512 + a.val, by omega⟩ h)
  blk_ext [iblk, idx t]

end Cert.KernelIdeal.Att

end
-- ==== Proof.Att.Attn.lean ====
/- The attention itself: the masked scores of a query, the values they weigh, their weighted mean; what is finite. -/
module

public import proofs.«01_k».proof.Proof.Att.Softmax
public import Idealize.ShloMosaic.Lib.Pointwise

@[expose] public section

noncomputable section

namespace Cert.Attn

open Idealize.ShloMosaic Cert.Online
open scoped BigOperators

/-! ## Real numbers among the extended reals -/

/-- A value that is a real number. -/
def Re (x : EReal) : Prop := ∃ r : ℝ, x = r

theorem Re.add {x y : EReal} : Re x → Re y → Re (x + y)
  | ⟨a, ha⟩, ⟨b, hb⟩ => ⟨a + b, by rw [ha, hb, EReal.coe_add]⟩
theorem Re.sub {x y : EReal} : Re x → Re y → Re (x - y)
  | ⟨a, ha⟩, ⟨b, hb⟩ => ⟨a - b, by rw [ha, hb, EReal.coe_sub]⟩
theorem Re.mul {x y : EReal} : Re x → Re y → Re (x * y)
  | ⟨a, ha⟩, ⟨b, hb⟩ => ⟨a * b, by rw [ha, hb, EReal.coe_mul]⟩
theorem Re.sum {ι : Type} (I : Finset ι) {f : ι → EReal} (h : ∀ k, Re (f k)) : Re (∑ k ∈ I, f k) := by
  classical
  induction I using Finset.induction_on with
  | empty => exact ⟨0, by simp⟩
  | insert k I hk ih => rw [Finset.sum_insert hk]; exact (h k).add ih
theorem Re.ne_top {x : EReal} : Re x → x ≠ ⊤
  | ⟨a, ha⟩ => ha ▸ EReal.coe_ne_top a
theorem Re.ne_bot {x : EReal} : Re x → x ≠ ⊥
  | ⟨a, ha⟩ => ha ▸ EReal.coe_ne_bot a
theorem Re.of {x : EReal} (ht : x ≠ ⊤) (hb : x ≠ ⊥) : Re x := ⟨x.toReal, (EReal.coe_toReal ht hb).symm⟩

/-! ## The attention -/

/-- Queries, keys and values: by batch, position and lane, eight heads of 64 lanes. -/
abbrev Arr : Type := (⟨3, ![4, 8192, 512]⟩ : Shape).Idx → EReal
/-- The biases: by batch, position and head. -/
abbrev Bias : Type := (⟨3, ![4, 8192, 8]⟩ : Shape).Idx → EReal

/-- A head's lane. -/
def lane (h : Fin 8) (d : Fin 64) : Fin 512 := ⟨h.val * 64 + d.val, by omega⟩

variable (Q K V : Arr) (C : Bias)

/-- A query's score at a key, -/
def raw (b : Fin 4) (h : Fin 8) (r n : Fin 8192) : EReal :=
  (∑ d : Fin 64, Q (ix3 b r (lane h d)) * K (ix3 b n (lane h d))) + (C (ix3 b r h) - C (ix3 b n h))

/-- masked to the keys that are not after the query, -/
def score (b : Fin 4) (h : Fin 8) (r : Fin 8192) (n : ℕ) : EReal :=
  if hn : n < 8192 then (if n ≤ r.val then raw Q K C b h r ⟨n, hn⟩ else ⊥) else ⊥

/-- a lane of the values, -/
def value (b : Fin 4) (w : Fin 512) (n : ℕ) : EReal := if hn : n < 8192 then V (ix3 b ⟨n, hn⟩ w) else 0

/-- and the mean of the values by the exponentials of the scores. -/
def att (b : Fin 4) (r : Fin 8192) (w : Fin 512) : EReal :=
  Ideal.div (ac (score Q K C b ⟨w.val / 64, by omega⟩ r) (value V b w) 8192) (sm (score Q K C b ⟨w.val / 64, by omega⟩ r) 8192)

/-- Finite queries, keys and biases. -/
structure Finite : Prop where
  q : ∀ i, Re (Q i)
  k : ∀ i, Re (K i)
  c : ∀ i, Re (C i)

variable {Q K C} (fin : Finite Q K C)
include fin

theorem raw_real (b : Fin 4) (h : Fin 8) (r n : Fin 8192) : Re (raw Q K C b h r n) :=
  (Re.sum _ fun d => (fin.q _).mul (fin.k _)).add ((fin.c _).sub (fin.c _))

theorem score_ne_top (b : Fin 4) (h : Fin 8) (r : Fin 8192) (n : ℕ) : score Q K C b h r n ≠ ⊤ := by
  unfold score
  split_ifs
  · exact (raw_real fin _ _ _ _).ne_top
  · exact bot_ne_top
  · exact bot_ne_top

theorem score_zero (b : Fin 4) (h : Fin 8) (r : Fin 8192) : score Q K C b h r 0 ≠ ⊥ := by
  unfold score
  rw [dif_pos (by decide), if_pos (Nat.zero_le _)]
  exact (raw_real fin _ _ _ _).ne_bot

omit fin in
/-- A key after the query does not count. -/
theorem score_after (b : Fin 4) (h : Fin 8) (r : Fin 8192) (n : ℕ) (hn : r.val < n) : score Q K C b h r n = ⊥ := by
  unfold score
  split_ifs
  · omega
  · rfl
  · rfl

end Cert.Attn

end
-- ==== Proof.Att.Value.lean ====
/- The attention call's result: the state after a block is the attention over the keys met so far, so what a row's
   diagonal block writes out is the attention over all keys that count. -/
module

public import proofs.«01_k».proof.Proof.Att.Blocks
public import proofs.«01_k».proof.Proof.Att.Attn

@[expose] public section

set_option maxRecDepth 16384

noncomputable section

namespace Cert.KernelIdeal.Att

open Idealize.ShloMosaic Idealize.ShloMosaic.TcCoe Idealize.ShloMosaic.Tactic
open Cert.KernelIdeal.Gen Cert.Online Cert.Attn
open Idealize.ShloMosaic.Pipeline (Dat)
open scoped BigOperators

/-! ## One block -/

theorem sc_at (s : St Ideal) (i : grid0.Coords) (x1 : Vec Ideal S1x512x256 .bf16) (x3 : Vec Ideal S1x1x512x4 .f32)
    (x4 : Vec Ideal S1x1x4x512 .f32) (h : Fin 4) (a b : Fin 512) :
    s.sc i x1 x3 x4 h (ix2 a b)
      = if (i 3).val * 512 + b.val ≤ (i 2).val * 512 + a.val then
          (∑ l : Fin 256, s.q (ix3 h a l) * x1 (ix3 0 b l)) + (x3 (ix4 0 0 a h) - x4 (ix4 0 0 h b)) else ⊥ := by
  unfold St.sc
  rw [scores_at, causal_at _ _ (i 2).isLt (i 3).isLt]
  simp only [slab_at, pay12_at, colOf_at, rowOf_at, pay14_at, pay15_at]
  split_ifs <;> rfl

/-- A head's queries are zero off its lanes: the product over all lanes is the one over its own. -/
theorem dot_own (h : Fin 4) (p k : Fin 256 → EReal) :
    (∑ l : Fin 256, (if l.val / 64 = h.val then p l else 0) * k l)
      = ∑ d : Fin 64, p ⟨h.val * 64 + d.val, by omega⟩ * k ⟨h.val * 64 + d.val, by omega⟩ := by
  rw [Fin.sum_univ_tiles 4 64 rfl, Finset.sum_eq_single h]
  · refine Finset.sum_congr rfl fun d _ => ?_
    rw [if_pos (by show (h.val * 64 + d.val) / 64 = h.val; omega)]
  · intro j _ hj
    refine Finset.sum_eq_zero fun d _ => ?_
    rw [if_neg (by show ¬(j.val * 64 + d.val) / 64 = h.val; have := Fin.val_ne_of_ne hj; omega), zero_mul]
  · intro hh; exact absurd (Finset.mem_univ _) hh

/-! ## The state after a number of keys -/

section
variable (Q K V : Arr) (C : Bias) (b : Fin 4) (g : Fin 2) (i : Fin 16)

/-- A query's position, a head's number and a lane of the arrays, from those in the block. -/
def row (j : Fin 16) (a : Fin 512) : Fin 8192 := ⟨j.val * 512 + a.val, by omega⟩
def head (h : Fin 4) : Fin 8 := ⟨g.val * 4 + h.val, by omega⟩
def col (w : Fin 256) : Fin 512 := ⟨g.val * 256 + w.val, by omega⟩

/-- The state holds the attention over the first `n` keys. -/
structure Inv (n : ℕ) (s : St Ideal) : Prop where
  q : ∀ (h : Fin 4) (a : Fin 512) (l : Fin 256),
    s.q (ix3 h a l) = if l.val / 64 = h.val then Q (ix3 b (row i a) (col g l)) else (0 : EReal)
  m : ∀ (h : Fin 4) (a : Fin 512), s.m (ix3 h a 0) = mx (score Q K C b (head g h) (row i a)) n
  l : ∀ (h : Fin 4) (a : Fin 512), s.l (ix3 h a 0) = sm (score Q K C b (head g h) (row i a)) n
  a : ∀ (h : Fin 4) (a : Fin 512) (w : Fin 256),
    s.a (ix3 h a w) = ac (score Q K C b (head g h) (row i a)) (value V b (col g w)) n

variable {Q K V C b g i}

theorem Inv.init (x0 : Vec Ideal S1x512x256 .bf16)
    (e0 : ∀ (a : Fin 512) (l : Fin 256), x0 (ix3 0 a l) = Q (ix3 b (row i a) (col g l))) :
    Inv Q K V C b g i 0 (St.init x0) where
  q h a l := by
    show headQ x0 h (at0 a l) = _
    rw [at0_eq, headQ_at, headLanes_at, e0]
    split_ifs <;> rfl
  m h a := by
    show k0_pay2 (F := Ideal) (ix3 h a 0) = _
    pointwise [k0_pay2]
    exact mask_bot
  l h a := by
    show k0_pay3 (F := Ideal) (ix3 h a 0) = _
    pointwise [k0_pay3]
    rfl
  a h a w := by
    show k0_pay4 (F := Ideal) (ix3 h a w) = _
    pointwise [k0_pay4]
    rfl

theorem Inv.step (fin : Finite Q K C) {j : Fin 16} {s : St Ideal} (inv : Inv Q K V C b g i (j.val * 512) s) (ii : grid0.Coords)
    (h2 : (ii 2).val = i.val) (h3 : (ii 3).val = j.val)
    (x1 x2 : Vec Ideal S1x512x256 .bf16) (x3 : Vec Ideal S1x1x512x4 .f32) (x4 : Vec Ideal S1x1x4x512 .f32)
    (e1 : ∀ (a : Fin 512) (l : Fin 256), x1 (ix3 0 a l) = K (ix3 b (row j a) (col g l)))
    (e2 : ∀ (a : Fin 512) (l : Fin 256), x2 (ix3 0 a l) = V (ix3 b (row j a) (col g l)))
    (e3 : ∀ (a : Fin 512) (h : Fin 4), x3 (ix4 0 0 a h) = C (ix3 b (row i a) (head g h)))
    (e4 : ∀ (a : Fin 512) (h : Fin 4), x4 (ix4 0 0 h a) = C (ix3 b (row j a) (head g h))) :
    Inv Q K V C b g i (j.val * 512 + 512) (s.step ii x1 x2 x3 x4) := by
  have hsc : ∀ (h : Fin 4) (a k : Fin 512),
      s.sc ii x1 x3 x4 h (ix2 a k) = score Q K C b (head g h) (row i a) (j.val * 512 + k.val) := by
    intro h a k
    rw [sc_at, h2, h3]
    unfold score
    rw [dif_pos (by omega)]
    refine if_congr Iff.rfl ?_ rfl
    simp only [inv.q, e1, e3, e4]
    rw [dot_own h (fun l => Q (ix3 b (row i a) (col g l))) (fun l => K (ix3 b (row j k) (col g l)))]
    have hl : ∀ d : Fin 64, col g ⟨h.val * 64 + d.val, by omega⟩ = lane (head g h) d := fun d =>
      Fin.ext (by simp only [col, lane, head]; omega)
    simp only [hl]
    rfl
  have hm : ∀ (h : Fin 4) (a : Fin 512), newMax (s.sc ii x1 x3 x4 h) (slab s.m h) (ix2 a 0)
      = mx (score Q K C b (head g h) (row i a)) (j.val * 512 + 512) := by
    intro h a
    rw [newMax_at, slab_at, inv.m, mx_add]
    refine congrArg _ (Finset.sup_congr rfl fun t ht => ?_)
    rw [dif_pos (Finset.mem_range.mp ht), hsc]
  have hs := fun h a => score_ne_top fin b (head g h) (row i a)
  have h0 := fun h a => score_zero fin b (head g h) (row i a)
  refine ⟨inv.q, fun h a => ?_, fun h a => ?_, fun h a w => ?_⟩
  · show headM (s.sc ii x1 x3 x4 h) (slab s.m h) (at0 a 0) = _
    rw [at0_eq, headM_at, hm]
  · show headL (s.sc ii x1 x3 x4 h) (slab s.m h) (slab s.l h) (at0 a 0) = _
    rw [at0_eq, headL_at, hm, slab_at, slab_at, inv.m, inv.l, sm_add (hs h a) (h0 h a) _ _ (by omega), Finset.sum_range]
    simp only [hsc]
  · show headA (k0_pay13 x2) (s.sc ii x1 x3 x4 h) (slab s.m h) (slab s.a h) (at0 a w) = _
    rw [at0_eq, headA_at, hm, slab_at, slab_at, inv.m, inv.a, ac_add _ (hs h a) (h0 h a) _ _ (by omega), Finset.sum_range]
    refine congrArg _ (Finset.sum_congr rfl fun k _ => ?_)
    rw [hsc, pay13_at, e2]
    unfold value
    rw [dif_pos (by omega)]
    rfl

/-- What the diagonal block writes out. -/
theorem Inv.out {s : St Ideal} (inv : Inv Q K V C b g i (i.val * 512 + 512) s) (a : Fin 512) (w : Fin 256) :
    s.out (ix3 0 a w) = att Q K V C b (row i a) (col g w) := by
  have key : ∀ h : Fin 4, headOut h (slab s.a h) (slab s.l h) (ix2 a w)
      = if w.val / 64 = h.val then att Q K V C b (row i a) (col g w) else 0 := by
    intro h
    rw [headOut_at, headLanes_at, slab_at, slab_at, inv.a, inv.l]
    by_cases hw : w.val / 64 = h.val
    · rw [if_pos hw, if_pos hw]
      have hh : (⟨(col g w).val / 64, by omega⟩ : Fin 8) = head g h := Fin.ext (by simp only [col, head]; omega)
      have hk : ∀ k, i.val * 512 + 512 ≤ k → score Q K C b (head g h) (row i a) k = ⊥ := fun k hk =>
        score_after _ _ _ _ (by simp only [row]; omega)
      have e8 : 8192 = i.val * 512 + 512 + (8192 - (i.val * 512 + 512)) := by omega
      unfold att
      rw [hh, e8, ac_stable _ hk, sm_stable hk]
      rfl
    · rw [if_neg hw, if_neg hw]; rfl
  rw [out_at, key, key, key, key]
  have hw : w.val < 256 := w.isLt
  rcases (by omega : w.val / 64 = 0 ∨ w.val / 64 = 1 ∨ w.val / 64 = 2 ∨ w.val / 64 = 3) with e | e | e | e <;> simp [e]

end

/-! ## Over the grid -/

variable (m : (ℓ : Loc nD τ sig) → Buf (Elt Ideal) ℓ) (c : Dev nD)

/-- The call's arrays. -/
abbrev aq : Arr := m ((c : Thread nD τ).loc main_arg0)
abbrev ak : Arr := m ((c : Thread nD τ).loc main_arg1)
abbrev av : Arr := m ((c : Thread nD τ).loc main_arg2)
abbrev ab : Bias := m ((c : Thread nD τ).loc main_arg3)

variable (fin : Finite (aq m c) (ak m c) (ab m c))

theorem coord2 (t : Fin cfg0.N) : (grid0.coords t 2).val = t.val / 16 % 16 := Pipeline.Grid.coords_val t 2 (by decide) rfl
theorem coord3 (t : Fin cfg0.N) : (grid0.coords t 3).val = t.val % 16 := by
  rw [show (grid0.coords t 3).val = t.val / 1 % 16 from Pipeline.Grid.coords_val t 3 (by decide) rfl, Nat.div_one]

/-- The point of a row of blocks and a block of keys. -/
def pt (b : Fin 4) (g : Fin 2) (i : Fin 16) (j : ℕ) (hj : j < 16) : Fin cfg0.N :=
  ⟨((b.val * 2 + g.val) * 16 + i.val) * 16 + j, Nat.lt_of_lt_of_eq (by omega) N_0.symm⟩

include fin in
theorem inv_at (b : Fin 4) (g : Fin 2) (i : Fin 16) : ∀ (j : ℕ) (hj : j < 16), j ≤ i.val →
    Inv (aq m c) (ak m c) (av m c) (ab m c) b g i (j * 512 + 512) (stAt m c (pt b g i j hj).val (pt b g i j hj).isLt) := by
  have step : ∀ (j : ℕ) (hj : j < 16) (hji : j ≤ i.val) (s : St Ideal),
      Inv (aq m c) (ak m c) (av m c) (ab m c) b g i (j * 512) s →
      Inv (aq m c) (ak m c) (av m c) (ab m c) b g i (j * 512 + 512)
        (s.step (grid0.coords (pt b g i j hj)) (iblk m c 1 (pt b g i j hj)) (iblk m c 2 (pt b g i j hj)) (iblk m c 3 (pt b g i j hj))
          (iblk m c 4 (pt b g i j hj))) := by
    intro j hj hji s hs
    have hb : (pt b g i j hj).val / 512 = b.val := by simp only [pt]; omega
    have hg : (pt b g i j hj).val / 256 % 2 = g.val := by simp only [pt]; omega
    have hi : (pt b g i j hj).val / 16 % 16 = i.val := by simp only [pt]; omega
    have hk : (pt b g i j hj).val % 16 = j := by simp only [pt]; omega
    have hle : (pt b g i j hj).val % 16 ≤ (pt b g i j hj).val / 16 % 16 := by omega
    refine Inv.step (j := ⟨j, hj⟩) fin hs _ ((coord2 _).trans hi) ((coord3 _).trans hk) _ _ _ _ ?_ ?_ ?_ ?_
    · intro a l; refine (blk1 m c _ hle a l).trans ?_
      simp only [hb, hg, hk]; rfl
    · intro a l; refine (blk2 m c _ hle a l).trans ?_
      simp only [hb, hg, hk]; rfl
    · intro a h; refine (blk3 m c _ a h).trans ?_
      simp only [hb, hg, hi]; rfl
    · intro a h; refine (blk4 m c _ hle a h).trans ?_
      simp only [hb, hg, hk]; rfl
  intro j
  induction j with
  | zero =>
    intro hj _
    rw [stAt_start m c _ (by simp only [pt]; omega)]
    refine step 0 hj (Nat.zero_le _) _ ?_
    rw [Nat.zero_mul]
    refine Inv.init _ fun a l => (blk0 m c _ a l).trans ?_
    have hb : (pt b g i 0 hj).val / 512 = b.val := by simp only [pt]; omega
    have hg : (pt b g i 0 hj).val / 256 % 2 = g.val := by simp only [pt]; omega
    have hi : (pt b g i 0 hj).val / 16 % 16 = i.val := by simp only [pt]; omega
    simp only [hb, hg, hi]; rfl
  | succ j ih =>
    intro hj hji
    rw [stAt_step m c _ (by simp only [pt]; omega) (by simp only [pt]; omega)]
    refine step (j + 1) hj hji _ ?_
    have := ih (by omega) (by omega)
    rw [Nat.succ_mul]
    exact this

include fin in
/-- What a row of blocks writes out. -/
theorem outAt_at (t : Fin cfg0.N) (a : Fin 512) (w : Fin 256) :
    outAt m c t (ix3 0 a w) = att (aq m c) (ak m c) (av m c) (ab m c) ⟨t.val / 512, by have := tl t; omega⟩
      ⟨t.val / 16 % 16 * 512 + a.val, by omega⟩ ⟨t.val / 256 % 2 * 256 + w.val, by omega⟩ := by
  have ht := tl t
  have := (inv_at m c fin ⟨t.val / 512, by omega⟩ ⟨t.val / 256 % 2, by omega⟩ ⟨t.val / 16 % 16, by omega⟩ (t.val / 16 % 16)
    (by omega) (le_refl _)).out a w
  refine Eq.trans ?_ this
  have e : diag t = pt ⟨t.val / 512, by omega⟩ ⟨t.val / 256 % 2, by omega⟩ ⟨t.val / 16 % 16, by omega⟩ (t.val / 16 % 16) (by omega) :=
    Fin.ext (by simp only [diag, pt]; omega)
  unfold outAt
  simp only [e]

include fin in
/-- The array the call leaves is the attention. -/
theorem final : (dats m 0 c).arrAt 5 (cfgs 0).N
    = fun y : S4x8192x512.Idx => att (aq m c) (ak m c) (av m c) (ab m c) (y 0) (y 1) (y 2) := by
  refine (dats m 0 c).arrAt_eq_of_covers 5 _ (by decide +kernel) fun t _ y => ?_
  blk_simp
  rw [after0_5]
  idx_vars y
  have hy : y0 = 0 := Subsingleton.elim _ _
  subst hy
  have e := tl t
  have hp : ((cfg0.win 5).blk t).view.emb (ix3 0 y1 y2)
      = ix3 (n0 := 4) (n1 := 8192) (n2 := 512) ⟨t.val / 512, by omega⟩ ⟨t.val / 16 % 16 * 512 + y1.val, by omega⟩ ⟨t.val / 256 % 2 * 256 + y2.val, by omega⟩ := by
    blk_ext [idx t]
  have e0 := congrFun hp 0
  have e1 := congrFun hp 1
  have e2 := congrFun hp 2
  refine (outAt_at m c fin t y1 y2).trans ?_
  exact (congr (congr (congrArg (att (aq m c) (ak m c) (av m c) (ab m c)) e0) e1) e2).symm

end Cert.KernelIdeal.Att

end
-- ==== Proof.Att.Pre.lean ====
/- What the precondition says: the queries, the keys and the biases are finite numbers. -/
module

public import proofs.«01_k».proof.Defs
public import proofs.«01_k».proof.Proof.Att.Value

@[expose] public section

noncomputable section

namespace Cert.KernelIdeal.Att

open Idealize.ShloMosaic Idealize.ShloMosaic.TcCoe Idealize.ShloMosaic.Tactic
open Cert.KernelIdeal.Gen Cert.Attn

theorem preFacts : Cert.Pre_finite.Facts where
  bcast_S_S4x8192x512 := by decide
  bcast_S_S4x8192x8 := by decide

theorem and_one {x y : BitVec 1} : x &&& y = 1#1 → x = 1#1 ∧ y = 1#1 := by revert x y; decide

theorem inf_bf16 : Ideal.ofBits .bf16 0x7F80#16 = (⊤ : EReal) := by simp [Ideal.ofBits, Ideal.ieee]

theorem inf_f32 : Ideal.ofBits .f32 0x7F800000#32 = (⊤ : EReal) := by simp [Ideal.ofBits, Ideal.ieee]

/-- A number strictly between the infinities is finite. -/
theorem re_of_cmp {x : EReal} (h : Ideal.cmp .ogt x (-⊤) &&& Ideal.cmp .olt x ⊤ = 1#1) : Re x := by
  obtain ⟨a, b⟩ := and_one h
  have a := (Ideal.cmp_ogt_eq_one _ _).1 a
  have b := (Ideal.cmp_olt_eq_one _ _).1 b
  exact .of b.ne (by rintro rfl; simp at a)

theorem finite_of (m : (ℓ : Loc nD τ sig) → Buf (Elt Ideal) ℓ) (h : @Cert.Pre_KernelIdeal_finite preFacts m) (c : Dev nD) :
    Finite (aq m c) (ak m c) (ab m c) := by
  obtain ⟨hq, hk, hc⟩ := h c
  refine ⟨fun i => re_of_cmp ?_, fun i => re_of_cmp ?_, fun i => re_of_cmp ?_⟩
  · rw [← inf_bf16]; exact congrFun hq i
  · rw [← inf_bf16]; exact congrFun hk i
  · rw [← inf_f32]; exact congrFun hc i

end Cert.KernelIdeal.Att

end
-- ==== Proof.Att.Ref.lean ====
/- The reference's result read at an index: the attention. -/
module

public import proofs.«01_k».proof.Proof.Gen.ReferenceIdeal.Read
public import proofs.«01_k».proof.Proof.Att.Attn
public import proofs.«01_k».proof.Proof.Att.Point

@[expose] public section

set_option maxRecDepth 16384

noncomputable section

namespace Cert.ReferenceIdeal.Att

open Idealize.ShloMosaic Idealize.ShloMosaic.TcCoe
open Cert.ReferenceIdeal Cert.ReferenceIdeal.Gen Cert.ReferenceIdeal.Read Cert.Attn Cert.Online
open Cert.KernelIdeal.Att (sle_nat fold_max_range neg_inf)
open scoped BigOperators

variable (Q K V : FVec Ideal S4x8192x512 .bf16) (C : FVec Ideal S4x8192x8 .f32)

/-- The scores before the mask, -/
theorem v15_at (b : Fin 4) (h : Fin 8) (r n : Fin 8192) :
    val_main_v15 (F := Ideal) Q K C (ix4 b h r n) = raw Q K C b h r n := by
  pointwise [val_main_v15, val_main_v14, val_main_v13, val_main_v12, val_main_v11, val_main_v10, val_main_v9, val_main_v8, val_main_v7,
    val_main_v3, val_main_v2, val_main_v1, val_main_v0]
  rw [sub_eq_add_neg, add_assoc, ← sub_eq_add_neg]
  rfl

/-- the mask, -/
theorem v20_at (r n : Fin 8192) : val_main_v20 (F := Ideal) (ix2 r n) = if n.val ≤ r.val then 1#1 else 0#1 := by
  pointwise [val_main_v20, val_main_v19, val_main_v18, val_main_v17, val_main_v16, val_main_v6]
  exact sle_nat (by omega) (by omega)

/-- the masked scores, -/
theorem v21_at (b : Fin 4) (h : Fin 8) (r n : Fin 8192) :
    val_main_v21 (F := Ideal) Q K C (ix4 b h r n) = score Q K C b h r n.val := by
  pointwise [val_main_v21, val_main_call0_v0, val_main_call0_v1, val_main_call0_v2, val_main_cst, v15_at, v20_at]
  rw [show id (constant (F := Ideal) S_ .f32 0xFF800000#32) ix0 = ⊥ from neg_inf]
  unfold score
  rw [dif_pos n.isLt]
  split_ifs <;> rfl

/-- their greatest, -/
theorem v22_at (b : Fin 4) (h : Fin 8) (r : Fin 8192) :
    val_main_v22 (F := Ideal) Q K C (ix3 b h r) = mx (score Q K C b h r) 8192 := by
  pointwise [val_main_v22, val_main_cst_0, v21_at]
  rw [neg_inf, fold_max_range]
  exact Finset.sup_congr rfl fun t ht => dif_pos (Finset.mem_range.mp ht)

/-- which no value below replaces, -/
theorem v24_at (b : Fin 4) (h : Fin 8) (r : Fin 8192) :
    val_main_v24 (F := Ideal) Q K C (ix3 b h r) = mx (score Q K C b h r) 8192 := by
  rw [val_main_v24_apply, v22_at]
  refine (max_eq_right ?_ : max (val_main_v23 (F := Ideal) (ix3 b h r)) _ = _)
  rw [val_main_v23_apply]
  exact le_of_eq_of_le neg_inf bot_le

theorem v26_at (b : Fin 4) (h : Fin 8) (r n : Fin 8192) :
    val_main_v26 (F := Ideal) Q K C (ix4 b h r n) = val_main_v24 (F := Ideal) Q K C (ix3 b h r) := by
  pointwise [val_main_v26, val_main_v25]

/-- the weights, -/
theorem v28_at (b : Fin 4) (h : Fin 8) (r n : Fin 8192) :
    val_main_v28 (F := Ideal) Q K C (ix4 b h r n) = Ideal.exp (score Q K C b h r n.val - mx (score Q K C b h r) 8192) := by
  rw [val_main_v28_apply, val_main_v27_apply, v21_at, v26_at, v24_at]
  rfl

/-- their sum, -/
theorem v29_at (b : Fin 4) (h : Fin 8) (r : Fin 8192) :
    val_main_v29 (F := Ideal) Q K C (ix3 b h r) = sm (score Q K C b h r) 8192 := by
  pointwise [val_main_v29, val_main_cst_2, v28_at]
  unfold sm
  rw [Finset.sum_range]

/-- the weighted values. -/
theorem v33_at (b : Fin 4) (h : Fin 8) (d : Fin 64) (r : Fin 8192) :
    val_main_v33 (F := Ideal) Q K V C (ix4 b h d r)
      = ∑ n : Fin 8192, V (ix3 b n (lane h d))
          * Ideal.div (Ideal.exp (score Q K C b h r n.val - mx (score Q K C b h r) 8192)) (sm (score Q K C b h r) 8192) := by
  pointwise [val_main_v33, val_main_v32, val_main_v31, val_main_v30, val_main_v5, val_main_v4, v28_at, v29_at]
  rfl

/-- The result is the attention. -/
theorem result_at (fin : Finite Q K C) (b : Fin 4) (r : Fin 8192) (w : Fin 512) :
    val_main_v36 (F := Ideal) Q K V C (ix3 b r w) = att Q K V C b r w := by
  pointwise [val_main_v36, val_main_v35, val_main_v34, v33_at]
  unfold att
  rw [quotient _ (score_ne_top fin _ _ _) (score_zero fin _ _ _) (by decide), Finset.sum_range]
  refine Finset.sum_congr rfl fun n _ => ?_
  unfold value
  rw [dif_pos n.isLt]
  refine congrArg₂ (· * ·) (congrArg V (congrArg (ix3 b n) (Fin.ext ?_))) rfl
  show w.val / 64 * 64 + w.val % 64 = w.val
  omega

end Cert.ReferenceIdeal.Att

end
-- ==== Proof.Att.Bits.lean ====
/- The printed kernel at the machine's own numbers is the idealized one with the named constant read as its word. -/
module

public import proofs.«01_k».proof.Defs
public import proofs.«01_k».proof.Proof.Gen.Kernel
public import proofs.«01_k».proof.Proof.Att.Frame

@[expose] public section

set_option maxRecDepth 16384

noncomputable section

namespace Cert.Kernel.Att

open Idealize.ShloMosaic Idealize.SL.Sem

/-- At the machine's numbers a named constant is its own word. -/
local instance word : Named Bits where
  named _ _ {φ} b := (FloatOps.ofBits φ b : Bits φ)

theorem body_eq : @Cert.Kernel.cc0_fox_prompt Bits _ _ = @Cert.KernelIdeal.cc0_fox_prompt Bits _ _ _ := rfl

theorem row_eq (t : Fin Cert.Kernel.grid0.N) (s) :
    @Cert.Kernel.defs₀ Bits _ _ .tc 0 (t, s) = @Cert.KernelIdeal.defs₀ Bits _ _ _ .tc 0 (t, s) := rfl

theorem defs0_eq : @Cert.Kernel.defs₀ Bits _ _ = @Cert.KernelIdeal.defs₀ Bits _ _ _ := by
  funext p l a
  match p, l, a with
  | .tc, 0, (t, s) => exact row_eq t s
  | .scScalar _, _, _ => rfl
  | .scVector _ _, _, _ => rfl

theorem defs_eq : @Cert.Kernel.defs Bits _ _ = @Cert.KernelIdeal.defs Bits _ _ _ :=
  congrArg (Pipeline.defs Cert.KernelIdeal.pcfgs) defs0_eq

theorem main_eq : Cert.Kernel.main (F := Bits) = Cert.KernelIdeal.main (F := Bits) := rfl

/-- The frame: the arguments end as they were, the counters at zero. -/
theorem frame : @Cert.quiescent_Kernel Cert.Kernel.Gen.facts := by
  intro m g _
  have h := Cert.KernelIdeal.Att.frame (F := Bits) m g
  rw [← defs_eq, ← main_eq] at h
  exact h

end Cert.Kernel.Att

end
-- ==== Proof.Lay.Spec.lean ====
/- The layer's row-wise mathematics over the extended reals: the norm, the gates, the mixing of the two branches. -/
module

public import Idealize.ShloMosaic.Lib.Pointwise

@[expose] public section

noncomputable section

namespace Cert.Lay

open Idealize.ShloMosaic
open scoped BigOperators

/-- A row's norm: the row over the root of its mean square, scaled. -/
def rms (x g : Fin 1024 → EReal) (k : Fin 1024) : EReal :=
  x k * Ideal.rsqrt (Ideal.div (∑ j, x j * x j) (Ideal.ofBits FTy.f32 0x44800000#32) + Ideal.ofBits FTy.f32 0x358637BD#32) * g k

/-- A gate: the logistic function of the normed row against a column. -/
def gate (x g : Fin 1024 → EReal) (w : Fin 1024 → EReal) : EReal :=
  Ideal.div 1 (1 + Ideal.exp (0 - ∑ k, rms x g k * w k))

/-- The normed row against a column. -/
def col (x g : Fin 1024 → EReal) (w : Fin 1024 → EReal) : EReal := ∑ k, rms x g k * w k

/-- The logarithm of the logistic function. -/
def logSig (z : EReal) : EReal := min z 0 - Ideal.log (1 + Ideal.exp (0 - FloatOps.absf (F := Ideal) (φ := FTy.f32) z))

/-- The two branches, each projected and gated, added. -/
def mixed (x g : Fin 1024 → EReal) (wa wb : Fin 1024 → Fin 1024 → EReal) (oa ob : Fin 512 → EReal) (pa pb : Fin 512 → Fin 1024 → EReal)
    (d : Fin 1024) : EReal :=
  gate x g (fun k => wa k d) * (∑ j, oa j * pa j d) + gate x g (fun k => wb k d) * ∑ j, ob j * pb j d

/-- The row after the mixing: the row and its projected mixture. -/
def x1 (x g : Fin 1024 → EReal) (wa wb : Fin 1024 → Fin 1024 → EReal) (oa ob : Fin 512 → EReal) (pa pb : Fin 512 → Fin 1024 → EReal)
    (wo : Fin 1024 → Fin 1024 → EReal) (d : Fin 1024) : EReal :=
  x d + ∑ e, mixed x g wa wb oa ob pa pb e * wo e d

/-- A value times its logistic function. -/
def silu (z : EReal) : EReal := z * Ideal.div 1 (1 + Ideal.exp (0 - z))

/-- An expert's output at one column: its gated hidden row against that column. -/
def expert (h : Fin 1024 → EReal) (wg wu : Fin 1024 → Fin 256 → EReal) (wd : Fin 256 → EReal) : EReal :=
  ∑ f, silu (∑ k, h k * wg k f) * (∑ k, h k * wu k f) * wd f

/-- A recurrence column, where it is laid out. -/
def place (e : Fin 1792) : Fin 1920 :=
  if e.val < 1600 then ⟨e.val, by omega⟩ else if e.val < 1664 then ⟨64 + e.val, by omega⟩ else ⟨128 + e.val, by omega⟩

theorem place_val (e : Fin 1792) :
    (place e).val = if e.val < 1600 then e.val else if e.val < 1664 then 64 + e.val else 128 + e.val := by
  unfold place
  split_ifs <;> rfl

/-- The softplus of −z, negated, is the logarithm of the logistic function of z, at every extended real. -/
theorem neg_softplus (z : EReal) :
    -(max (-z) 0 + Ideal.log1p (Ideal.exp (-FloatOps.absf (F := Ideal) (φ := FTy.f32) (-z)))) = logSig z := by
  have ha : FloatOps.absf (F := Ideal) (φ := FTy.f32) (-z) = FloatOps.absf (F := Ideal) (φ := FTy.f32) z := by
    rw [Ideal.absf_def, Ideal.absf_def, neg_neg, max_comm]
  have hm : -(max (-z) 0) = min z 0 := by
    rcases le_total z 0 with h | h
    · rw [max_eq_left (EReal.neg_nonneg.mpr h), neg_neg, min_eq_left h]
    · rw [max_eq_right (by simpa using EReal.neg_le_neg_iff.mpr h), neg_zero, min_eq_right h]
  unfold logSig Ideal.log1p
  rw [ha, sub_eq_add_neg 0, zero_add, EReal.neg_add, hm]
  · exact Or.inl (ne_of_gt (lt_of_lt_of_le EReal.bot_lt_zero (le_max_right _ _)))
  · rcases eq_or_ne z ⊥ with rfl | h
    · right
      rw [Ideal.absf_def, EReal.neg_bot, max_eq_right bot_le, EReal.neg_top]
      have h1 : 1 + Ideal.exp ⊥ = ((1 : ℝ) : EReal) := by
        show (1 : EReal) + 0 = _
        simp
      rw [h1]
      show (if (1 : ℝ) ≤ 0 then (⊥ : EReal) else (Real.log 1 : EReal)) ≠ ⊥
      rw [if_neg (by norm_num)]
      exact EReal.coe_ne_bot _
    · left
      rcases max_choice (-z) 0 with e | e
      · rw [e]
        exact fun hz => h (by rw [← neg_neg z, hz, EReal.neg_top])
      · rw [e]
        exact EReal.zero_ne_top

/-- A sum over the lanes that keeps the lane of a given number is that lane's entry. -/
theorem lane_sum (n : Nat) (hn : n < 128) (f : Fin 128 → EReal) :
    ∑ x : Fin 128, Scalar.select (IntOp.cmpi CmpIPredicate.eq (BitVec.ofNat 32 x.val) (BitVec.ofNat 32 n)) (f x) 0 = f ⟨n, hn⟩ := by
  have h : ∀ x : Fin 128, Scalar.select (IntOp.cmpi CmpIPredicate.eq (BitVec.ofNat 32 x.val) (BitVec.ofNat 32 n)) (f x) 0
      = if x = ⟨n, hn⟩ then f x else 0 := fun x => by
    have hx : (BitVec.ofNat 32 x.val = BitVec.ofNat 32 n) ↔ x = ⟨n, hn⟩ := by
      rw [Fin.ext_iff, ← BitVec.toNat_inj]
      simp only [BitVec.toNat_ofNat]
      omega
    unfold Scalar.select IntOp.cmpi
    by_cases hp : x = ⟨n, hn⟩
    · simp [hp]
    · have hq : BitVec.ofNat 32 x.val ≠ BitVec.ofNat 32 n := fun h => hp (hx.mp h)
      rw [if_neg hp]
      simp [beq_eq_false_iff_ne.mpr hq]
  simp only [h, Finset.sum_ite_eq', Finset.mem_univ, if_true]

end Cert.Lay

end
-- ==== Proof.Lay.Proj.lean ====
/- The in-projection's block, read at an index, and the arrays the host lays out for it and cuts from its results. -/
module

public import proofs.«01_k».proof.Proof.Gen.Kernel2Ideal.Frame
public import proofs.«01_k».proof.Proof.Lay.Spec
public import Idealize.ShloMosaic.Lib.Pipeline.ValueKit

@[expose] public section

set_option maxRecDepth 16384

noncomputable section

namespace Cert.Kernel2Ideal.Proj

open Idealize.ShloMosaic Idealize.ShloMosaic.TcCoe Idealize.ShloMosaic.Tactic
open Cert.Kernel2Ideal.Gen Cert.Lay

section blocks

variable (x0 : Vec Ideal S512x1024 .f32) (x1 : Vec Ideal S1x1024 .f32) (x2 : Vec Ideal S1024x3584 .bf16) (x3 : Vec Ideal S1x128 .f32)

theorem pay4_at (a : Fin 512) (k : Fin 1024) : k0_pay4 x0 x1 (ix2 a k) = rms (fun k => x0 (ix2 a k)) (fun k => x1 (ix2 0 k)) k := by
  pointwise [k0_pay4]
  rfl

/-- A row's product with one column of the weights' block. -/
def at_ (a : Fin 512) (e : Fin 3584) : EReal :=
  col (fun k => x0 (ix2 a k)) (fun k => x1 (ix2 0 k)) (fun k => x2 (ix2 k e))

theorem out4_at (a : Fin 512) (e : Fin 512) :
    out0_4 x0 x1 x2 x3 (ix2 a e) = at_ x0 x1 x2 a ⟨e.val, by omega⟩ * Ideal.ofBits FTy.f32 0x3E000000#32 := by
  unfold_out out0_4
  frame_out
  pointwise [k0_pay5, pay4_at]
  rfl

theorem out5_at (a : Fin 512) (e : Fin 512) : out0_5 x0 x1 x2 x3 (ix2 a e) = at_ x0 x1 x2 a ⟨512 + e.val, by omega⟩ := by
  unfold_out out0_5
  frame_out
  pointwise [k0_pay6, pay4_at]
  rfl

theorem out6_at (a : Fin 512) (e : Fin 512) : out0_6 x0 x1 x2 x3 (ix2 a e) = at_ x0 x1 x2 a ⟨1024 + e.val, by omega⟩ := by
  unfold_out out0_6
  frame_out
  pointwise [k0_pay8, pay4_at]
  rfl

theorem out7_at (a : Fin 512) (e : Fin 512) : out0_7 x0 x1 x2 x3 (ix2 a e) = at_ x0 x1 x2 a ⟨512 + e.val, by omega⟩ := by
  unfold_out out0_7
  frame_out
  pointwise [k0_pay7, k0_pay6, pay4_at]
  rfl

theorem out8_at (a : Fin 512) (e : Fin 512) : out0_8 x0 x1 x2 x3 (ix2 a e) = at_ x0 x1 x2 a ⟨1024 + e.val, by omega⟩ := by
  unfold_out out0_8
  frame_out
  pointwise [k0_pay1, k0_pay8, pay4_at]
  rfl

theorem out9_at (a : Fin 512) (e : Fin 128) :
    out0_9 x0 x1 x2 x3 (ix2 a e) = logSig (at_ x0 x1 x2 a ⟨1536 + e.val, by omega⟩ + x3 (ix2 0 e)) := by
  unfold_out out0_9
  frame_out
  pointwise [k0_pay2, pay4_at]
  rfl

theorem out10_at (a : Fin 512) (e : Fin 1920) : out0_10 x0 x1 x2 x3 (ix2 a e) = at_ x0 x1 x2 a ⟨1664 + e.val, by omega⟩ := by
  unfold_out out0_10
  frame_out
  pointwise [k0_pay3, pay4_at]
  rfl

end blocks

section host

variable (m : (ℓ : Loc nD τ sig) → Buf (Elt Ideal) ℓ) (c : Dev nD)

/-- The weights as launched. -/
abbrev wt : FVec Ideal S1024x5384 .f32 := m ((c : Thread nD τ).loc main_arg2)

/-- The columns of the recurrence, -/
def recCols : FVec Ideal S1024x1792 .f32 := extractStridedSlice S1024x1792 ![0, 1544] (wt m c) slices_S1024x5384_S1024x1792_0_1544

/-- the zeros between their parts, -/
def zeros : FVec Ideal S1024x64 .f32 := broadcastInDim S1024x64 ![] bcast_S_S1024x64 (constant S_ FTy.f32 0x00000000#32)

theorem V_v9 : V m c main_v9 = concatenate S1024x1920 1
    [⟨S1024x1536, extractStridedSlice S1024x1536 ![0, 0] (recCols m c) slices_S1024x1792_S1024x1536_0_0⟩,
     ⟨S1024x64, extractStridedSlice S1024x64 ![0, 1536] (recCols m c) slices_S1024x1792_S1024x64_0_1536⟩, ⟨S1024x64, zeros⟩,
     ⟨S1024x64, extractStridedSlice S1024x64 ![0, 1600] (recCols m c) slices_S1024x1792_S1024x64_0_1600⟩, ⟨S1024x64, zeros⟩,
     ⟨S1024x128, extractStridedSlice S1024x128 ![0, 1664] (recCols m c) slices_S1024x1792_S1024x128_0_1664⟩]
    concatenates_S1024x1536_S1024x64_S1024x64_S1024x64_S1024x64_S1024x128_S1024x1920_d1 := by
  show StableHlo.after hostOps0 (fun b => m (c, b)) (Proc.tc.devRef main_v9) = _
  after_results
  rfl

theorem V_v2 : V m c main_v2 = concatenate S1024x128 1
    [⟨S1024x8, extractStridedSlice S1024x8 ![0, 1536] (wt m c) slices_S1024x5384_S1024x8_0_1536⟩,
     ⟨S1024x120, broadcastInDim S1024x120 ![] bcast_S_S1024x120 (constant (F := Ideal) S_ FTy.f32 0x00000000#32)⟩]
    concatenates_S1024x8_S1024x120_S1024x128_d1 := by
  show StableHlo.after hostOps0 (fun b => m (c, b)) (Proc.tc.devRef main_v2) = _
  after_results

theorem V_v12 : V m c main_v12 = concatenate S1024x3584 1
    [⟨S1024x1536, extractStridedSlice S1024x1536 ![0, 0] (wt m c) slices_S1024x5384_S1024x1536_0_0⟩,
     ⟨S1024x128, V m c main_v2⟩, ⟨S1024x1920, V m c main_v9⟩] concatenates_S1024x1536_S1024x128_S1024x1920_S1024x3584_d1 := by
  show StableHlo.after hostOps0 (fun b => m (c, b)) (Proc.tc.devRef main_v12) = _
  after_results
  rfl

theorem V_v13 (k : Fin 1024) (e : Fin 3584) : V m c main_v13 (ix2 k e) = V m c main_v12 (ix2 k e) := by
  show StableHlo.after hostOps0 (fun b => m (c, b)) (Proc.tc.devRef main_v13) _ = StableHlo.after hostOps0 (fun b => m (c, b)) (Proc.tc.devRef main_v12) _
  after_results
  rfl

theorem V_v10 (z : Fin 1) (k : Fin 1024) : V m c main_v10 (ix2 z k) = m ((c : Thread nD τ).loc main_arg1) (ix1 k) := by
  show StableHlo.after hostOps0 (fun b => m (c, b)) (Proc.tc.devRef main_v10) _ = _
  after_results
  pointwise

theorem V_v17 (n : Fin 32768) (k : Fin 1024) : V m c main_v17 (ix2 n k)
    = m ((c : Thread nD τ).loc main_arg0) (ix3 ⟨n.val / 8192, by omega⟩ ⟨n.val % 8192, by omega⟩ k) := by
  show StableHlo.after hostOps0 (fun b => m (c, b)) (Proc.tc.devRef main_v17) _ = _
  after_results
  pointwise

theorem V_v16 (z : Fin 1) (h : Fin 8) : V m c main_v16 (ix2 z ⟨h.val, by omega⟩) = m ((c : Thread nD τ).loc main_arg3) (ix1 h) := by
  show StableHlo.after hostOps0 (fun b => m (c, b)) (Proc.tc.devRef main_v16) _ = _
  after_results
  pointwise

/-! The columns of the laid-out weights that the results need. -/

theorem w_qkv (k : Fin 1024) (e : Fin 1536) : V m c main_v13 (ix2 k ⟨e.val, by omega⟩) = wt m c (ix2 k ⟨e.val, by omega⟩) := by
  rw [V_v13, V_v12]
  pointwise

theorem w_f (k : Fin 1024) (h : Fin 8) :
    V m c main_v13 (ix2 k ⟨1536 + h.val, by omega⟩) = wt m c (ix2 k ⟨1536 + h.val, by omega⟩) := by
  rw [V_v13, V_v12, V_v2]
  pointwise
  rw [dif_pos (by omega)]

theorem w_rec (k : Fin 1024) (e : Fin 1792) :
    V m c main_v13 (ix2 k ⟨1664 + (place e).val, by omega⟩) = wt m c (ix2 k ⟨1544 + e.val, by omega⟩) := by
  rw [V_v13, V_v12, V_v9]
  pointwise [recCols]
  have hp := place_val e
  split_ifs <;> first
    | (exfalso; split_ifs at hp <;> omega)
    | exact congrArg (fun j => wt m c (ix2 k j)) (Fin.ext (by dsimp only; split_ifs at hp <;> omega))

/-- The rows of each sequence, -/
def rows (A : FVec Ideal S32768x1920 .f32) : FVec Ideal S4x8192x1920 .f32 := shapeCast S4x8192x1920 A shapeCasts_S32768x1920_S4x8192x1920

theorem rows_at (A : FVec Ideal S32768x1920 .f32) (b : Fin 4) (n : Fin 8192) (e : Fin 1920) :
    rows A (ix3 b n e) = A (ix2 ⟨b.val * 8192 + n.val, by omega⟩ e) := by
  pointwise [rows]

/-- and the last of them. -/
def last (A : FVec Ideal S32768x1920 .f32) : FVec Ideal S4x1920 .f32 :=
  shapeCast S4x1920 (extractStridedSlice S4x1x1920 ![0, 8191, 0] (shapeCast S4x8192x1920 A shapeCasts_S32768x1920_S4x8192x1920)
    slices_S4x8192x1920_S4x1x1920_0_8191_0) shapeCasts_S4x1x1920_S4x1920

theorem last_at (A : FVec Ideal S32768x1920 .f32) (b : Fin 4) (e : Fin 1920) :
    last A (ix2 b e) = A (ix2 ⟨b.val * 8192 + 8191, by omega⟩ e) := by
  pointwise [last]

theorem tail_lf (U : Valuation τ sig (Elt Ideal)) : StableHlo.after hostOps1 U (Proc.tc.devRef main_v21)
    = extractStridedSlice S4x8192x8 ![0, 0, 0] (shapeCast S4x8192x128 (U (Proc.tc.devRef main_v18_5)) shapeCasts_S32768x128_S4x8192x128)
        slices_S4x8192x128_S4x8192x8_0_0_0 := by
  after_results
  rfl

theorem lf_at (A : FVec Ideal S32768x128 .f32) (b : Fin 4) (n : Fin 8192) (h : Fin 8) :
    extractStridedSlice S4x8192x8 ![0, 0, 0] (shapeCast S4x8192x128 A shapeCasts_S32768x128_S4x8192x128)
      slices_S4x8192x128_S4x8192x8_0_0_0 (ix3 b n h) = A (ix2 ⟨b.val * 8192 + n.val, by omega⟩ ⟨h.val, by omega⟩) := by
  pointwise

theorem tail_shift (U : Valuation τ sig (Elt Ideal)) : StableHlo.after hostOps1 U (Proc.tc.devRef main_v28) = concatenate S4x1792 1
    [⟨S4x1536, extractStridedSlice S4x1536 ![0, 0] (last (U (Proc.tc.devRef main_v18_6))) slices_S4x1920_S4x1536_0_0⟩,
     ⟨S4x64, extractStridedSlice S4x64 ![0, 1536] (last (U (Proc.tc.devRef main_v18_6))) slices_S4x1920_S4x64_0_1536⟩,
     ⟨S4x64, extractStridedSlice S4x64 ![0, 1664] (last (U (Proc.tc.devRef main_v18_6))) slices_S4x1920_S4x64_0_1664⟩,
     ⟨S4x128, extractStridedSlice S4x128 ![0, 1792] (last (U (Proc.tc.devRef main_v18_6))) slices_S4x1920_S4x128_0_1792⟩]
    concatenates_S4x1536_S4x64_S4x64_S4x128_S4x1792_d1 := by
  after_results
  rfl

theorem shift_at (A : FVec Ideal S32768x1920 .f32) (b : Fin 4) (e : Fin 1792) : concatenate S4x1792 1
    [⟨S4x1536, extractStridedSlice S4x1536 ![0, 0] (last A) slices_S4x1920_S4x1536_0_0⟩,
     ⟨S4x64, extractStridedSlice S4x64 ![0, 1536] (last A) slices_S4x1920_S4x64_0_1536⟩,
     ⟨S4x64, extractStridedSlice S4x64 ![0, 1664] (last A) slices_S4x1920_S4x64_0_1664⟩,
     ⟨S4x128, extractStridedSlice S4x128 ![0, 1792] (last A) slices_S4x1920_S4x128_0_1792⟩]
    concatenates_S4x1536_S4x64_S4x64_S4x128_S4x1792_d1 (ix2 b e) = A (ix2 ⟨b.val * 8192 + 8191, by omega⟩ (place e)) := by
  pointwise [last_at]
  have hp := place_val e
  split_ifs <;> exact congrArg (fun j => A (ix2 ⟨b.val * 8192 + 8191, by omega⟩ j)) (Fin.ext (by dsimp only; split_ifs at hp <;> omega))

theorem tail_rec (U : Valuation τ sig (Elt Ideal)) : StableHlo.after hostOps1 U (Proc.tc.devRef main_v33) = concatenate S4x8192x1792 2
    [⟨S4x8192x1536, extractStridedSlice S4x8192x1536 ![0, 0, 0] (rows (U (Proc.tc.devRef main_v18_6))) slices_S4x8192x1920_S4x8192x1536_0_0_0⟩,
     ⟨S4x8192x64, extractStridedSlice S4x8192x64 ![0, 0, 1536] (rows (U (Proc.tc.devRef main_v18_6))) slices_S4x8192x1920_S4x8192x64_0_0_1536⟩,
     ⟨S4x8192x64, extractStridedSlice S4x8192x64 ![0, 0, 1664] (rows (U (Proc.tc.devRef main_v18_6))) slices_S4x8192x1920_S4x8192x64_0_0_1664⟩,
     ⟨S4x8192x128, extractStridedSlice S4x8192x128 ![0, 0, 1792] (rows (U (Proc.tc.devRef main_v18_6))) slices_S4x8192x1920_S4x8192x128_0_0_1792⟩]
    concatenates_S4x8192x1536_S4x8192x64_S4x8192x64_S4x8192x128_S4x8192x1792_d2 := by
  after_results
  rfl

theorem rec_at (A : FVec Ideal S32768x1920 .f32) (b : Fin 4) (n : Fin 8192) (e : Fin 1792) : concatenate S4x8192x1792 2
    [⟨S4x8192x1536, extractStridedSlice S4x8192x1536 ![0, 0, 0] (rows A) slices_S4x8192x1920_S4x8192x1536_0_0_0⟩,
     ⟨S4x8192x64, extractStridedSlice S4x8192x64 ![0, 0, 1536] (rows A) slices_S4x8192x1920_S4x8192x64_0_0_1536⟩,
     ⟨S4x8192x64, extractStridedSlice S4x8192x64 ![0, 0, 1664] (rows A) slices_S4x8192x1920_S4x8192x64_0_0_1664⟩,
     ⟨S4x8192x128, extractStridedSlice S4x8192x128 ![0, 0, 1792] (rows A) slices_S4x8192x1920_S4x8192x128_0_0_1792⟩]
    concatenates_S4x8192x1536_S4x8192x64_S4x8192x64_S4x8192x128_S4x8192x1792_d2 (ix3 b n e)
      = A (ix2 ⟨b.val * 8192 + n.val, by omega⟩ (place e)) := by
  pointwise [rows_at]
  have hp := place_val e
  split_ifs <;> exact congrArg (fun j => A (ix2 ⟨b.val * 8192 + n.val, by omega⟩ j)) (Fin.ext (by dsimp only; split_ifs at hp <;> omega))

end host

end Cert.Kernel2Ideal.Proj

end
-- ==== Proof.Lay.ProjValue.lean ====
/- The in-projection's arrays, as functions of the arrays it is given, and its run's results. -/
module

public import proofs.«01_k».proof.Proof.Gen.Kernel2Ideal.Frame
public import proofs.«01_k».proof.Proof.Lay.Proj

@[expose] public section

set_option maxRecDepth 16384

noncomputable section

namespace Cert.Kernel2Ideal.Proj

open Idealize.ShloMosaic Idealize.ShloMosaic.TcCoe Idealize.ShloMosaic.Tactic Idealize.SL.Sem
open Cert.Kernel2Ideal.Gen Cert.Lay

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem tl (t : Fin cfg0.N) : t.val < 64 := Nat.lt_of_lt_of_eq t.isLt N_0

/-- A row's product with a laid-out column. -/
def laid (n : Fin 32768) (e : Fin 3584) : EReal :=
  col (fun k => V m c main_v17 (ix2 n k)) (fun k => V m c main_v10 (ix2 0 k)) (fun k => V m c main_v13 (ix2 k e))

/-- The same over a part of the laid-out columns, -/
def part (o w : Nat) (ho : o + w ≤ 3584) (n : Fin 32768) (e : Fin w) : EReal := laid m c n ⟨o + e.val, by omega⟩

/-- scaled over the queries' columns, -/
def query (n : Fin 32768) (e : Fin 512) : EReal := laid m c n ⟨e.val, by omega⟩ * Ideal.ofBits FTy.f32 0x3E000000#32

/-- and the logarithm of the forget gate. -/
def forget (n : Fin 32768) (e : Fin 128) : EReal := logSig (part m c 1536 128 (by decide) n e + V m c main_v16 (ix2 0 e))

section block

variable (t : Fin cfg0.N)

theorem blk0 (a : Fin 512) (k : Fin 1024) :
    iblk m c 0 t (ix2 a k) = V m c main_v17 (ix2 ⟨t.val * 512 + a.val, by have := tl t; omega⟩ k) := by
  blk_ext [iblk, idx t]

theorem blk1 (k : Fin 1024) : iblk m c 1 t (ix2 0 k) = V m c main_v10 (ix2 0 k) := by
  blk_ext [iblk, idx t]

theorem blk2 (k : Fin 1024) (e : Fin 3584) : iblk m c 2 t (ix2 k e) = V m c main_v13 (ix2 k e) := by
  blk_ext [iblk, idx t]

theorem blk3 (e : Fin 128) : iblk m c 3 t (ix2 0 e) = V m c main_v16 (ix2 0 e) := by
  blk_ext [iblk, idx t]

theorem laid_eq (a : Fin 512) (e : Fin 3584) : at_ (iblk m c 0 t) (iblk m c 1 t) (iblk m c 2 t) a e
    = laid m c ⟨t.val * 512 + a.val, by have := tl t; omega⟩ e := by
  unfold at_ laid
  simp only [blk0, blk1, blk2]

end block

/-! The arrays after the last point. -/

theorem final4 : (dats m 0 c).arrAt 4 cfg0.N = fun y : S32768x512.Idx => query m c (y 0) (y 1) := by
  refine (dats m 0 c).arrAt_eq_of_covers 4 _ (by decide +kernel) fun t _ y => ?_
  blk_simp
  rw [after0_4]
  idx_vars y
  rw [out4_at, laid_eq]
  have hp : ((cfg0.win 4).blk t).view.emb (ix2 y0 y1)
      = ix2 (n0 := 32768) (n1 := 512) ⟨t.val * 512 + y0.val, by have := tl t; omega⟩ y1 := by
    blk_ext [idx t]
  rw [hp]
  rfl

theorem final5 : (dats m 0 c).arrAt 5 cfg0.N = fun y : S32768x512.Idx => part m c 512 512 (by decide) (y 0) (y 1) := by
  refine (dats m 0 c).arrAt_eq_of_covers 5 _ (by decide +kernel) fun t _ y => ?_
  blk_simp
  rw [after0_5]
  idx_vars y
  rw [out5_at, laid_eq]
  have hp : ((cfg0.win 5).blk t).view.emb (ix2 y0 y1)
      = ix2 (n0 := 32768) (n1 := 512) ⟨t.val * 512 + y0.val, by have := tl t; omega⟩ y1 := by
    blk_ext [idx t]
  rw [hp]
  rfl

theorem final6 : (dats m 0 c).arrAt 6 cfg0.N = fun y : S32768x512.Idx => part m c 1024 512 (by decide) (y 0) (y 1) := by
  refine (dats m 0 c).arrAt_eq_of_covers 6 _ (by decide +kernel) fun t _ y => ?_
  blk_simp
  rw [after0_6]
  idx_vars y
  rw [out6_at, laid_eq]
  have hp : ((cfg0.win 6).blk t).view.emb (ix2 y0 y1)
      = ix2 (n0 := 32768) (n1 := 512) ⟨t.val * 512 + y0.val, by have := tl t; omega⟩ y1 := by
    blk_ext [idx t]
  rw [hp]
  rfl

theorem final7 : (dats m 0 c).arrAt 7 cfg0.N = fun y : S32768x512.Idx => part m c 512 512 (by decide) (y 0) (y 1) := by
  refine (dats m 0 c).arrAt_eq_of_covers 7 _ (by decide +kernel) fun t _ y => ?_
  blk_simp
  rw [after0_7]
  idx_vars y
  rw [out7_at, laid_eq]
  have hp : ((cfg0.win 7).blk t).view.emb (ix2 y0 y1)
      = ix2 (n0 := 32768) (n1 := 512) ⟨t.val * 512 + y0.val, by have := tl t; omega⟩ y1 := by
    blk_ext [idx t]
  rw [hp]
  rfl

theorem final8 : (dats m 0 c).arrAt 8 cfg0.N = fun y : S32768x512.Idx => part m c 1024 512 (by decide) (y 0) (y 1) := by
  refine (dats m 0 c).arrAt_eq_of_covers 8 _ (by decide +kernel) fun t _ y => ?_
  blk_simp
  rw [after0_8]
  idx_vars y
  rw [out8_at, laid_eq]
  have hp : ((cfg0.win 8).blk t).view.emb (ix2 y0 y1)
      = ix2 (n0 := 32768) (n1 := 512) ⟨t.val * 512 + y0.val, by have := tl t; omega⟩ y1 := by
    blk_ext [idx t]
  rw [hp]
  rfl

theorem final9 : (dats m 0 c).arrAt 9 cfg0.N = fun y : S32768x128.Idx => forget m c (y 0) (y 1) := by
  refine (dats m 0 c).arrAt_eq_of_covers 9 _ (by decide +kernel) fun t _ y => ?_
  blk_simp
  rw [after0_9]
  idx_vars y
  rw [out9_at, laid_eq, blk3]
  have hp : ((cfg0.win 9).blk t).view.emb (ix2 y0 y1)
      = ix2 (n0 := 32768) (n1 := 128) ⟨t.val * 512 + y0.val, by have := tl t; omega⟩ y1 := by
    blk_ext [idx t]
  rw [hp]
  rfl

theorem final10 : (dats m 0 c).arrAt 10 cfg0.N = fun y : S32768x1920.Idx => part m c 1664 1920 (by decide) (y 0) (y 1) := by
  refine (dats m 0 c).arrAt_eq_of_covers 10 _ (by decide +kernel) fun t _ y => ?_
  blk_simp
  rw [after0_10]
  idx_vars y
  rw [out10_at, laid_eq]
  have hp : ((cfg0.win 10).blk t).view.emb (ix2 y0 y1)
      = ix2 (n0 := 32768) (n1 := 1920) ⟨t.val * 512 + y0.val, by have := tl t; omega⟩ y1 := by
    blk_ext [idx t]
  rw [hp]
  rfl

/-! The run's results: the arrays, and what the host cuts from the last two. -/

section results

variable (X : FVec Ideal S4x8192x1024 .f32) (G : FVec Ideal S1024 .f32) (W : FVec Ideal S1024x5384 .f32) (B : FVec Ideal S8 .f32)

/-- A token's normed row against a column of the weights. -/
def proj (b : Fin 4) (n : Fin 8192) (e : Fin 5384) : EReal :=
  col (fun k => X (ix3 b n k)) (fun k => G (ix1 k)) (fun k => W (ix2 k e))

/-- The same over the tokens in a row, -/
def tok (n : Fin 32768) (e : Fin 5384) : EReal := proj X G W ⟨n.val / 8192, by omega⟩ ⟨n.val % 8192, by omega⟩ e

/-- over the queries' columns, scaled, -/
def qAt (n : Fin 32768) (e : Fin 512) : EReal := tok X G W n ⟨e.val, by omega⟩ * Ideal.ofBits FTy.f32 0x3E000000#32

/-- over the keys' columns, -/
def kAt (n : Fin 32768) (e : Fin 512) : EReal := tok X G W n ⟨512 + e.val, by omega⟩

/-- over the values' columns, -/
def vAt (n : Fin 32768) (e : Fin 512) : EReal := tok X G W n ⟨1024 + e.val, by omega⟩

/-- the logarithm of the forget gate -/
def lfAt (b : Fin 4) (n : Fin 8192) (h : Fin 8) : EReal := logSig (proj X G W b n ⟨1536 + h.val, by omega⟩ + B (ix1 h))

/-- and the recurrence's columns, -/
def recAt (b : Fin 4) (n : Fin 8192) (e : Fin 1792) : EReal := proj X G W b n ⟨1544 + e.val, by omega⟩

/-- with those of a sequence's last token. -/
def shiftAt (b : Fin 4) (e : Fin 1792) : EReal := recAt X G W b ⟨8191, by omega⟩ e

/-- The results as arrays. -/
abbrev qRes : FVec Ideal S32768x512 .bf16 := fun y => qAt X G W (y 0) (y 1)
@[inherit_doc qRes] abbrev kRes : FVec Ideal S32768x512 .f32 := fun y => kAt X G W (y 0) (y 1)
@[inherit_doc qRes] abbrev vRes : FVec Ideal S32768x512 .f32 := fun y => vAt X G W (y 0) (y 1)
@[inherit_doc qRes] abbrev lfRes : FVec Ideal S4x8192x8 .f32 := fun y => lfAt X G W B (y 0) (y 1) (y 2)
@[inherit_doc qRes] abbrev shiftRes : FVec Ideal S4x1792 .f32 := fun y => shiftAt X G W (y 0) (y 1)
@[inherit_doc qRes] abbrev recRes : FVec Ideal S4x8192x1792 .f32 := fun y => recAt X G W (y 0) (y 1) (y 2)

end results

/-- The arguments as launched. -/
abbrev argX : FVec Ideal S4x8192x1024 .f32 := m ((c : Thread nD τ).loc main_arg0)
@[inherit_doc argX] abbrev argG : FVec Ideal S1024 .f32 := m ((c : Thread nD τ).loc main_arg1)
@[inherit_doc argX] abbrev argB : FVec Ideal S8 .f32 := m ((c : Thread nD τ).loc main_arg3)

/-- A laid-out column that is a column of the weights. -/
theorem laid_proj (n : Fin 32768) (e : Fin 3584) (e' : Fin 5384) (h : ∀ k, V m c main_v13 (ix2 k e) = wt m c (ix2 k e')) :
    laid m c n e = tok (argX m c) (argG m c) (wt m c) n e' := by
  unfold laid tok proj
  congr 1
  · exact funext fun k => V_v17 m c n k
  · exact funext fun k => V_v10 m c 0 k
  · exact funext h

theorem laid_at (b : Fin 4) (n : Fin 8192) (e : Fin 3584) (e' : Fin 5384)
    (h : ∀ k, V m c main_v13 (ix2 k e) = wt m c (ix2 k e')) :
    laid m c ⟨b.val * 8192 + n.val, by omega⟩ e = proj (argX m c) (argG m c) (wt m c) b n e' := by
  rw [laid_proj m c _ e e' h]
  unfold tok
  congr 1
  · exact Fin.ext (by dsimp only; omega)
  · exact Fin.ext (by dsimp only; omega)

theorem final_q : (dats m 0 c).arrAt 4 cfg0.N = qRes (argX m c) (argG m c) (wt m c) := by
  rw [final4]
  funext y
  idx_vars y
  exact congrArg (· * Ideal.ofBits FTy.f32 0x3E000000#32) (laid_proj m c y0 _ _ fun k => w_qkv m c k ⟨y1.val, by omega⟩)

theorem final_k : (fun y : S32768x512.Idx => part m c 512 512 (by decide) (y 0) (y 1)) = kRes (argX m c) (argG m c) (wt m c) := by
  funext y
  idx_vars y
  exact laid_proj m c y0 _ _ fun k => w_qkv m c k ⟨512 + y1.val, by omega⟩

theorem final_v : (fun y : S32768x512.Idx => part m c 1024 512 (by decide) (y 0) (y 1)) = vRes (argX m c) (argG m c) (wt m c) := by
  funext y
  idx_vars y
  exact laid_proj m c y0 _ _ fun k => w_qkv m c k ⟨1024 + y1.val, by omega⟩

/-- The memory the host's last lines read. -/
abbrev atExit : Valuation τ sig (Elt Ideal) :=
  Pipeline.withArrays (cfgs 0).spec c (V0 m c) fun w => (dats m 0 c).arrAt w (cfgs 0).N

theorem final_lf : Pipeline.afterTail₀ cfgs (dats m) 0 (V0 m) [hostOps1] c main_v21
    = lfRes (argX m c) (argG m c) (wt m c) (argB m c) := by
  show StableHlo.after hostOps1 (atExit m c) (Proc.tc.devRef main_v21) = _
  have hA : atExit m c (Proc.tc.devRef main_v18_5) = (dats m 0 c).arrAt 9 cfg0.N :=
    Pipeline.withArrays_arr spec0 (by decide) c (V0 m c) (fun w => (dats m 0 c).arrAt w (cfgs 0).N) 9
  rw [tail_lf, hA, final9]
  funext y
  idx_vars y
  refine (lf_at _ y0 y1 y2).trans ?_
  exact congrArg logSig (congrArg₂ (· + ·) (laid_at m c y0 y1 _ _ fun k => w_f m c k y2) (V_v16 m c 0 y2))

theorem final_shift : Pipeline.afterTail₀ cfgs (dats m) 0 (V0 m) [hostOps1] c main_v28
    = shiftRes (argX m c) (argG m c) (wt m c) := by
  show StableHlo.after hostOps1 (atExit m c) (Proc.tc.devRef main_v28) = _
  have hA : atExit m c (Proc.tc.devRef main_v18_6) = (dats m 0 c).arrAt 10 cfg0.N :=
    Pipeline.withArrays_arr spec0 (by decide) c (V0 m c) (fun w => (dats m 0 c).arrAt w (cfgs 0).N) 10
  rw [tail_shift, hA, final10]
  funext y
  idx_vars y
  refine (shift_at _ y0 y1).trans ?_
  exact laid_at m c y0 ⟨8191, by omega⟩ _ _ fun k => w_rec m c k y1

theorem final_rec : Pipeline.afterTail₀ cfgs (dats m) 0 (V0 m) [hostOps1] c main_v33
    = recRes (argX m c) (argG m c) (wt m c) := by
  show StableHlo.after hostOps1 (atExit m c) (Proc.tc.devRef main_v33) = _
  have hA : atExit m c (Proc.tc.devRef main_v18_6) = (dats m 0 c).arrAt 10 cfg0.N :=
    Pipeline.withArrays_arr spec0 (by decide) c (V0 m c) (fun w => (dats m 0 c).arrAt w (cfgs 0).N) 10
  rw [tail_rec, hA, final10]
  funext y
  idx_vars y
  refine (rec_at _ y0 y1 y2).trans ?_
  exact laid_at m c y0 y1 _ _ fun k => w_rec m c k y2

/-- The run: its eight results and its arguments. -/
theorem run (ρ : Dev nD → PrngReg) : θ_run defs (onTc (τ := τ) (main (F := Ideal))) ⟨m, fun _ => 0, ρ⟩ (fun r => ∀ c : Dev nD,
    r.2.mem ((c.tc : Thread nD τ).loc main_v18_0) = qRes (argX m c) (argG m c) (wt m c)
    ∧ r.2.mem ((c.tc : Thread nD τ).loc main_v18_1) = kRes (argX m c) (argG m c) (wt m c)
    ∧ r.2.mem ((c.tc : Thread nD τ).loc main_v18_2) = vRes (argX m c) (argG m c) (wt m c)
    ∧ r.2.mem ((c.tc : Thread nD τ).loc main_v18_3) = kRes (argX m c) (argG m c) (wt m c)
    ∧ r.2.mem ((c.tc : Thread nD τ).loc main_v18_4) = vRes (argX m c) (argG m c) (wt m c)
    ∧ r.2.mem ((c.tc : Thread nD τ).loc main_v21) = lfRes (argX m c) (argG m c) (wt m c) (argB m c)
    ∧ r.2.mem ((c.tc : Thread nD τ).loc main_v28) = shiftRes (argX m c) (argG m c) (wt m c)
    ∧ r.2.mem ((c.tc : Thread nD τ).loc main_v33) = recRes (argX m c) (argG m c) (wt m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ⟨((h c).1 4).trans (final_q m c), ((h c).1 5).trans ((final5 m c).trans (final_k m c)),
    ((h c).1 6).trans ((final6 m c).trans (final_v m c)), ((h c).1 7).trans ((final7 m c).trans (final_k m c)),
    ((h c).1 8).trans ((final8 m c).trans (final_v m c)),
    ((h c).2 main_v21 (Pipeline.mem_restRefs_of main_v21 (by decide) (by decide))).trans (final_lf m c),
    ((h c).2 main_v28 (Pipeline.mem_restRefs_of main_v28 (by decide) (by decide))).trans (final_shift m c),
    ((h c).2 main_v33 (Pipeline.mem_restRefs_of main_v33 (by decide) (by decide))).trans (final_rec m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

end Cert.Kernel2Ideal.Proj

end
-- ==== Proof.Lay.ProjRef.lean ====
/- The in-projection's reference, its seven results read at an index, and the call's value claim. -/
module

public import proofs.«01_k».proof.Defs
public import proofs.«01_k».proof.Proof.Gen.Kernel2Ideal
public import proofs.«01_k».proof.Proof.Gen.Reference2Ideal
public import proofs.«01_k».proof.Proof.Gen.Reference2Ideal.Read
public import proofs.«01_k».proof.Proof.Lay.ProjValue
public import Idealize.ShloMosaic.Lib.Quiescent

@[expose] public section

set_option maxRecDepth 16384

noncomputable section

namespace Cert.Reference2Ideal.Proj

open Idealize.ShloMosaic Idealize.ShloMosaic.TcCoe Idealize.ShloMosaic.Tactic Idealize.SL.Sem
open Cert.Reference2Ideal Cert.Reference2Ideal.Gen Cert.Reference2Ideal.Read Cert.Lay
open Cert.Kernel2Ideal.Proj (proj tok qAt kAt vAt lfAt shiftAt qRes kRes vRes lfRes shiftRes recAt recRes)

variable (X : FVec Ideal S4x8192x1024 .f32) (G : FVec Ideal S1024 .f32) (W : FVec Ideal S1024x5384 .f32) (B : FVec Ideal S8 .f32)

theorem v12_at (b : Fin 4) (n : Fin 8192) (k : Fin 1024) :
    val_main_v12 (F := Ideal) X G (ix3 b n k) = rms (fun k => X (ix3 b n k)) (fun k => G (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v13_at (b : Fin 4) (n : Fin 8192) (e : Fin 5384) : val_main_v13 (F := Ideal) X G W (ix3 b n e) = proj X G W b n e := by
  pointwise [val_main_v13, v12_at]
  rfl

theorem v27_at (n : Fin 32768) (e : Fin 512) : val_main_v27 (F := Ideal) X G W (ix2 n e) = qAt X G W n e := by
  pointwise [val_main_v27, val_main_v26, val_main_v25, val_main_v24, val_main_cst_2, val_main_v15, val_main_v14, v13_at]
  rfl

theorem v28_at (n : Fin 32768) (e : Fin 512) : val_main_v28 (F := Ideal) X G W (ix2 n e) = kAt X G W n e := by
  pointwise [val_main_v28, val_main_v16, val_main_v14, v13_at]
  rfl

theorem v29_at (n : Fin 32768) (e : Fin 512) : val_main_v29 (F := Ideal) X G W (ix2 n e) = vAt X G W n e := by
  pointwise [val_main_v29, val_main_v17, val_main_v14, v13_at]
  rfl

theorem v31_at (n : Fin 32768) (e : Fin 512) : val_main_v31 (F := Ideal) X G W (ix2 n e) = kAt X G W n e := by
  pointwise [val_main_v31, val_main_v30, val_main_v16, val_main_v14, v13_at]
  rfl

theorem v33_at (n : Fin 32768) (e : Fin 512) : val_main_v33 (F := Ideal) X G W (ix2 n e) = vAt X G W n e := by
  pointwise [val_main_v33, val_main_v32, val_main_v17, val_main_v14, v13_at]
  rfl

theorem v23_at (b : Fin 4) (n : Fin 8192) (h : Fin 8) : val_main_v23 (F := Ideal) X G W B (ix3 b n h) = lfAt X G W B b n h := by
  pointwise [val_main_v23, val_main_call0_v1, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst,
    val_main_call0_v0, val_main_v22, val_main_v21, val_main_v20, val_main_v18, val_main_v14, v13_at]
  rw [if_neg (fun hne => hne rfl)]
  exact neg_softplus _

theorem v35_at (b : Fin 4) (e : Fin 1792) : val_main_v35 (F := Ideal) X G W (ix2 b e) = shiftAt X G W b e := by
  pointwise [val_main_v35, val_main_v34, val_main_v19, val_main_v14, v13_at]
  rfl

theorem v19_at (b : Fin 4) (n : Fin 8192) (e : Fin 1792) : val_main_v19 (F := Ideal) X G W (ix3 b n e) = recAt X G W b n e := by
  pointwise [val_main_v19, val_main_v14, v13_at]
  rfl

theorem frame : @Cert.quiescent_Reference2Ideal Cert.Reference2Ideal.Gen.facts := fun m g _ =>
  (θ_run Cert.Reference2Ideal.defs _ _).mono (fun r h => ⟨fun c => (h c).2.2.2.2.2.2.2.2, sem_eq_zero_of_no_sems (by decide) r.2⟩)
    (Cert.Reference2Ideal.Value.run (F := Ideal) m g)

/-- The in-projection's queries, keys, values, forget gates and recurrence's columns are the reference's. -/
theorem projection : @Cert.algebraic_Kernel2Ideal_Reference2Ideal Cert.Kernel2Ideal.Gen.facts Cert.Reference2Ideal.Gen.facts := by
  intro m g m' g' _ hagree
  refine ⟨fun c => qRes (Cert.Kernel2Ideal.Proj.argX m c) (Cert.Kernel2Ideal.Proj.argG m c) (Cert.Kernel2Ideal.Proj.wt m c),
    fun c => kRes (Cert.Kernel2Ideal.Proj.argX m c) (Cert.Kernel2Ideal.Proj.argG m c) (Cert.Kernel2Ideal.Proj.wt m c),
    fun c => vRes (Cert.Kernel2Ideal.Proj.argX m c) (Cert.Kernel2Ideal.Proj.argG m c) (Cert.Kernel2Ideal.Proj.wt m c),
    fun c => kRes (Cert.Kernel2Ideal.Proj.argX m c) (Cert.Kernel2Ideal.Proj.argG m c) (Cert.Kernel2Ideal.Proj.wt m c),
    fun c => vRes (Cert.Kernel2Ideal.Proj.argX m c) (Cert.Kernel2Ideal.Proj.argG m c) (Cert.Kernel2Ideal.Proj.wt m c),
    fun c => lfRes (Cert.Kernel2Ideal.Proj.argX m c) (Cert.Kernel2Ideal.Proj.argG m c) (Cert.Kernel2Ideal.Proj.wt m c)
      (Cert.Kernel2Ideal.Proj.argB m c),
    fun c => shiftRes (Cert.Kernel2Ideal.Proj.argX m c) (Cert.Kernel2Ideal.Proj.argG m c) (Cert.Kernel2Ideal.Proj.wt m c),
    fun c => recRes (Cert.Kernel2Ideal.Proj.argX m c) (Cert.Kernel2Ideal.Proj.argG m c) (Cert.Kernel2Ideal.Proj.wt m c),
    Cert.Kernel2Ideal.Proj.run m g, ?_⟩
  refine (θ_run Cert.Reference2Ideal.defs _ _).mono (fun r h c => ?_) (Cert.Reference2Ideal.Value.run (F := Ideal) m' g')
  obtain ⟨e0, e1, e2, e3⟩ := hagree c
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · rw [val_main_v27_eq, e0, e1, e2]
    funext y
    idx_vars y
    exact v27_at _ _ _ _ _
  · rw [val_main_v28_eq, e0, e1, e2]
    funext y
    idx_vars y
    exact v28_at _ _ _ _ _
  · rw [val_main_v29_eq, e0, e1, e2]
    funext y
    idx_vars y
    exact v29_at _ _ _ _ _
  · rw [val_main_v31_eq, e0, e1, e2]
    funext y
    idx_vars y
    exact v31_at _ _ _ _ _
  · rw [val_main_v33_eq, e0, e1, e2]
    funext y
    idx_vars y
    exact v33_at _ _ _ _ _
  · rw [val_main_v23_eq, e0, e1, e2, e3]
    funext y
    idx_vars y
    exact v23_at _ _ _ _ _ _ _
  · rw [val_main_v35_eq, e0, e1, e2]
    funext y
    idx_vars y
    exact v35_at _ _ _ _ _
  · rw [val_main_v19_eq, e0, e1, e2]
    funext y
    idx_vars y
    exact v19_at _ _ _ _ _ _

end Cert.Reference2Ideal.Proj

end
-- ==== Proof.Lay.Mix.lean ====
/- The mixing call's block, read at an index. -/
module

public import proofs.«01_k».proof.Proof.Gen.Kernel3Ideal.Frame
public import proofs.«01_k».proof.Proof.Lay.Spec
public import Idealize.ShloMosaic.Lib.Pipeline.ValueKit

@[expose] public section

set_option maxRecDepth 16384

noncomputable section

namespace Cert.Kernel3Ideal.Mix

open Idealize.ShloMosaic Idealize.ShloMosaic.TcCoe Idealize.ShloMosaic.Tactic
open Cert.Kernel3Ideal.Gen Cert.Lay

variable (x0 : Vec Ideal S512x1024 .f32) (x1 : Vec Ideal S512x512 .bf16) (x2 : Vec Ideal S512x512 .bf16) (x3 : Vec Ideal S1x1024 .f32)
  (x4 : Vec Ideal S1024x2048 .bf16) (x5 x6 : Vec Ideal S512x1024 .bf16) (x7 : Vec Ideal S1024x1024 .bf16) (x8 : Vec Ideal S1x1024 .f32)
  (x9 : Vec Ideal S1024x128 .bf16)

theorem gates_at (a : Fin 512) (c : Fin 2048) :
    k0_pay2 x0 x3 x4 (ix2 a c) = gate (fun k => x0 (ix2 a k)) (fun k => x3 (ix2 0 k)) (fun k => x4 (ix2 k c)) := by
  pointwise [k0_pay2]
  rfl

/-- The block of the residual rows. -/
def out (a : Fin 512) (d : Fin 1024) : EReal :=
  Lay.x1 (fun k => x0 (ix2 a k)) (fun k => x3 (ix2 0 k)) (fun k e => x4 (ix2 k ⟨e.val, by omega⟩)) (fun k e => x4 (ix2 k ⟨1024 + e.val, by omega⟩))
    (fun j => x1 (ix2 a j)) (fun j => x2 (ix2 a j)) (fun j e => x5 (ix2 j e)) (fun j e => x6 (ix2 j e)) (fun e f => x7 (ix2 e f)) d

theorem pay6_at (a : Fin 512) (d : Fin 1024) :
    k0_pay6 x0 (k0_pay3 x0 x3 x4 x1 x5) (k0_pay4 x0 x3 x4) x2 (k0_pay5 x6) (constant S512x1024 FTy.f32 0x00000000#32) x7 (ix2 a d)
      = out x0 x1 x2 x3 x4 x5 x6 x7 a d := by
  pointwise [k0_pay6, k0_pay3, k0_pay4, k0_pay5, gates_at]
  rfl

theorem out10_at (a : Fin 512) (d : Fin 1024) :
    out0_10 x0 x1 x2 x3 x4 x5 x6 x7 x8 x9 (ix2 a d) = out x0 x1 x2 x3 x4 x5 x6 x7 a d := by
  unfold_out out0_10
  frame_out
  exact pay6_at x0 x1 x2 x3 x4 x5 x6 x7 a d

/-- The block of the normed rows. -/
theorem out11_at (a : Fin 512) (d : Fin 1024) :
    out0_11 x0 x1 x2 x3 x4 x5 x6 x7 x8 x9 (ix2 a d) = rms (fun e => out x0 x1 x2 x3 x4 x5 x6 x7 a e) (fun k => x8 (ix2 0 k)) d := by
  unfold_out out0_11
  frame_out
  pointwise [k0_pay7, pay6_at]
  rfl

end Cert.Kernel3Ideal.Mix

end
-- ==== Proof.Lay.MixValue.lean ====
/- The mixing call's two arrays, as functions of the arrays it is given. -/
module

public import proofs.«01_k».proof.Proof.Gen.Kernel3Ideal.Value
public import proofs.«01_k».proof.Proof.Lay.Mix

@[expose] public section

set_option maxRecDepth 16384

noncomputable section

namespace Cert.Kernel3Ideal.Mix

open Idealize.ShloMosaic Idealize.ShloMosaic.TcCoe Idealize.ShloMosaic.Tactic
open Cert.Kernel3Ideal.Gen Cert.Lay

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_10.index t = ![t.val, 0] ∧ win0_11.index t = ![t.val, 0] :=
  (by decide +kernel : ∀ t : Fin grid0.N, _)

theorem tl (t : Fin cfg0.N) : t.val < 64 := Nat.lt_of_lt_of_eq t.isLt N_0

/-- The mixing call's residual rows over its arguments, -/
def resid (X : FVec Ideal S32768x1024 .f32) (A B : FVec Ideal S32768x512 .bf16) (G : FVec Ideal S1024 .f32) (W : FVec Ideal S1024x5384 .f32)
    (PA PB : FVec Ideal S512x1024 .f32) (WO : FVec Ideal S1024x1024 .f32) (n : Fin 32768) (d : Fin 1024) : EReal :=
  Lay.x1 (fun k => X (ix2 n k)) (fun k => G (ix1 k)) (fun k e => W (ix2 k ⟨3336 + e.val, by omega⟩)) (fun k e => W (ix2 k ⟨3336 + (1024 + e.val), by omega⟩))
    (fun j => A (ix2 n j)) (fun j => B (ix2 n j)) (fun j e => PA (ix2 j e)) (fun j e => PB (ix2 j e)) (fun e f => WO (ix2 e f)) d

/-- of the memory it starts from. -/
def residOf (n : Fin 32768) (d : Fin 1024) : EReal :=
  resid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) n d

theorem V_v3 (z : Fin 1) (k : Fin 1024) : V m c main_v3 (ix2 z k) = m ((c : Thread nD τ).loc main_arg3) (ix1 k) := by
  entry_read
  pointwise

theorem V_v5 (k : Fin 1024) (e : Fin 2048) : V m c main_v5 (ix2 k e) = m ((c : Thread nD τ).loc main_arg4) (ix2 k ⟨3336 + e.val, by omega⟩) := by
  entry_read
  pointwise

theorem V_v6 (k : Fin 512) (e : Fin 1024) : V m c main_v6 (ix2 k e) = m ((c : Thread nD τ).loc main_arg5) (ix2 k e) := by
  entry_read
  pointwise

theorem V_v7 (k : Fin 512) (e : Fin 1024) : V m c main_v7 (ix2 k e) = m ((c : Thread nD τ).loc main_arg6) (ix2 k e) := by
  entry_read
  pointwise

theorem V_v8 (k : Fin 1024) (e : Fin 1024) : V m c main_v8 (ix2 k e) = m ((c : Thread nD τ).loc main_arg7) (ix2 k e) := by
  entry_read
  pointwise

theorem V_v9 (z : Fin 1) (k : Fin 1024) : V m c main_v9 (ix2 z k) = m ((c : Thread nD τ).loc main_arg8) (ix1 k) := by
  entry_read
  pointwise

variable (t : Fin cfg0.N)

theorem blk0 (a : Fin 512) (k : Fin 1024) :
    iblk m c 0 t (ix2 a k) = m ((c : Thread nD τ).loc main_arg0) (ix2 ⟨t.val * 512 + a.val, by have := tl t; omega⟩ k) := by
  blk_ext [iblk, V, idx t]

theorem blk1 (a : Fin 512) (k : Fin 512) :
    iblk m c 1 t (ix2 a k) = m ((c : Thread nD τ).loc main_arg1) (ix2 ⟨t.val * 512 + a.val, by have := tl t; omega⟩ k) := by
  blk_ext [iblk, V, idx t]

theorem blk2 (a : Fin 512) (k : Fin 512) :
    iblk m c 2 t (ix2 a k) = m ((c : Thread nD τ).loc main_arg2) (ix2 ⟨t.val * 512 + a.val, by have := tl t; omega⟩ k) := by
  blk_ext [iblk, V, idx t]

theorem blk3 (k : Fin 1024) : iblk m c 3 t (ix2 0 k) = m ((c : Thread nD τ).loc main_arg3) (ix1 k) := by
  refine Eq.trans ?_ (V_v3 m c 0 k)
  blk_ext [iblk, idx t]

theorem blk4 (k : Fin 1024) (e : Fin 2048) :
    iblk m c 4 t (ix2 k e) = m ((c : Thread nD τ).loc main_arg4) (ix2 k ⟨3336 + e.val, by omega⟩) := by
  refine Eq.trans ?_ (V_v5 m c k e)
  blk_ext [iblk, idx t]

theorem blk5 (k : Fin 512) (e : Fin 1024) : iblk m c 5 t (ix2 k e) = m ((c : Thread nD τ).loc main_arg5) (ix2 k e) := by
  refine Eq.trans ?_ (V_v6 m c k e)
  blk_ext [iblk, idx t]

theorem blk6 (k : Fin 512) (e : Fin 1024) : iblk m c 6 t (ix2 k e) = m ((c : Thread nD τ).loc main_arg6) (ix2 k e) := by
  refine Eq.trans ?_ (V_v7 m c k e)
  blk_ext [iblk, idx t]

theorem blk7 (k : Fin 1024) (e : Fin 1024) : iblk m c 7 t (ix2 k e) = m ((c : Thread nD τ).loc main_arg7) (ix2 k e) := by
  refine Eq.trans ?_ (V_v8 m c k e)
  blk_ext [iblk, idx t]

theorem blk8 (k : Fin 1024) : iblk m c 8 t (ix2 0 k) = m ((c : Thread nD τ).loc main_arg8) (ix1 k) := by
  refine Eq.trans ?_ (V_v9 m c 0 k)
  blk_ext [iblk, idx t]

/-- A block's residual rows are the array's. -/
theorem out_eq (a : Fin 512) (d : Fin 1024) :
    out (iblk m c 0 t) (iblk m c 1 t) (iblk m c 2 t) (iblk m c 3 t) (iblk m c 4 t) (iblk m c 5 t) (iblk m c 6 t) (iblk m c 7 t) a d
      = residOf m c ⟨t.val * 512 + a.val, by have := tl t; omega⟩ d := by
  unfold out residOf resid
  congr 1
  · exact funext fun k => blk0 m c t a k
  · exact funext fun k => blk3 m c t k
  · exact funext fun k => funext fun e => blk4 m c t k _
  · exact funext fun k => funext fun e => blk4 m c t k _
  · exact funext fun k => blk1 m c t a k
  · exact funext fun k => blk2 m c t a k
  · exact funext fun k => funext fun e => blk5 m c t k e
  · exact funext fun k => funext fun e => blk6 m c t k e
  · exact funext fun k => funext fun e => blk7 m c t k e

theorem final10 : (dats m 0 c).arrAt 10 cfg0.N = fun y : S32768x1024.Idx => residOf m c (y 0) (y 1) := by
  refine (dats m 0 c).arrAt_eq_of_covers 10 _ (by decide +kernel) fun t _ y => ?_
  blk_simp
  rw [after0_10]
  idx_vars y
  rw [out10_at, out_eq]
  have hp : ((cfg0.win 10).blk t).view.emb (ix2 y0 y1)
      = ix2 (n0 := 32768) (n1 := 1024) ⟨t.val * 512 + y0.val, by have := tl t; omega⟩ y1 := by
    blk_ext [idx t]
  rw [hp]
  rfl

theorem final11 : (dats m 0 c).arrAt 11 cfg0.N
    = fun y : S32768x1024.Idx => rms (fun e => residOf m c (y 0) e) (fun k => m ((c : Thread nD τ).loc main_arg8) (ix1 k)) (y 1) := by
  refine (dats m 0 c).arrAt_eq_of_covers 11 _ (by decide +kernel) fun t _ y => ?_
  blk_simp
  rw [after0_11]
  idx_vars y
  rw [out11_at]
  simp only [out_eq, blk8]
  have hp : ((cfg0.win 11).blk t).view.emb (ix2 y0 y1)
      = ix2 (n0 := 32768) (n1 := 1024) ⟨t.val * 512 + y0.val, by have := tl t; omega⟩ y1 := by
    blk_ext [idx t]
  rw [hp]
  rfl

end Cert.Kernel3Ideal.Mix

end
-- ==== Proof.Lay.MixRef.lean ====
/- The mixing reference's two results, read at an index, and the call's value claim. -/
module

public import proofs.«01_k».proof.Defs
public import proofs.«01_k».proof.Proof.Gen.Kernel3Ideal
public import proofs.«01_k».proof.Proof.Gen.Reference3Ideal
public import proofs.«01_k».proof.Proof.Gen.Reference3Ideal.Read
public import proofs.«01_k».proof.Proof.Lay.MixValue
public import Idealize.ShloMosaic.Lib.Quiescent

@[expose] public section

set_option maxRecDepth 16384

noncomputable section

namespace Cert.Reference3Ideal.Mix

open Idealize.ShloMosaic Idealize.ShloMosaic.TcCoe Idealize.ShloMosaic.Tactic Idealize.SL.Sem
open Cert.Reference3Ideal Cert.Reference3Ideal.Gen Cert.Reference3Ideal.Read Cert.Lay
open Cert.Kernel3Ideal.Mix (resid)

variable (X : FVec Ideal S32768x1024 .f32) (A B : FVec Ideal S32768x512 .bf16) (G : FVec Ideal S1024 .f32) (W : FVec Ideal S1024x5384 .f32)
  (PA PB : FVec Ideal S512x1024 .f32) (WO : FVec Ideal S1024x1024 .f32) (GF : FVec Ideal S1024 .f32)

theorem v12_at (n : Fin 32768) (k : Fin 1024) :
    val_main_v12 (F := Ideal) X G (ix2 n k) = rms (fun k => X (ix2 n k)) (fun k => G (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v20_at (n : Fin 32768) (e : Fin 2048) :
    val_main_v20 (F := Ideal) X G W (ix2 n e)
      = gate (fun k => X (ix2 n k)) (fun k => G (ix1 k)) (fun k => W (ix2 k ⟨3336 + e.val, by omega⟩)) := by
  pointwise [val_main_v20, val_main_v19, val_main_v18, val_main_v17, val_main_v16, val_main_v15, val_main_v14, val_main_v13,
    val_main_cst_2, val_main_cst_3, v12_at]
  unfold gate
  rw [sub_eq_add_neg, zero_add]

theorem v31_at (n : Fin 32768) (d : Fin 1024) :
    val_main_v31 (F := Ideal) X A B G W PA PB WO (ix2 n d) = resid X A B G W PA PB WO n d := by
  pointwise [val_main_v31, val_main_v30, val_main_v29, val_main_v28, val_main_v27, val_main_v26, val_main_v25, val_main_v24, val_main_v23,
    val_main_v22, val_main_v21, v20_at]
  rfl

theorem v45_at (n : Fin 32768) (d : Fin 1024) :
    val_main_v45 (F := Ideal) X A B G W PA PB WO GF (ix2 n d)
      = rms (fun e => resid X A B G W PA PB WO n e) (fun k => GF (ix1 k)) d := by
  pointwise [val_main_v45, val_main_v44, val_main_v43, val_main_v42, val_main_v41, val_main_v40, val_main_v39, val_main_v38, val_main_v37,
    val_main_v36, val_main_v35, val_main_v34, val_main_v33, val_main_v32, val_main_cst_4, val_main_cst_5, val_main_cst_6, v31_at]
  rfl

theorem frame : @Cert.quiescent_Reference3Ideal Cert.Reference3Ideal.Gen.facts := fun m g _ =>
  (θ_run Cert.Reference3Ideal.defs _ _).mono (fun r h => ⟨fun c => (h c).2.2, sem_eq_zero_of_no_sems (by decide) r.2⟩)
    (Cert.Reference3Ideal.Value.run (F := Ideal) m g)

/-- The mixing call's residual rows and normed rows are the reference's. -/
theorem mixing : @Cert.algebraic_Kernel3Ideal_Reference3Ideal Cert.Kernel3Ideal.Gen.facts Cert.Reference3Ideal.Gen.facts := by
  intro m g m' g' _ hagree
  refine ⟨fun c => fun y : S32768x1024.Idx => Cert.Kernel3Ideal.Mix.residOf m c (y 0) (y 1),
    fun c => fun y : S32768x1024.Idx => rms (fun e => Cert.Kernel3Ideal.Mix.residOf m c (y 0) e)
      (fun k => m ((c.tc : Thread Cert.Kernel3Ideal.nD Cert.Kernel3Ideal.τ).loc Cert.Kernel3Ideal.main_arg8) (ix1 k)) (y 1), ?_, ?_⟩
  · refine (θ_run Cert.Kernel3Ideal.defs _ _).mono (fun r h c => ?_) (Cert.Kernel3Ideal.Value.run_blocks (F := Ideal) m g)
    exact ⟨(h c).1.trans (Cert.Kernel3Ideal.Mix.final10 m c), (h c).2.1.trans (Cert.Kernel3Ideal.Mix.final11 m c), (h c).2.2.2⟩
  · refine (θ_run Cert.Reference3Ideal.defs _ _).mono (fun r h c => ⟨(h c).1.trans ?_, (h c).2.1.trans ?_, (h c).2.2⟩)
      (Cert.Reference3Ideal.Value.run (F := Ideal) m' g')
    · refine (show _ = val_main_v31 (F := Ideal) (m' ((c.tc : Thread nD τ).loc main_arg0)) (m' ((c.tc : Thread nD τ).loc main_arg1))
        (m' ((c.tc : Thread nD τ).loc main_arg2)) (m' ((c.tc : Thread nD τ).loc main_arg3)) (m' ((c.tc : Thread nD τ).loc main_arg4))
        (m' ((c.tc : Thread nD τ).loc main_arg5)) (m' ((c.tc : Thread nD τ).loc main_arg6)) (m' ((c.tc : Thread nD τ).loc main_arg7)) from rfl).trans ?_
      obtain ⟨h0, h1, h2, h3, h4, h5, h6, h7, h8, _⟩ := hagree c
      rw [h0, h1, h2, h3, h4, h5, h6, h7]
      funext y
      idx_vars y
      exact v31_at _ _ _ _ _ _ _ _ _ _
    · obtain ⟨h0, h1, h2, h3, h4, h5, h6, h7, h8, _⟩ := hagree c
      rw [val_main_v45_eq, h0, h1, h2, h3, h4, h5, h6, h7, h8]
      funext y
      idx_vars y
      exact v45_at _ _ _ _ _ _ _ _ _ _ _

end Cert.Reference3Ideal.Mix

end
-- ==== Proof.Lay.Moe.lean ====
/- The expert call's body read at an index: what a grid point adds to the accumulator, and what the last point of a row block writes. -/
module

public import proofs.«01_k».proof.Proof.Gen.Kernel4Ideal.Value
public import proofs.«01_k».proof.Proof.Lay.Spec
public import Idealize.ShloMosaic.Lib.Pipeline.ValueKit
public import Idealize.ShloMosaic.Lib.Pipeline.ReadBack

@[expose] public section

set_option maxRecDepth 16384

noncomputable section

namespace Cert.Kernel4Ideal.Moe

open Idealize.ShloMosaic Idealize.ShloMosaic.TcCoe Idealize.ShloMosaic.Tactic
open Cert.Kernel4Ideal.Gen Cert.Lay

section block

variable (x0 : Vec Ideal S1024x1024 .bf16) (x1 : Vec Ideal S1024x128 .f32) (x2 : Vec Ideal S1024x1024 .f32) (x3 : Vec Ideal S1x1024x512 .bf16)
  (x4 : Vec Ideal S1x256x1024 .bf16) (x5 : Vec Ideal S1x1024 .f32) (acc : Vec Ideal S1024x1024 .f32)

/-- A block's expert output, weighted by the lane of its number. -/
def term (e : Nat) (he : e < 128) (a d : Fin 1024) : EReal :=
  expert (fun k => x0 (ix2 a k)) (fun k f => x3 (ix3 0 k ⟨f.val, by omega⟩)) (fun k f => x3 (ix3 0 k ⟨256 + f.val, by omega⟩))
    (fun f => x4 (ix3 0 f d)) * x1 (ix2 a ⟨e, he⟩)

theorem pay4_at (i : grid0.Coords) (e : Nat) (he : e < 128) (hi : (i 1).val = e) (a d : Fin 1024) :
    k0_pay4 i x0 x3 x4 x1 acc (ix2 a d) = acc (ix2 a d) + term x0 x1 x3 x4 e he a d := by
  pointwise [k0_pay4]
  rw [hi, lane_sum e he fun x => x1 (ix2 a x)]
  rfl

theorem pay3_at (a d : Fin 1024) : k0_pay3 (F := Ideal) (ix2 a d) = 0 := by
  pointwise [k0_pay3]

theorem pay2_at (a d : Fin 1024) :
    k0_pay2 x2 acc x5 (ix2 a d) = rms (fun e => x2 (ix2 a e) + acc (ix2 a e)) (fun k => x5 (ix2 0 k)) d := by
  pointwise [k0_pay2]
  rfl

theorem pay1_at (a d : Fin 1024) : k0_pay1 (F := Ideal) acc (ix2 a d) = acc (ix2 a d) := by
  pointwise [k0_pay1]

end block

variable (m : (ℓ : Loc nD τ sig) → Buf (Elt Ideal) ℓ) (c : Dev nD)

theorem tl (t : Fin cfg0.N) : t.val < 1024 := Nat.lt_of_lt_of_eq t.isLt N_0

theorem coord : ∀ t : Fin cfg0.N, (grid0.coords t 1).val = t.val % 32 :=
  (by decide +kernel : ∀ t : Fin grid0.N, _)

/-- A point's contribution to the accumulator. -/
def adds (t : Fin cfg0.N) (a d : Fin 1024) : EReal :=
  term (iblk m c 0 t) (iblk m c 1 t) (iblk m c 3 t) (iblk m c 4 t) (t.val % 32) (by omega) a d

theorem scr_A (t : Fin cfg0.N) (h0 : t.val % 32 = 0) (a d : Fin 1024) :
    (outsAt0 m c t.val t.isLt).2 (ix2 a d) = 0 + adds m c t a d := by
  rw [outsAt0_A m c t h0 (by omega)]
  frame_out
  rw [pay1_at, pay4_at _ _ _ _ _ _ (t.val % 32) (by omega) (coord t)]
  rw [pay3_at]
  rfl

theorem scr_B (t : Fin cfg0.N) (h0 : ¬t.val % 32 = 0) (a d : Fin 1024) : (outsAt0 m c t.val t.isLt).2 (ix2 a d)
    = (outsAt0 m c (t.val - 1) (Nat.lt_of_le_of_lt (Nat.sub_le _ _) t.isLt)).2 (ix2 a d) + adds m c t a d := by
  by_cases h1 : t.val % 32 = 31
  · rw [outsAt0_C m c t h0 h1]
    frame_out
    simp only [read_unread_whole]
    rw [pay1_at, pay4_at _ _ _ _ _ _ (t.val % 32) (by omega) (coord t)]
    rfl
  · rw [outsAt0_B m c t h0 h1]
    frame_out
    simp only [read_unread_whole]
    rw [pay1_at, pay4_at _ _ _ _ _ _ (t.val % 32) (by omega) (coord t)]
    rfl

theorem out_C (t : Fin cfg0.N) (h1 : t.val % 32 = 31) :
    (outsAt0 m c t.val t.isLt).1 = k0_pay2 (iblk m c 2 t) (outsAt0 m c t.val t.isLt).2 (iblk m c 5 t) := by
  rw [outsAt0_C m c t (by omega) h1]
  frame_out

end Cert.Kernel4Ideal.Moe

end
-- ==== Proof.Lay.MoeValue.lean ====
/- The expert call's array, as a function of the arrays it is given. -/
module

public import proofs.«01_k».proof.Proof.Lay.Moe

@[expose] public section

set_option maxRecDepth 16384

noncomputable section

namespace Cert.Kernel4Ideal.Moe

open Idealize.ShloMosaic Idealize.ShloMosaic.TcCoe Idealize.ShloMosaic.Tactic
open Cert.Kernel4Ideal.Gen Cert.Lay

section spec

variable (H : FVec Ideal S32768x1024 .bf16) (R : FVec Ideal S32768x128 .f32) (X : FVec Ideal S32768x1024 .f32)
  (WG WU : FVec Ideal S32x1024x256 .f32) (WD : FVec Ideal S32x256x1024 .f32) (G : FVec Ideal S1024 .f32)

/-- One expert's weighted output at a token and column, -/
def weighted (n : Fin 32768) (d : Fin 1024) (e : Fin 32) : EReal :=
  expert (fun k => H (ix2 n k)) (fun k f => WG (ix3 e k f)) (fun k f => WU (ix3 e k f)) (fun f => WD (ix3 e f d)) * R (ix2 n ⟨e.val, by omega⟩)

/-- and the layer's last rows: the residual and all the experts, normed. -/
def last (n : Fin 32768) (d : Fin 1024) : EReal :=
  rms (fun d => X (ix2 n d) + ∑ e, weighted H R WG WU WD n d e) (fun k => G (ix1 k)) d

end spec

variable (m : (ℓ : Loc nD τ sig) → Buf (Elt Ideal) ℓ) (c : Dev nD)

theorem idx : ∀ t : Fin cfg0.N, win0_0.index t = ![t.val / 32, 0] ∧ win0_1.index t = ![t.val / 32, 0] ∧ win0_2.index t = ![t.val / 32, 0]
    ∧ win0_3.index t = ![t.val % 32, 0, 0] ∧ win0_4.index t = ![t.val % 32, 0, 0] ∧ win0_5.index t = ![0, 0]
    ∧ win0_6.index t = ![t.val / 32, 0] :=
  (by decide +kernel : ∀ t : Fin grid0.N, _)

theorem V_v1 : V m c main_v1 = (truncf (F := Ideal) .bf16 (concatenate S32x1024x512 2
    [⟨S32x1024x256, m ((c : Thread nD τ).loc main_arg3)⟩, ⟨S32x1024x256, m ((c : Thread nD τ).loc main_arg4)⟩]
    concatenates_S32x1024x256_S32x1024x256_S32x1024x512_d2) bitsLt_bf16_f32 : FVec Ideal S32x1024x512 .bf16) := by
  entry_read
  rfl

theorem V_gate (e : Fin 32) (k : Fin 1024) (f : Fin 256) :
    V m c main_v1 (ix3 e k ⟨f.val, by omega⟩) = m ((c : Thread nD τ).loc main_arg3) (ix3 e k f) := by
  rw [V_v1]
  pointwise

theorem V_up (e : Fin 32) (k : Fin 1024) (f : Fin 256) :
    V m c main_v1 (ix3 e k ⟨256 + f.val, by omega⟩) = m ((c : Thread nD τ).loc main_arg4) (ix3 e k f) := by
  rw [V_v1]
  pointwise

theorem V_v2 (e : Fin 32) (f : Fin 256) (d : Fin 1024) :
    V m c main_v2 (ix3 e f d) = m ((c : Thread nD τ).loc main_arg5) (ix3 e f d) := by
  entry_read
  pointwise

theorem V_v3 (z : Fin 1) (k : Fin 1024) : V m c main_v3 (ix2 z k) = m ((c : Thread nD τ).loc main_arg6) (ix1 k) := by
  entry_read
  pointwise

section block

variable (t : Fin cfg0.N)

theorem blk0 (a k : Fin 1024) :
    iblk m c 0 t (ix2 a k) = m ((c : Thread nD τ).loc main_arg0) (ix2 ⟨t.val / 32 * 1024 + a.val, by have := tl t; omega⟩ k) := by
  blk_ext [iblk, V, idx t]

theorem blk1 (a : Fin 1024) (k : Fin 128) :
    iblk m c 1 t (ix2 a k) = m ((c : Thread nD τ).loc main_arg1) (ix2 ⟨t.val / 32 * 1024 + a.val, by have := tl t; omega⟩ k) := by
  blk_ext [iblk, V, idx t]

theorem blk2 (a k : Fin 1024) :
    iblk m c 2 t (ix2 a k) = m ((c : Thread nD τ).loc main_arg2) (ix2 ⟨t.val / 32 * 1024 + a.val, by have := tl t; omega⟩ k) := by
  blk_ext [iblk, V, idx t]

theorem blk3_gate (k : Fin 1024) (f : Fin 256) : iblk m c 3 t (ix3 0 k ⟨f.val, by omega⟩)
    = m ((c : Thread nD τ).loc main_arg3) (ix3 ⟨t.val % 32, by omega⟩ k f) := by
  refine Eq.trans ?_ (V_gate m c _ k f)
  blk_ext [iblk, idx t]

theorem blk3_up (k : Fin 1024) (f : Fin 256) : iblk m c 3 t (ix3 0 k ⟨256 + f.val, by omega⟩)
    = m ((c : Thread nD τ).loc main_arg4) (ix3 ⟨t.val % 32, by omega⟩ k f) := by
  refine Eq.trans ?_ (V_up m c _ k f)
  blk_ext [iblk, idx t]

theorem blk4 (f : Fin 256) (d : Fin 1024) : iblk m c 4 t (ix3 0 f d)
    = m ((c : Thread nD τ).loc main_arg5) (ix3 ⟨t.val % 32, by omega⟩ f d) := by
  refine Eq.trans ?_ (V_v2 m c _ f d)
  blk_ext [iblk, idx t]

theorem blk5 (k : Fin 1024) : iblk m c 5 t (ix2 0 k) = m ((c : Thread nD τ).loc main_arg6) (ix1 k) := by
  refine Eq.trans ?_ (V_v3 m c 0 k)
  blk_ext [iblk, idx t]

end block

/-- An expert's weighted output over the starting memory. -/
def weightedOf (n : Fin 32768) (d : Fin 1024) (e : Fin 32) : EReal :=
  weighted (m ((c : Thread nD τ).loc main_arg0)) (m ((c : Thread nD τ).loc main_arg1)) (m ((c : Thread nD τ).loc main_arg3))
    (m ((c : Thread nD τ).loc main_arg4)) (m ((c : Thread nD τ).loc main_arg5)) n d e

/-- The same for a row block and an expert given as numbers, zero beyond them. -/
def share (b e : Nat) (y : S1024x1024.Idx) : EReal :=
  if h : b < 32 ∧ e < 32 then weightedOf m c ⟨b * 1024 + (y 0).val, by have : (y 0).val < 1024 := (y 0).isLt; omega⟩ (y 1) ⟨e, h.2⟩ else 0

theorem adds_eq (t : Fin cfg0.N) (a d : Fin 1024) : adds m c t a d = share m c (t.val / 32) (t.val % 32) (ix2 a d) := by
  unfold share
  rw [dif_pos (by have := tl t; omega)]
  unfold adds term weightedOf weighted
  simp only [blk0, blk1, blk3_gate, blk3_up, blk4]
  rfl

/-- The accumulator after a point: the experts so far. -/
theorem scr_at (t : Fin cfg0.N) (y : S1024x1024.Idx) :
    (outsAt0 m c t.val t.isLt).2 y = 0 + ∑ k ∈ Finset.range (t.val % 32 + 1), share m c (t.val / 32) k y :=
  Pipeline.eq_sum_of_reset_step_apply_divmod (M := EReal) (ι := S1024x1024.Idx) (fun n h => (outsAt0 m c n h).2) 32 (fun _ => 0) (share m c)
    (fun t h y => by
      idx_vars y
      exact (scr_A m c t h y0 y1).trans (by rw [adds_eq]))
    (fun t h y => by
      idx_vars y
      exact (scr_B m c t h y0 y1).trans (by rw [adds_eq])) t y

theorem scr_last (t : Fin cfg0.N) (h : t.val % 32 = 31) (a d : Fin 1024) : (outsAt0 m c t.val t.isLt).2 (ix2 a d)
    = ∑ e, weightedOf m c ⟨t.val / 32 * 1024 + a.val, by have := tl t; omega⟩ d e := by
  rw [scr_at, h, zero_add, Finset.sum_range]
  refine Finset.sum_congr rfl fun e _ => ?_
  unfold share
  rw [dif_pos ⟨by have := tl t; omega, e.isLt⟩]
  rfl

/-- The last rows over the starting memory. -/
def lastOf (n : Fin 32768) (d : Fin 1024) : EReal :=
  last (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) n d

theorem out_at (t : Fin cfg0.N) (h : t.val % 32 = 31) (a d : Fin 1024) : (outsAt0 m c t.val t.isLt).1 (ix2 a d)
    = lastOf m c ⟨t.val / 32 * 1024 + a.val, by have := tl t; omega⟩ d := by
  rw [out_C m c t h, pay2_at]
  simp only [blk2, blk5, scr_last m c t h]
  rfl

theorem final6 : (dats m 0 c).arrAt 6 cfg0.N = fun y : S32768x1024.Idx => lastOf m c (y 0) (y 1) := by
  refine (dats m 0 c).arrAt_eq_of_covers 6 _ (by decide +kernel) fun t hf y => ?_
  blk_simp
  rw [after0_6]
  idx_vars y
  rw [out_at m c t ((flush0_6 t).mp hf)]
  have hp : ((cfg0.win 6).blk t).view.emb (ix2 y0 y1)
      = ix2 (n0 := 32768) (n1 := 1024) ⟨t.val / 32 * 1024 + y0.val, by have := tl t; omega⟩ y1 := by
    blk_ext [idx t]
  rw [hp]
  rfl

end Cert.Kernel4Ideal.Moe

end
-- ==== Proof.Lay.MoeRef.lean ====
/- The expert call's reference, its result read at an index, and the call's value claim. -/
module

public import proofs.«01_k».proof.Defs
public import proofs.«01_k».proof.Proof.Gen.Kernel4Ideal
public import proofs.«01_k».proof.Proof.Gen.Reference4Ideal
public import proofs.«01_k».proof.Proof.Gen.Reference4Ideal.Read
public import proofs.«01_k».proof.Proof.Lay.MoeValue
public import Idealize.ShloMosaic.Lib.Quiescent

@[expose] public section

set_option maxRecDepth 16384

noncomputable section

namespace Cert.Reference4Ideal.Moe

open Idealize.ShloMosaic Idealize.ShloMosaic.TcCoe Idealize.ShloMosaic.Tactic Idealize.SL.Sem
open Cert.Reference4Ideal Cert.Reference4Ideal.Gen Cert.Reference4Ideal.Read Cert.Lay
open Cert.Kernel4Ideal.Moe (weighted last)

variable (H : FVec Ideal S32768x1024 .bf16) (R : FVec Ideal S32768x128 .f32) (X : FVec Ideal S32768x1024 .f32)
  (WG WU : FVec Ideal S32x1024x256 .f32) (WD : FVec Ideal S32x256x1024 .f32) (G : FVec Ideal S1024 .f32)

theorem v1_at (e : Fin 32) (f : Fin 256) (n : Fin 32768) :
    val_main_v1 (F := Ideal) H WG (ix3 e f n) = ∑ k, H (ix2 n k) * WG (ix3 e k f) := by
  pointwise [val_main_v1, val_main_v0]
  exact Finset.sum_congr rfl fun k _ => mul_comm _ _

theorem v4_at (e : Fin 32) (f : Fin 256) (n : Fin 32768) :
    val_main_v4 (F := Ideal) H WU (ix3 e f n) = ∑ k, H (ix2 n k) * WU (ix3 e k f) := by
  pointwise [val_main_v4, val_main_v0]
  exact Finset.sum_congr rfl fun k _ => mul_comm _ _

theorem v3_at (e : Fin 32) (n : Fin 32768) (f : Fin 256) :
    val_main_v3 (F := Ideal) H WG (ix3 e n f) = silu (∑ k, H (ix2 n k) * WG (ix3 e k f)) := by
  pointwise [val_main_v3, val_main_call0_v5, val_main_call0_v4, val_main_call0_v3, val_main_call0_v2, val_main_call0_v1, val_main_call0_v0,
    val_main_call0_cst, val_main_call0_cst_0, val_main_v2, v1_at]
  unfold silu
  rw [sub_eq_add_neg 0, zero_add]

theorem v12_at (e : Fin 32) (n : Fin 32768) (d : Fin 1024) :
    val_main_v12 (F := Ideal) H R WG WU WD (ix3 e n d) = weighted H R WG WU WD n d e := by
  pointwise [val_main_v12, val_main_v11, val_main_v10, val_main_v9, val_main_v8, val_main_v7, val_main_v6, val_main_v5, v4_at, v3_at]
  rfl

theorem v14_at (n : Fin 32768) (d : Fin 1024) :
    val_main_v14 (F := Ideal) H R X WG WU WD (ix2 n d) = X (ix2 n d) + ∑ e, weighted H R WG WU WD n d e := by
  pointwise [val_main_v14, val_main_v13, val_main_cst, v12_at]

theorem v27_at (n : Fin 32768) (d : Fin 1024) :
    val_main_v27 (F := Ideal) H R X WG WU WD G (ix2 n d) = last H R X WG WU WD G n d := by
  pointwise [val_main_v27, val_main_v26, val_main_v25, val_main_v24, val_main_v23, val_main_v22, val_main_v21, val_main_v20, val_main_v19,
    val_main_v18, val_main_v17, val_main_v16, val_main_v15, val_main_cst_0, val_main_cst_1, val_main_cst_2, v14_at]
  rfl

theorem frame : @Cert.quiescent_Reference4Ideal Cert.Reference4Ideal.Gen.facts := fun m g _ =>
  (θ_run Cert.Reference4Ideal.defs _ _).mono (fun r h => ⟨fun c => (h c).2, sem_eq_zero_of_no_sems (by decide) r.2⟩)
    (Cert.Reference4Ideal.Value.run (F := Ideal) m g)

/-- The expert call's last rows are the reference's. -/
theorem experts : @Cert.algebraic_Kernel4Ideal_Reference4Ideal Cert.Kernel4Ideal.Gen.facts Cert.Reference4Ideal.Gen.facts := by
  intro m g m' g' _ hagree
  refine ⟨fun c => fun y : S32768x1024.Idx => Cert.Kernel4Ideal.Moe.lastOf m c (y 0) (y 1), ?_, ?_⟩
  · refine (θ_run Cert.Kernel4Ideal.defs _ _).mono (fun r h c => ?_) (Cert.Kernel4Ideal.Value.run_blocks (F := Ideal) m g)
    exact ⟨(h c).1.trans (Cert.Kernel4Ideal.Moe.final6 m c), (h c).2⟩
  · refine (θ_run Cert.Reference4Ideal.defs _ _).mono (fun r h c => ⟨(h c).1.trans ?_, (h c).2⟩)
      (Cert.Reference4Ideal.Value.run (F := Ideal) m' g')
    obtain ⟨h0, h1, h2, h3, h4, h5, h6⟩ := hagree c
    rw [val_main_v27_eq, h0, h1, h2, h3, h4, h5, h6]
    funext y
    idx_vars y
    exact v27_at _ _ _ _ _ _ _ _ _

end Cert.Reference4Ideal.Moe

end
-- ==== Proof.Lay.Samp.lean ====
/- The sample's in-projection's block, read at an index, and the arrays the host lays out for it and cuts from its results. -/
module

public import proofs.«01_k».proof.Proof.Gen.Kernel5Ideal.Frame
public import proofs.«01_k».proof.Proof.Lay.Spec
public import Idealize.ShloMosaic.Lib.Pipeline.ValueKit

@[expose] public section

set_option maxRecDepth 16384

noncomputable section

namespace Cert.Kernel5Ideal.Samp

open Idealize.ShloMosaic Idealize.ShloMosaic.TcCoe Idealize.ShloMosaic.Tactic
open Cert.Kernel5Ideal.Gen Cert.Lay

section blocks

variable (x0 : Vec Ideal S128x1024 .f32) (x1 : Vec Ideal S1x1024 .f32) (x2 : Vec Ideal S1024x3584 .bf16) (x3 : Vec Ideal S1x128 .f32)

theorem pay4_at (a : Fin 128) (k : Fin 1024) : k0_pay4 x0 x1 (ix2 a k) = rms (fun k => x0 (ix2 a k)) (fun k => x1 (ix2 0 k)) k := by
  pointwise [k0_pay4]
  rfl

/-- A row's product with one column of the weights' block. -/
def at_ (a : Fin 128) (e : Fin 3584) : EReal :=
  col (fun k => x0 (ix2 a k)) (fun k => x1 (ix2 0 k)) (fun k => x2 (ix2 k e))

theorem out4_at (a : Fin 128) (e : Fin 512) :
    out0_4 x0 x1 x2 x3 (ix2 a e) = at_ x0 x1 x2 a ⟨e.val, by omega⟩ * Ideal.ofBits FTy.f32 0x3E000000#32 := by
  unfold_out out0_4
  frame_out
  pointwise [k0_pay5, pay4_at]
  rfl

theorem out5_at (a : Fin 128) (e : Fin 512) : out0_5 x0 x1 x2 x3 (ix2 a e) = at_ x0 x1 x2 a ⟨512 + e.val, by omega⟩ := by
  unfold_out out0_5
  frame_out
  pointwise [k0_pay6, pay4_at]
  rfl

theorem out6_at (a : Fin 128) (e : Fin 512) : out0_6 x0 x1 x2 x3 (ix2 a e) = at_ x0 x1 x2 a ⟨1024 + e.val, by omega⟩ := by
  unfold_out out0_6
  frame_out
  pointwise [k0_pay8, pay4_at]
  rfl

theorem out7_at (a : Fin 128) (e : Fin 512) : out0_7 x0 x1 x2 x3 (ix2 a e) = at_ x0 x1 x2 a ⟨512 + e.val, by omega⟩ := by
  unfold_out out0_7
  frame_out
  pointwise [k0_pay7, k0_pay6, pay4_at]
  rfl

theorem out8_at (a : Fin 128) (e : Fin 512) : out0_8 x0 x1 x2 x3 (ix2 a e) = at_ x0 x1 x2 a ⟨1024 + e.val, by omega⟩ := by
  unfold_out out0_8
  frame_out
  pointwise [k0_pay1, k0_pay8, pay4_at]
  rfl

theorem out9_at (a : Fin 128) (e : Fin 128) :
    out0_9 x0 x1 x2 x3 (ix2 a e) = logSig (at_ x0 x1 x2 a ⟨1536 + e.val, by omega⟩ + x3 (ix2 0 e)) := by
  unfold_out out0_9
  frame_out
  pointwise [k0_pay2, pay4_at]
  rfl

theorem out10_at (a : Fin 128) (e : Fin 1920) : out0_10 x0 x1 x2 x3 (ix2 a e) = at_ x0 x1 x2 a ⟨1664 + e.val, by omega⟩ := by
  unfold_out out0_10
  frame_out
  pointwise [k0_pay3, pay4_at]
  rfl

end blocks

section host

variable (m : (ℓ : Loc nD τ sig) → Buf (Elt Ideal) ℓ) (c : Dev nD)

/-- The weights as launched. -/
abbrev wt : FVec Ideal S1024x5384 .f32 := m ((c : Thread nD τ).loc main_arg2)

/-- The columns of the recurrence, -/
def recCols : FVec Ideal S1024x1792 .f32 := extractStridedSlice S1024x1792 ![0, 1544] (wt m c) slices_S1024x5384_S1024x1792_0_1544

/-- the zeros between their parts, -/
def zeros : FVec Ideal S1024x64 .f32 := broadcastInDim S1024x64 ![] bcast_S_S1024x64 (constant S_ FTy.f32 0x00000000#32)

theorem V_v9 : V m c main_v9 = concatenate S1024x1920 1
    [⟨S1024x1536, extractStridedSlice S1024x1536 ![0, 0] (recCols m c) slices_S1024x1792_S1024x1536_0_0⟩,
     ⟨S1024x64, extractStridedSlice S1024x64 ![0, 1536] (recCols m c) slices_S1024x1792_S1024x64_0_1536⟩, ⟨S1024x64, zeros⟩,
     ⟨S1024x64, extractStridedSlice S1024x64 ![0, 1600] (recCols m c) slices_S1024x1792_S1024x64_0_1600⟩, ⟨S1024x64, zeros⟩,
     ⟨S1024x128, extractStridedSlice S1024x128 ![0, 1664] (recCols m c) slices_S1024x1792_S1024x128_0_1664⟩]
    concatenates_S1024x1536_S1024x64_S1024x64_S1024x64_S1024x64_S1024x128_S1024x1920_d1 := by
  show StableHlo.after hostOps0 (fun b => m (c, b)) (Proc.tc.devRef main_v9) = _
  after_results
  rfl

theorem V_v2 : V m c main_v2 = concatenate S1024x128 1
    [⟨S1024x8, extractStridedSlice S1024x8 ![0, 1536] (wt m c) slices_S1024x5384_S1024x8_0_1536⟩,
     ⟨S1024x120, broadcastInDim S1024x120 ![] bcast_S_S1024x120 (constant (F := Ideal) S_ FTy.f32 0x00000000#32)⟩]
    concatenates_S1024x8_S1024x120_S1024x128_d1 := by
  show StableHlo.after hostOps0 (fun b => m (c, b)) (Proc.tc.devRef main_v2) = _
  after_results

theorem V_v12 : V m c main_v12 = concatenate S1024x3584 1
    [⟨S1024x1536, extractStridedSlice S1024x1536 ![0, 0] (wt m c) slices_S1024x5384_S1024x1536_0_0⟩,
     ⟨S1024x128, V m c main_v2⟩, ⟨S1024x1920, V m c main_v9⟩] concatenates_S1024x1536_S1024x128_S1024x1920_S1024x3584_d1 := by
  show StableHlo.after hostOps0 (fun b => m (c, b)) (Proc.tc.devRef main_v12) = _
  after_results
  rfl

theorem V_v13 (k : Fin 1024) (e : Fin 3584) : V m c main_v13 (ix2 k e) = V m c main_v12 (ix2 k e) := by
  show StableHlo.after hostOps0 (fun b => m (c, b)) (Proc.tc.devRef main_v13) _ = StableHlo.after hostOps0 (fun b => m (c, b)) (Proc.tc.devRef main_v12) _
  after_results
  rfl

theorem V_v10 (z : Fin 1) (k : Fin 1024) : V m c main_v10 (ix2 z k) = m ((c : Thread nD τ).loc main_arg1) (ix1 k) := by
  show StableHlo.after hostOps0 (fun b => m (c, b)) (Proc.tc.devRef main_v10) _ = _
  after_results
  pointwise

theorem V_v17 (n : Fin 128) (k : Fin 1024) : V m c main_v17 (ix2 n k)
    = m ((c : Thread nD τ).loc main_arg0) (ix3 ⟨n.val / 4, by omega⟩ ⟨n.val % 4, by omega⟩ k) := by
  show StableHlo.after hostOps0 (fun b => m (c, b)) (Proc.tc.devRef main_v17) _ = _
  after_results
  pointwise

theorem V_v16 (z : Fin 1) (h : Fin 8) : V m c main_v16 (ix2 z ⟨h.val, by omega⟩) = m ((c : Thread nD τ).loc main_arg3) (ix1 h) := by
  show StableHlo.after hostOps0 (fun b => m (c, b)) (Proc.tc.devRef main_v16) _ = _
  after_results
  pointwise

/-! The columns of the laid-out weights that the results need. -/

theorem w_qkv (k : Fin 1024) (e : Fin 1536) : V m c main_v13 (ix2 k ⟨e.val, by omega⟩) = wt m c (ix2 k ⟨e.val, by omega⟩) := by
  rw [V_v13, V_v12]
  pointwise

theorem w_f (k : Fin 1024) (h : Fin 8) :
    V m c main_v13 (ix2 k ⟨1536 + h.val, by omega⟩) = wt m c (ix2 k ⟨1536 + h.val, by omega⟩) := by
  rw [V_v13, V_v12, V_v2]
  pointwise
  rw [dif_pos (by omega)]

theorem w_rec (k : Fin 1024) (e : Fin 1792) :
    V m c main_v13 (ix2 k ⟨1664 + (place e).val, by omega⟩) = wt m c (ix2 k ⟨1544 + e.val, by omega⟩) := by
  rw [V_v13, V_v12, V_v9]
  pointwise [recCols]
  have hp := place_val e
  split_ifs <;> first
    | (exfalso; split_ifs at hp <;> omega)
    | exact congrArg (fun j => wt m c (ix2 k j)) (Fin.ext (by dsimp only; split_ifs at hp <;> omega))

/-- The rows of each sequence, -/
def rows (A : FVec Ideal S128x1920 .f32) : FVec Ideal S32x4x1920 .f32 := shapeCast S32x4x1920 A shapeCasts_S128x1920_S32x4x1920

theorem rows_at (A : FVec Ideal S128x1920 .f32) (b : Fin 32) (n : Fin 4) (e : Fin 1920) :
    rows A (ix3 b n e) = A (ix2 ⟨b.val * 4 + n.val, by omega⟩ e) := by
  pointwise [rows]

/-- and the last of them. -/
def last (A : FVec Ideal S128x1920 .f32) : FVec Ideal S32x1920 .f32 :=
  shapeCast S32x1920 (extractStridedSlice S32x1x1920 ![0, 3, 0] (shapeCast S32x4x1920 A shapeCasts_S128x1920_S32x4x1920)
    slices_S32x4x1920_S32x1x1920_0_3_0) shapeCasts_S32x1x1920_S32x1920

theorem last_at (A : FVec Ideal S128x1920 .f32) (b : Fin 32) (e : Fin 1920) :
    last A (ix2 b e) = A (ix2 ⟨b.val * 4 + 3, by omega⟩ e) := by
  pointwise [last]

theorem tail_lf (U : Valuation τ sig (Elt Ideal)) : StableHlo.after hostOps1 U (Proc.tc.devRef main_v21)
    = extractStridedSlice S32x4x8 ![0, 0, 0] (shapeCast S32x4x128 (U (Proc.tc.devRef main_v18_5)) shapeCasts_S128x128_S32x4x128)
        slices_S32x4x128_S32x4x8_0_0_0 := by
  after_results
  rfl

theorem lf_at (A : FVec Ideal S128x128 .f32) (b : Fin 32) (n : Fin 4) (h : Fin 8) :
    extractStridedSlice S32x4x8 ![0, 0, 0] (shapeCast S32x4x128 A shapeCasts_S128x128_S32x4x128)
      slices_S32x4x128_S32x4x8_0_0_0 (ix3 b n h) = A (ix2 ⟨b.val * 4 + n.val, by omega⟩ ⟨h.val, by omega⟩) := by
  pointwise

theorem tail_shift (U : Valuation τ sig (Elt Ideal)) : StableHlo.after hostOps1 U (Proc.tc.devRef main_v28) = concatenate S32x1792 1
    [⟨S32x1536, extractStridedSlice S32x1536 ![0, 0] (last (U (Proc.tc.devRef main_v18_6))) slices_S32x1920_S32x1536_0_0⟩,
     ⟨S32x64, extractStridedSlice S32x64 ![0, 1536] (last (U (Proc.tc.devRef main_v18_6))) slices_S32x1920_S32x64_0_1536⟩,
     ⟨S32x64, extractStridedSlice S32x64 ![0, 1664] (last (U (Proc.tc.devRef main_v18_6))) slices_S32x1920_S32x64_0_1664⟩,
     ⟨S32x128, extractStridedSlice S32x128 ![0, 1792] (last (U (Proc.tc.devRef main_v18_6))) slices_S32x1920_S32x128_0_1792⟩]
    concatenates_S32x1536_S32x64_S32x64_S32x128_S32x1792_d1 := by
  after_results
  rfl

theorem shift_at (A : FVec Ideal S128x1920 .f32) (b : Fin 32) (e : Fin 1792) : concatenate S32x1792 1
    [⟨S32x1536, extractStridedSlice S32x1536 ![0, 0] (last A) slices_S32x1920_S32x1536_0_0⟩,
     ⟨S32x64, extractStridedSlice S32x64 ![0, 1536] (last A) slices_S32x1920_S32x64_0_1536⟩,
     ⟨S32x64, extractStridedSlice S32x64 ![0, 1664] (last A) slices_S32x1920_S32x64_0_1664⟩,
     ⟨S32x128, extractStridedSlice S32x128 ![0, 1792] (last A) slices_S32x1920_S32x128_0_1792⟩]
    concatenates_S32x1536_S32x64_S32x64_S32x128_S32x1792_d1 (ix2 b e) = A (ix2 ⟨b.val * 4 + 3, by omega⟩ (place e)) := by
  pointwise [last_at]
  have hp := place_val e
  split_ifs <;> exact congrArg (fun j => A (ix2 ⟨b.val * 4 + 3, by omega⟩ j)) (Fin.ext (by dsimp only; split_ifs at hp <;> omega))

theorem tail_rec (U : Valuation τ sig (Elt Ideal)) : StableHlo.after hostOps1 U (Proc.tc.devRef main_v33) = concatenate S32x4x1792 2
    [⟨S32x4x1536, extractStridedSlice S32x4x1536 ![0, 0, 0] (rows (U (Proc.tc.devRef main_v18_6))) slices_S32x4x1920_S32x4x1536_0_0_0⟩,
     ⟨S32x4x64, extractStridedSlice S32x4x64 ![0, 0, 1536] (rows (U (Proc.tc.devRef main_v18_6))) slices_S32x4x1920_S32x4x64_0_0_1536⟩,
     ⟨S32x4x64, extractStridedSlice S32x4x64 ![0, 0, 1664] (rows (U (Proc.tc.devRef main_v18_6))) slices_S32x4x1920_S32x4x64_0_0_1664⟩,
     ⟨S32x4x128, extractStridedSlice S32x4x128 ![0, 0, 1792] (rows (U (Proc.tc.devRef main_v18_6))) slices_S32x4x1920_S32x4x128_0_0_1792⟩]
    concatenates_S32x4x1536_S32x4x64_S32x4x64_S32x4x128_S32x4x1792_d2 := by
  after_results
  rfl

theorem rec_at (A : FVec Ideal S128x1920 .f32) (b : Fin 32) (n : Fin 4) (e : Fin 1792) : concatenate S32x4x1792 2
    [⟨S32x4x1536, extractStridedSlice S32x4x1536 ![0, 0, 0] (rows A) slices_S32x4x1920_S32x4x1536_0_0_0⟩,
     ⟨S32x4x64, extractStridedSlice S32x4x64 ![0, 0, 1536] (rows A) slices_S32x4x1920_S32x4x64_0_0_1536⟩,
     ⟨S32x4x64, extractStridedSlice S32x4x64 ![0, 0, 1664] (rows A) slices_S32x4x1920_S32x4x64_0_0_1664⟩,
     ⟨S32x4x128, extractStridedSlice S32x4x128 ![0, 0, 1792] (rows A) slices_S32x4x1920_S32x4x128_0_0_1792⟩]
    concatenates_S32x4x1536_S32x4x64_S32x4x64_S32x4x128_S32x4x1792_d2 (ix3 b n e)
      = A (ix2 ⟨b.val * 4 + n.val, by omega⟩ (place e)) := by
  pointwise [rows_at]
  have hp := place_val e
  split_ifs <;> exact congrArg (fun j => A (ix2 ⟨b.val * 4 + n.val, by omega⟩ j)) (Fin.ext (by dsimp only; split_ifs at hp <;> omega))

end host

end Cert.Kernel5Ideal.Samp

end
-- ==== Proof.Lay.SampValue.lean ====
/- The sample's in-projection's arrays, as functions of the arrays it is given, and its run's results. -/
module

public import proofs.«01_k».proof.Proof.Gen.Kernel5Ideal.Frame
public import proofs.«01_k».proof.Proof.Lay.Samp

@[expose] public section

set_option maxRecDepth 16384

noncomputable section

namespace Cert.Kernel5Ideal.Samp

open Idealize.ShloMosaic Idealize.ShloMosaic.TcCoe Idealize.ShloMosaic.Tactic Idealize.SL.Sem
open Cert.Kernel5Ideal.Gen Cert.Lay

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem tl (t : Fin cfg0.N) : t.val < 1 := Nat.lt_of_lt_of_eq t.isLt N_0

/-- A row's product with a laid-out column. -/
def laid (n : Fin 128) (e : Fin 3584) : EReal :=
  col (fun k => V m c main_v17 (ix2 n k)) (fun k => V m c main_v10 (ix2 0 k)) (fun k => V m c main_v13 (ix2 k e))

/-- The same over a part of the laid-out columns, -/
def part (o w : Nat) (ho : o + w ≤ 3584) (n : Fin 128) (e : Fin w) : EReal := laid m c n ⟨o + e.val, by omega⟩

/-- scaled over the queries' columns, -/
def query (n : Fin 128) (e : Fin 512) : EReal := laid m c n ⟨e.val, by omega⟩ * Ideal.ofBits FTy.f32 0x3E000000#32

/-- and the logarithm of the forget gate. -/
def forget (n : Fin 128) (e : Fin 128) : EReal := logSig (part m c 1536 128 (by decide) n e + V m c main_v16 (ix2 0 e))

section block

variable (t : Fin cfg0.N)

theorem blk0 (a : Fin 128) (k : Fin 1024) :
    iblk m c 0 t (ix2 a k) = V m c main_v17 (ix2 ⟨t.val * 128 + a.val, by have := tl t; omega⟩ k) := by
  blk_ext [iblk, idx t]

theorem blk1 (k : Fin 1024) : iblk m c 1 t (ix2 0 k) = V m c main_v10 (ix2 0 k) := by
  blk_ext [iblk, idx t]

theorem blk2 (k : Fin 1024) (e : Fin 3584) : iblk m c 2 t (ix2 k e) = V m c main_v13 (ix2 k e) := by
  blk_ext [iblk, idx t]

theorem blk3 (e : Fin 128) : iblk m c 3 t (ix2 0 e) = V m c main_v16 (ix2 0 e) := by
  blk_ext [iblk, idx t]

theorem laid_eq (a : Fin 128) (e : Fin 3584) : at_ (iblk m c 0 t) (iblk m c 1 t) (iblk m c 2 t) a e
    = laid m c ⟨t.val * 128 + a.val, by have := tl t; omega⟩ e := by
  unfold at_ laid
  simp only [blk0, blk1, blk2]

end block

/-! The arrays after the last point. -/

theorem final4 : (dats m 0 c).arrAt 4 cfg0.N = fun y : S128x512.Idx => query m c (y 0) (y 1) := by
  refine (dats m 0 c).arrAt_eq_of_covers 4 _ (by decide +kernel) fun t _ y => ?_
  blk_simp
  rw [after0_4]
  idx_vars y
  rw [out4_at, laid_eq]
  have hp : ((cfg0.win 4).blk t).view.emb (ix2 y0 y1)
      = ix2 (n0 := 128) (n1 := 512) ⟨t.val * 128 + y0.val, by have := tl t; omega⟩ y1 := by
    blk_ext [idx t]
  rw [hp]
  rfl

theorem final5 : (dats m 0 c).arrAt 5 cfg0.N = fun y : S128x512.Idx => part m c 512 512 (by decide) (y 0) (y 1) := by
  refine (dats m 0 c).arrAt_eq_of_covers 5 _ (by decide +kernel) fun t _ y => ?_
  blk_simp
  rw [after0_5]
  idx_vars y
  rw [out5_at, laid_eq]
  have hp : ((cfg0.win 5).blk t).view.emb (ix2 y0 y1)
      = ix2 (n0 := 128) (n1 := 512) ⟨t.val * 128 + y0.val, by have := tl t; omega⟩ y1 := by
    blk_ext [idx t]
  rw [hp]
  rfl

theorem final6 : (dats m 0 c).arrAt 6 cfg0.N = fun y : S128x512.Idx => part m c 1024 512 (by decide) (y 0) (y 1) := by
  refine (dats m 0 c).arrAt_eq_of_covers 6 _ (by decide +kernel) fun t _ y => ?_
  blk_simp
  rw [after0_6]
  idx_vars y
  rw [out6_at, laid_eq]
  have hp : ((cfg0.win 6).blk t).view.emb (ix2 y0 y1)
      = ix2 (n0 := 128) (n1 := 512) ⟨t.val * 128 + y0.val, by have := tl t; omega⟩ y1 := by
    blk_ext [idx t]
  rw [hp]
  rfl

theorem final7 : (dats m 0 c).arrAt 7 cfg0.N = fun y : S128x512.Idx => part m c 512 512 (by decide) (y 0) (y 1) := by
  refine (dats m 0 c).arrAt_eq_of_covers 7 _ (by decide +kernel) fun t _ y => ?_
  blk_simp
  rw [after0_7]
  idx_vars y
  rw [out7_at, laid_eq]
  have hp : ((cfg0.win 7).blk t).view.emb (ix2 y0 y1)
      = ix2 (n0 := 128) (n1 := 512) ⟨t.val * 128 + y0.val, by have := tl t; omega⟩ y1 := by
    blk_ext [idx t]
  rw [hp]
  rfl

theorem final8 : (dats m 0 c).arrAt 8 cfg0.N = fun y : S128x512.Idx => part m c 1024 512 (by decide) (y 0) (y 1) := by
  refine (dats m 0 c).arrAt_eq_of_covers 8 _ (by decide +kernel) fun t _ y => ?_
  blk_simp
  rw [after0_8]
  idx_vars y
  rw [out8_at, laid_eq]
  have hp : ((cfg0.win 8).blk t).view.emb (ix2 y0 y1)
      = ix2 (n0 := 128) (n1 := 512) ⟨t.val * 128 + y0.val, by have := tl t; omega⟩ y1 := by
    blk_ext [idx t]
  rw [hp]
  rfl

theorem final9 : (dats m 0 c).arrAt 9 cfg0.N = fun y : S128x128.Idx => forget m c (y 0) (y 1) := by
  refine (dats m 0 c).arrAt_eq_of_covers 9 _ (by decide +kernel) fun t _ y => ?_
  blk_simp
  rw [after0_9]
  idx_vars y
  rw [out9_at, laid_eq, blk3]
  have hp : ((cfg0.win 9).blk t).view.emb (ix2 y0 y1)
      = ix2 (n0 := 128) (n1 := 128) ⟨t.val * 128 + y0.val, by have := tl t; omega⟩ y1 := by
    blk_ext [idx t]
  rw [hp]
  rfl

theorem final10 : (dats m 0 c).arrAt 10 cfg0.N = fun y : S128x1920.Idx => part m c 1664 1920 (by decide) (y 0) (y 1) := by
  refine (dats m 0 c).arrAt_eq_of_covers 10 _ (by decide +kernel) fun t _ y => ?_
  blk_simp
  rw [after0_10]
  idx_vars y
  rw [out10_at, laid_eq]
  have hp : ((cfg0.win 10).blk t).view.emb (ix2 y0 y1)
      = ix2 (n0 := 128) (n1 := 1920) ⟨t.val * 128 + y0.val, by have := tl t; omega⟩ y1 := by
    blk_ext [idx t]
  rw [hp]
  rfl

/-! The run's results: the arrays, and what the host cuts from the last two. -/

section results

variable (X : FVec Ideal S32x4x1024 .f32) (G : FVec Ideal S1024 .f32) (W : FVec Ideal S1024x5384 .f32) (B : FVec Ideal S8 .f32)

/-- A token's normed row against a column of the weights. -/
def proj (b : Fin 32) (n : Fin 4) (e : Fin 5384) : EReal :=
  col (fun k => X (ix3 b n k)) (fun k => G (ix1 k)) (fun k => W (ix2 k e))

/-- The same over the tokens in a row, -/
def tok (n : Fin 128) (e : Fin 5384) : EReal := proj X G W ⟨n.val / 4, by omega⟩ ⟨n.val % 4, by omega⟩ e

/-- over the queries' columns, scaled, -/
def qAt (n : Fin 128) (e : Fin 512) : EReal := tok X G W n ⟨e.val, by omega⟩ * Ideal.ofBits FTy.f32 0x3E000000#32

/-- over the keys' columns, -/
def kAt (n : Fin 128) (e : Fin 512) : EReal := tok X G W n ⟨512 + e.val, by omega⟩

/-- over the values' columns, -/
def vAt (n : Fin 128) (e : Fin 512) : EReal := tok X G W n ⟨1024 + e.val, by omega⟩

/-- the logarithm of the forget gate -/
def lfAt (b : Fin 32) (n : Fin 4) (h : Fin 8) : EReal := logSig (proj X G W b n ⟨1536 + h.val, by omega⟩ + B (ix1 h))

/-- and the recurrence's columns, -/
def recAt (b : Fin 32) (n : Fin 4) (e : Fin 1792) : EReal := proj X G W b n ⟨1544 + e.val, by omega⟩

/-- with those of a sequence's last token. -/
def shiftAt (b : Fin 32) (e : Fin 1792) : EReal := recAt X G W b ⟨3, by omega⟩ e

/-- The results as arrays. -/
abbrev qRes : FVec Ideal S128x512 .bf16 := fun y => qAt X G W (y 0) (y 1)
@[inherit_doc qRes] abbrev kRes : FVec Ideal S128x512 .f32 := fun y => kAt X G W (y 0) (y 1)
@[inherit_doc qRes] abbrev vRes : FVec Ideal S128x512 .f32 := fun y => vAt X G W (y 0) (y 1)
@[inherit_doc qRes] abbrev lfRes : FVec Ideal S32x4x8 .f32 := fun y => lfAt X G W B (y 0) (y 1) (y 2)
@[inherit_doc qRes] abbrev shiftRes : FVec Ideal S32x1792 .f32 := fun y => shiftAt X G W (y 0) (y 1)
@[inherit_doc qRes] abbrev recRes : FVec Ideal S32x4x1792 .f32 := fun y => recAt X G W (y 0) (y 1) (y 2)

end results

/-- The arguments as launched. -/
abbrev argX : FVec Ideal S32x4x1024 .f32 := m ((c : Thread nD τ).loc main_arg0)
@[inherit_doc argX] abbrev argG : FVec Ideal S1024 .f32 := m ((c : Thread nD τ).loc main_arg1)
@[inherit_doc argX] abbrev argB : FVec Ideal S8 .f32 := m ((c : Thread nD τ).loc main_arg3)

/-- A laid-out column that is a column of the weights. -/
theorem laid_proj (n : Fin 128) (e : Fin 3584) (e' : Fin 5384) (h : ∀ k, V m c main_v13 (ix2 k e) = wt m c (ix2 k e')) :
    laid m c n e = tok (argX m c) (argG m c) (wt m c) n e' := by
  unfold laid tok proj
  congr 1
  · exact funext fun k => V_v17 m c n k
  · exact funext fun k => V_v10 m c 0 k
  · exact funext h

theorem laid_at (b : Fin 32) (n : Fin 4) (e : Fin 3584) (e' : Fin 5384)
    (h : ∀ k, V m c main_v13 (ix2 k e) = wt m c (ix2 k e')) :
    laid m c ⟨b.val * 4 + n.val, by omega⟩ e = proj (argX m c) (argG m c) (wt m c) b n e' := by
  rw [laid_proj m c _ e e' h]
  unfold tok
  congr 1
  · exact Fin.ext (by dsimp only; omega)
  · exact Fin.ext (by dsimp only; omega)

theorem final_q : (dats m 0 c).arrAt 4 cfg0.N = qRes (argX m c) (argG m c) (wt m c) := by
  rw [final4]
  funext y
  idx_vars y
  exact congrArg (· * Ideal.ofBits FTy.f32 0x3E000000#32) (laid_proj m c y0 _ _ fun k => w_qkv m c k ⟨y1.val, by omega⟩)

theorem final_k : (fun y : S128x512.Idx => part m c 512 512 (by decide) (y 0) (y 1)) = kRes (argX m c) (argG m c) (wt m c) := by
  funext y
  idx_vars y
  exact laid_proj m c y0 _ _ fun k => w_qkv m c k ⟨512 + y1.val, by omega⟩

theorem final_v : (fun y : S128x512.Idx => part m c 1024 512 (by decide) (y 0) (y 1)) = vRes (argX m c) (argG m c) (wt m c) := by
  funext y
  idx_vars y
  exact laid_proj m c y0 _ _ fun k => w_qkv m c k ⟨1024 + y1.val, by omega⟩

/-- The memory the host's last lines read. -/
abbrev atExit : Valuation τ sig (Elt Ideal) :=
  Pipeline.withArrays (cfgs 0).spec c (V0 m c) fun w => (dats m 0 c).arrAt w (cfgs 0).N

theorem final_lf : Pipeline.afterTail₀ cfgs (dats m) 0 (V0 m) [hostOps1] c main_v21
    = lfRes (argX m c) (argG m c) (wt m c) (argB m c) := by
  show StableHlo.after hostOps1 (atExit m c) (Proc.tc.devRef main_v21) = _
  have hA : atExit m c (Proc.tc.devRef main_v18_5) = (dats m 0 c).arrAt 9 cfg0.N :=
    Pipeline.withArrays_arr spec0 (by decide) c (V0 m c) (fun w => (dats m 0 c).arrAt w (cfgs 0).N) 9
  rw [tail_lf, hA, final9]
  funext y
  idx_vars y
  refine (lf_at _ y0 y1 y2).trans ?_
  exact congrArg logSig (congrArg₂ (· + ·) (laid_at m c y0 y1 _ _ fun k => w_f m c k y2) (V_v16 m c 0 y2))

theorem final_shift : Pipeline.afterTail₀ cfgs (dats m) 0 (V0 m) [hostOps1] c main_v28
    = shiftRes (argX m c) (argG m c) (wt m c) := by
  show StableHlo.after hostOps1 (atExit m c) (Proc.tc.devRef main_v28) = _
  have hA : atExit m c (Proc.tc.devRef main_v18_6) = (dats m 0 c).arrAt 10 cfg0.N :=
    Pipeline.withArrays_arr spec0 (by decide) c (V0 m c) (fun w => (dats m 0 c).arrAt w (cfgs 0).N) 10
  rw [tail_shift, hA, final10]
  funext y
  idx_vars y
  refine (shift_at _ y0 y1).trans ?_
  exact laid_at m c y0 ⟨3, by omega⟩ _ _ fun k => w_rec m c k y1

theorem final_rec : Pipeline.afterTail₀ cfgs (dats m) 0 (V0 m) [hostOps1] c main_v33
    = recRes (argX m c) (argG m c) (wt m c) := by
  show StableHlo.after hostOps1 (atExit m c) (Proc.tc.devRef main_v33) = _
  have hA : atExit m c (Proc.tc.devRef main_v18_6) = (dats m 0 c).arrAt 10 cfg0.N :=
    Pipeline.withArrays_arr spec0 (by decide) c (V0 m c) (fun w => (dats m 0 c).arrAt w (cfgs 0).N) 10
  rw [tail_rec, hA, final10]
  funext y
  idx_vars y
  refine (rec_at _ y0 y1 y2).trans ?_
  exact laid_at m c y0 y1 _ _ fun k => w_rec m c k y2

/-- The run: its eight results and its arguments. -/
theorem run (ρ : Dev nD → PrngReg) : θ_run defs (onTc (τ := τ) (main (F := Ideal))) ⟨m, fun _ => 0, ρ⟩ (fun r => ∀ c : Dev nD,
    r.2.mem ((c.tc : Thread nD τ).loc main_v18_0) = qRes (argX m c) (argG m c) (wt m c)
    ∧ r.2.mem ((c.tc : Thread nD τ).loc main_v18_1) = kRes (argX m c) (argG m c) (wt m c)
    ∧ r.2.mem ((c.tc : Thread nD τ).loc main_v18_2) = vRes (argX m c) (argG m c) (wt m c)
    ∧ r.2.mem ((c.tc : Thread nD τ).loc main_v18_3) = kRes (argX m c) (argG m c) (wt m c)
    ∧ r.2.mem ((c.tc : Thread nD τ).loc main_v18_4) = vRes (argX m c) (argG m c) (wt m c)
    ∧ r.2.mem ((c.tc : Thread nD τ).loc main_v21) = lfRes (argX m c) (argG m c) (wt m c) (argB m c)
    ∧ r.2.mem ((c.tc : Thread nD τ).loc main_v28) = shiftRes (argX m c) (argG m c) (wt m c)
    ∧ r.2.mem ((c.tc : Thread nD τ).loc main_v33) = recRes (argX m c) (argG m c) (wt m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ⟨((h c).1 4).trans (final_q m c), ((h c).1 5).trans ((final5 m c).trans (final_k m c)),
    ((h c).1 6).trans ((final6 m c).trans (final_v m c)), ((h c).1 7).trans ((final7 m c).trans (final_k m c)),
    ((h c).1 8).trans ((final8 m c).trans (final_v m c)),
    ((h c).2 main_v21 (Pipeline.mem_restRefs_of main_v21 (by decide) (by decide))).trans (final_lf m c),
    ((h c).2 main_v28 (Pipeline.mem_restRefs_of main_v28 (by decide) (by decide))).trans (final_shift m c),
    ((h c).2 main_v33 (Pipeline.mem_restRefs_of main_v33 (by decide) (by decide))).trans (final_rec m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

end Cert.Kernel5Ideal.Samp

end
-- ==== Proof.Lay.SampRef.lean ====
/- The sample's in-projection's reference, its seven results read at an index, and the call's value claim. -/
module

public import proofs.«01_k».proof.Defs
public import proofs.«01_k».proof.Proof.Gen.Kernel5Ideal
public import proofs.«01_k».proof.Proof.Gen.Reference5Ideal
public import proofs.«01_k».proof.Proof.Gen.Reference5Ideal.Read
public import proofs.«01_k».proof.Proof.Lay.SampValue
public import Idealize.ShloMosaic.Lib.Quiescent

@[expose] public section

set_option maxRecDepth 16384

noncomputable section

namespace Cert.Reference5Ideal.Samp

open Idealize.ShloMosaic Idealize.ShloMosaic.TcCoe Idealize.ShloMosaic.Tactic Idealize.SL.Sem
open Cert.Reference5Ideal Cert.Reference5Ideal.Gen Cert.Reference5Ideal.Read Cert.Lay
open Cert.Kernel5Ideal.Samp (proj tok qAt kAt vAt lfAt shiftAt qRes kRes vRes lfRes shiftRes recAt recRes)

variable (X : FVec Ideal S32x4x1024 .f32) (G : FVec Ideal S1024 .f32) (W : FVec Ideal S1024x5384 .f32) (B : FVec Ideal S8 .f32)

theorem v12_at (b : Fin 32) (n : Fin 4) (k : Fin 1024) :
    val_main_v12 (F := Ideal) X G (ix3 b n k) = rms (fun k => X (ix3 b n k)) (fun k => G (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v13_at (b : Fin 32) (n : Fin 4) (e : Fin 5384) : val_main_v13 (F := Ideal) X G W (ix3 b n e) = proj X G W b n e := by
  pointwise [val_main_v13, v12_at]
  rfl

theorem v27_at (n : Fin 128) (e : Fin 512) : val_main_v27 (F := Ideal) X G W (ix2 n e) = qAt X G W n e := by
  pointwise [val_main_v27, val_main_v26, val_main_v25, val_main_v24, val_main_cst_2, val_main_v15, val_main_v14, v13_at]
  rfl

theorem v28_at (n : Fin 128) (e : Fin 512) : val_main_v28 (F := Ideal) X G W (ix2 n e) = kAt X G W n e := by
  pointwise [val_main_v28, val_main_v16, val_main_v14, v13_at]
  rfl

theorem v29_at (n : Fin 128) (e : Fin 512) : val_main_v29 (F := Ideal) X G W (ix2 n e) = vAt X G W n e := by
  pointwise [val_main_v29, val_main_v17, val_main_v14, v13_at]
  rfl

theorem v31_at (n : Fin 128) (e : Fin 512) : val_main_v31 (F := Ideal) X G W (ix2 n e) = kAt X G W n e := by
  pointwise [val_main_v31, val_main_v30, val_main_v16, val_main_v14, v13_at]
  rfl

theorem v33_at (n : Fin 128) (e : Fin 512) : val_main_v33 (F := Ideal) X G W (ix2 n e) = vAt X G W n e := by
  pointwise [val_main_v33, val_main_v32, val_main_v17, val_main_v14, v13_at]
  rfl

theorem v23_at (b : Fin 32) (n : Fin 4) (h : Fin 8) : val_main_v23 (F := Ideal) X G W B (ix3 b n h) = lfAt X G W B b n h := by
  pointwise [val_main_v23, val_main_call0_v1, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst,
    val_main_call0_v0, val_main_v22, val_main_v21, val_main_v20, val_main_v18, val_main_v14, v13_at]
  rw [if_neg (fun hne => hne rfl)]
  exact neg_softplus _

theorem v35_at (b : Fin 32) (e : Fin 1792) : val_main_v35 (F := Ideal) X G W (ix2 b e) = shiftAt X G W b e := by
  pointwise [val_main_v35, val_main_v34, val_main_v19, val_main_v14, v13_at]
  rfl

theorem v19_at (b : Fin 32) (n : Fin 4) (e : Fin 1792) : val_main_v19 (F := Ideal) X G W (ix3 b n e) = recAt X G W b n e := by
  pointwise [val_main_v19, val_main_v14, v13_at]
  rfl

theorem frame : @Cert.quiescent_Reference5Ideal Cert.Reference5Ideal.Gen.facts := fun m g _ =>
  (θ_run Cert.Reference5Ideal.defs _ _).mono (fun r h => ⟨fun c => (h c).2.2.2.2.2.2.2.2, sem_eq_zero_of_no_sems (by decide) r.2⟩)
    (Cert.Reference5Ideal.Value.run (F := Ideal) m g)

/-- The sample's in-projection's queries, keys, values, forget gates and recurrence's columns are the reference's. -/
theorem projection : @Cert.algebraic_Kernel5Ideal_Reference5Ideal Cert.Kernel5Ideal.Gen.facts Cert.Reference5Ideal.Gen.facts := by
  intro m g m' g' _ hagree
  refine ⟨fun c => qRes (Cert.Kernel5Ideal.Samp.argX m c) (Cert.Kernel5Ideal.Samp.argG m c) (Cert.Kernel5Ideal.Samp.wt m c),
    fun c => kRes (Cert.Kernel5Ideal.Samp.argX m c) (Cert.Kernel5Ideal.Samp.argG m c) (Cert.Kernel5Ideal.Samp.wt m c),
    fun c => vRes (Cert.Kernel5Ideal.Samp.argX m c) (Cert.Kernel5Ideal.Samp.argG m c) (Cert.Kernel5Ideal.Samp.wt m c),
    fun c => kRes (Cert.Kernel5Ideal.Samp.argX m c) (Cert.Kernel5Ideal.Samp.argG m c) (Cert.Kernel5Ideal.Samp.wt m c),
    fun c => vRes (Cert.Kernel5Ideal.Samp.argX m c) (Cert.Kernel5Ideal.Samp.argG m c) (Cert.Kernel5Ideal.Samp.wt m c),
    fun c => lfRes (Cert.Kernel5Ideal.Samp.argX m c) (Cert.Kernel5Ideal.Samp.argG m c) (Cert.Kernel5Ideal.Samp.wt m c)
      (Cert.Kernel5Ideal.Samp.argB m c),
    fun c => shiftRes (Cert.Kernel5Ideal.Samp.argX m c) (Cert.Kernel5Ideal.Samp.argG m c) (Cert.Kernel5Ideal.Samp.wt m c),
    fun c => recRes (Cert.Kernel5Ideal.Samp.argX m c) (Cert.Kernel5Ideal.Samp.argG m c) (Cert.Kernel5Ideal.Samp.wt m c),
    Cert.Kernel5Ideal.Samp.run m g, ?_⟩
  refine (θ_run Cert.Reference5Ideal.defs _ _).mono (fun r h c => ?_) (Cert.Reference5Ideal.Value.run (F := Ideal) m' g')
  obtain ⟨e0, e1, e2, e3⟩ := hagree c
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · rw [val_main_v27_eq, e0, e1, e2]
    funext y
    idx_vars y
    exact v27_at _ _ _ _ _
  · rw [val_main_v28_eq, e0, e1, e2]
    funext y
    idx_vars y
    exact v28_at _ _ _ _ _
  · rw [val_main_v29_eq, e0, e1, e2]
    funext y
    idx_vars y
    exact v29_at _ _ _ _ _
  · rw [val_main_v31_eq, e0, e1, e2]
    funext y
    idx_vars y
    exact v31_at _ _ _ _ _
  · rw [val_main_v33_eq, e0, e1, e2]
    funext y
    idx_vars y
    exact v33_at _ _ _ _ _
  · rw [val_main_v23_eq, e0, e1, e2, e3]
    funext y
    idx_vars y
    exact v23_at _ _ _ _ _ _ _
  · rw [val_main_v35_eq, e0, e1, e2]
    funext y
    idx_vars y
    exact v35_at _ _ _ _ _
  · rw [val_main_v19_eq, e0, e1, e2]
    funext y
    idx_vars y
    exact v19_at _ _ _ _ _ _

end Cert.Reference5Ideal.Samp

end
-- ==== Proof.Lay.SampMix.lean ====
/- The sample's mixing call's block, read at an index. -/
module

public import proofs.«01_k».proof.Proof.Gen.Kernel6Ideal.Frame
public import proofs.«01_k».proof.Proof.Lay.Spec
public import Idealize.ShloMosaic.Lib.Pipeline.ValueKit

@[expose] public section

set_option maxRecDepth 16384

noncomputable section

namespace Cert.Kernel6Ideal.Mix

open Idealize.ShloMosaic Idealize.ShloMosaic.TcCoe Idealize.ShloMosaic.Tactic
open Cert.Kernel6Ideal.Gen Cert.Lay

variable (x0 : Vec Ideal S128x1024 .f32) (x1 : Vec Ideal S128x512 .bf16) (x2 : Vec Ideal S128x512 .bf16) (x3 : Vec Ideal S1x1024 .f32)
  (x4 : Vec Ideal S1024x2048 .bf16) (x5 x6 : Vec Ideal S512x1024 .bf16) (x7 : Vec Ideal S1024x1024 .bf16) (x8 : Vec Ideal S1x1024 .f32)
  (x9 : Vec Ideal S1024x128 .bf16)

theorem gates_at (a : Fin 128) (c : Fin 2048) :
    k0_pay2 x0 x3 x4 (ix2 a c) = gate (fun k => x0 (ix2 a k)) (fun k => x3 (ix2 0 k)) (fun k => x4 (ix2 k c)) := by
  pointwise [k0_pay2]
  rfl

/-- The block of the residual rows. -/
def out (a : Fin 128) (d : Fin 1024) : EReal :=
  Lay.x1 (fun k => x0 (ix2 a k)) (fun k => x3 (ix2 0 k)) (fun k e => x4 (ix2 k ⟨e.val, by omega⟩)) (fun k e => x4 (ix2 k ⟨1024 + e.val, by omega⟩))
    (fun j => x1 (ix2 a j)) (fun j => x2 (ix2 a j)) (fun j e => x5 (ix2 j e)) (fun j e => x6 (ix2 j e)) (fun e f => x7 (ix2 e f)) d

theorem pay6_at (a : Fin 128) (d : Fin 1024) :
    k0_pay6 x0 (k0_pay3 x0 x3 x4 x1 x5) (k0_pay4 x0 x3 x4) x2 (k0_pay5 x6) (constant S128x1024 FTy.f32 0x00000000#32) x7 (ix2 a d)
      = out x0 x1 x2 x3 x4 x5 x6 x7 a d := by
  pointwise [k0_pay6, k0_pay3, k0_pay4, k0_pay5, gates_at]
  rfl

theorem out10_at (a : Fin 128) (d : Fin 1024) :
    out0_10 x0 x1 x2 x3 x4 x5 x6 x7 x8 x9 (ix2 a d) = out x0 x1 x2 x3 x4 x5 x6 x7 a d := by
  unfold_out out0_10
  frame_out
  exact pay6_at x0 x1 x2 x3 x4 x5 x6 x7 a d

/-- The block of the normed rows. -/
theorem out11_at (a : Fin 128) (d : Fin 1024) :
    out0_11 x0 x1 x2 x3 x4 x5 x6 x7 x8 x9 (ix2 a d) = rms (fun e => out x0 x1 x2 x3 x4 x5 x6 x7 a e) (fun k => x8 (ix2 0 k)) d := by
  unfold_out out0_11
  frame_out
  pointwise [k0_pay7, pay6_at]
  rfl

end Cert.Kernel6Ideal.Mix

end
-- ==== Proof.Lay.SampMixValue.lean ====
/- The sample's mixing call's two arrays, as functions of the arrays it is given. -/
module

public import proofs.«01_k».proof.Proof.Gen.Kernel6Ideal.Value
public import proofs.«01_k».proof.Proof.Lay.SampMix

@[expose] public section

set_option maxRecDepth 16384

noncomputable section

namespace Cert.Kernel6Ideal.Mix

open Idealize.ShloMosaic Idealize.ShloMosaic.TcCoe Idealize.ShloMosaic.Tactic
open Cert.Kernel6Ideal.Gen Cert.Lay

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_10.index t = ![t.val, 0] ∧ win0_11.index t = ![t.val, 0] :=
  (by decide +kernel : ∀ t : Fin grid0.N, _)

theorem tl (t : Fin cfg0.N) : t.val < 1 := Nat.lt_of_lt_of_eq t.isLt N_0

/-- The mixing call's residual rows over its arguments, -/
def resid (X : FVec Ideal S128x1024 .f32) (A B : FVec Ideal S128x512 .bf16) (G : FVec Ideal S1024 .f32) (W : FVec Ideal S1024x5384 .f32)
    (PA PB : FVec Ideal S512x1024 .f32) (WO : FVec Ideal S1024x1024 .f32) (n : Fin 128) (d : Fin 1024) : EReal :=
  Lay.x1 (fun k => X (ix2 n k)) (fun k => G (ix1 k)) (fun k e => W (ix2 k ⟨3336 + e.val, by omega⟩)) (fun k e => W (ix2 k ⟨3336 + (1024 + e.val), by omega⟩))
    (fun j => A (ix2 n j)) (fun j => B (ix2 n j)) (fun j e => PA (ix2 j e)) (fun j e => PB (ix2 j e)) (fun e f => WO (ix2 e f)) d

/-- of the memory it starts from. -/
def residOf (n : Fin 128) (d : Fin 1024) : EReal :=
  resid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) n d

theorem V_v3 (z : Fin 1) (k : Fin 1024) : V m c main_v3 (ix2 z k) = m ((c : Thread nD τ).loc main_arg3) (ix1 k) := by
  entry_read
  pointwise

theorem V_v5 (k : Fin 1024) (e : Fin 2048) : V m c main_v5 (ix2 k e) = m ((c : Thread nD τ).loc main_arg4) (ix2 k ⟨3336 + e.val, by omega⟩) := by
  entry_read
  pointwise

theorem V_v6 (k : Fin 512) (e : Fin 1024) : V m c main_v6 (ix2 k e) = m ((c : Thread nD τ).loc main_arg5) (ix2 k e) := by
  entry_read
  pointwise

theorem V_v7 (k : Fin 512) (e : Fin 1024) : V m c main_v7 (ix2 k e) = m ((c : Thread nD τ).loc main_arg6) (ix2 k e) := by
  entry_read
  pointwise

theorem V_v8 (k : Fin 1024) (e : Fin 1024) : V m c main_v8 (ix2 k e) = m ((c : Thread nD τ).loc main_arg7) (ix2 k e) := by
  entry_read
  pointwise

theorem V_v9 (z : Fin 1) (k : Fin 1024) : V m c main_v9 (ix2 z k) = m ((c : Thread nD τ).loc main_arg8) (ix1 k) := by
  entry_read
  pointwise

variable (t : Fin cfg0.N)

theorem blk0 (a : Fin 128) (k : Fin 1024) :
    iblk m c 0 t (ix2 a k) = m ((c : Thread nD τ).loc main_arg0) (ix2 ⟨t.val * 128 + a.val, by have := tl t; omega⟩ k) := by
  blk_ext [iblk, V, idx t]

theorem blk1 (a : Fin 128) (k : Fin 512) :
    iblk m c 1 t (ix2 a k) = m ((c : Thread nD τ).loc main_arg1) (ix2 ⟨t.val * 128 + a.val, by have := tl t; omega⟩ k) := by
  blk_ext [iblk, V, idx t]

theorem blk2 (a : Fin 128) (k : Fin 512) :
    iblk m c 2 t (ix2 a k) = m ((c : Thread nD τ).loc main_arg2) (ix2 ⟨t.val * 128 + a.val, by have := tl t; omega⟩ k) := by
  blk_ext [iblk, V, idx t]

theorem blk3 (k : Fin 1024) : iblk m c 3 t (ix2 0 k) = m ((c : Thread nD τ).loc main_arg3) (ix1 k) := by
  refine Eq.trans ?_ (V_v3 m c 0 k)
  blk_ext [iblk, idx t]

theorem blk4 (k : Fin 1024) (e : Fin 2048) :
    iblk m c 4 t (ix2 k e) = m ((c : Thread nD τ).loc main_arg4) (ix2 k ⟨3336 + e.val, by omega⟩) := by
  refine Eq.trans ?_ (V_v5 m c k e)
  blk_ext [iblk, idx t]

theorem blk5 (k : Fin 512) (e : Fin 1024) : iblk m c 5 t (ix2 k e) = m ((c : Thread nD τ).loc main_arg5) (ix2 k e) := by
  refine Eq.trans ?_ (V_v6 m c k e)
  blk_ext [iblk, idx t]

theorem blk6 (k : Fin 512) (e : Fin 1024) : iblk m c 6 t (ix2 k e) = m ((c : Thread nD τ).loc main_arg6) (ix2 k e) := by
  refine Eq.trans ?_ (V_v7 m c k e)
  blk_ext [iblk, idx t]

theorem blk7 (k : Fin 1024) (e : Fin 1024) : iblk m c 7 t (ix2 k e) = m ((c : Thread nD τ).loc main_arg7) (ix2 k e) := by
  refine Eq.trans ?_ (V_v8 m c k e)
  blk_ext [iblk, idx t]

theorem blk8 (k : Fin 1024) : iblk m c 8 t (ix2 0 k) = m ((c : Thread nD τ).loc main_arg8) (ix1 k) := by
  refine Eq.trans ?_ (V_v9 m c 0 k)
  blk_ext [iblk, idx t]

/-- A block's residual rows are the array's. -/
theorem out_eq (a : Fin 128) (d : Fin 1024) :
    out (iblk m c 0 t) (iblk m c 1 t) (iblk m c 2 t) (iblk m c 3 t) (iblk m c 4 t) (iblk m c 5 t) (iblk m c 6 t) (iblk m c 7 t) a d
      = residOf m c ⟨t.val * 128 + a.val, by have := tl t; omega⟩ d := by
  unfold out residOf resid
  congr 1
  · exact funext fun k => blk0 m c t a k
  · exact funext fun k => blk3 m c t k
  · exact funext fun k => funext fun e => blk4 m c t k _
  · exact funext fun k => funext fun e => blk4 m c t k _
  · exact funext fun k => blk1 m c t a k
  · exact funext fun k => blk2 m c t a k
  · exact funext fun k => funext fun e => blk5 m c t k e
  · exact funext fun k => funext fun e => blk6 m c t k e
  · exact funext fun k => funext fun e => blk7 m c t k e

theorem final10 : (dats m 0 c).arrAt 10 cfg0.N = fun y : S128x1024.Idx => residOf m c (y 0) (y 1) := by
  refine (dats m 0 c).arrAt_eq_of_covers 10 _ (by decide +kernel) fun t _ y => ?_
  blk_simp
  rw [after0_10]
  idx_vars y
  rw [out10_at, out_eq]
  have hp : ((cfg0.win 10).blk t).view.emb (ix2 y0 y1)
      = ix2 (n0 := 128) (n1 := 1024) ⟨t.val * 128 + y0.val, by have := tl t; omega⟩ y1 := by
    blk_ext [idx t]
  rw [hp]
  rfl

theorem final11 : (dats m 0 c).arrAt 11 cfg0.N
    = fun y : S128x1024.Idx => rms (fun e => residOf m c (y 0) e) (fun k => m ((c : Thread nD τ).loc main_arg8) (ix1 k)) (y 1) := by
  refine (dats m 0 c).arrAt_eq_of_covers 11 _ (by decide +kernel) fun t _ y => ?_
  blk_simp
  rw [after0_11]
  idx_vars y
  rw [out11_at]
  simp only [out_eq, blk8]
  have hp : ((cfg0.win 11).blk t).view.emb (ix2 y0 y1)
      = ix2 (n0 := 128) (n1 := 1024) ⟨t.val * 128 + y0.val, by have := tl t; omega⟩ y1 := by
    blk_ext [idx t]
  rw [hp]
  rfl

end Cert.Kernel6Ideal.Mix

end
-- ==== Proof.Lay.SampMixRef.lean ====
/- The sample's mixing reference's two results, read at an index, and the call's value claim. -/
module

public import proofs.«01_k».proof.Defs
public import proofs.«01_k».proof.Proof.Gen.Kernel6Ideal
public import proofs.«01_k».proof.Proof.Gen.Reference6Ideal
public import proofs.«01_k».proof.Proof.Gen.Reference6Ideal.Read
public import proofs.«01_k».proof.Proof.Lay.SampMixValue
public import Idealize.ShloMosaic.Lib.Quiescent

@[expose] public section

set_option maxRecDepth 16384

noncomputable section

namespace Cert.Reference6Ideal.Mix

open Idealize.ShloMosaic Idealize.ShloMosaic.TcCoe Idealize.ShloMosaic.Tactic Idealize.SL.Sem
open Cert.Reference6Ideal Cert.Reference6Ideal.Gen Cert.Reference6Ideal.Read Cert.Lay
open Cert.Kernel6Ideal.Mix (resid)

variable (X : FVec Ideal S128x1024 .f32) (A B : FVec Ideal S128x512 .bf16) (G : FVec Ideal S1024 .f32) (W : FVec Ideal S1024x5384 .f32)
  (PA PB : FVec Ideal S512x1024 .f32) (WO : FVec Ideal S1024x1024 .f32) (GF : FVec Ideal S1024 .f32)

theorem v12_at (n : Fin 128) (k : Fin 1024) :
    val_main_v12 (F := Ideal) X G (ix2 n k) = rms (fun k => X (ix2 n k)) (fun k => G (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v20_at (n : Fin 128) (e : Fin 2048) :
    val_main_v20 (F := Ideal) X G W (ix2 n e)
      = gate (fun k => X (ix2 n k)) (fun k => G (ix1 k)) (fun k => W (ix2 k ⟨3336 + e.val, by omega⟩)) := by
  pointwise [val_main_v20, val_main_v19, val_main_v18, val_main_v17, val_main_v16, val_main_v15, val_main_v14, val_main_v13,
    val_main_cst_2, val_main_cst_3, v12_at]
  unfold gate
  rw [sub_eq_add_neg, zero_add]

theorem v31_at (n : Fin 128) (d : Fin 1024) :
    val_main_v31 (F := Ideal) X A B G W PA PB WO (ix2 n d) = resid X A B G W PA PB WO n d := by
  pointwise [val_main_v31, val_main_v30, val_main_v29, val_main_v28, val_main_v27, val_main_v26, val_main_v25, val_main_v24, val_main_v23,
    val_main_v22, val_main_v21, v20_at]
  rfl

theorem v45_at (n : Fin 128) (d : Fin 1024) :
    val_main_v45 (F := Ideal) X A B G W PA PB WO GF (ix2 n d)
      = rms (fun e => resid X A B G W PA PB WO n e) (fun k => GF (ix1 k)) d := by
  pointwise [val_main_v45, val_main_v44, val_main_v43, val_main_v42, val_main_v41, val_main_v40, val_main_v39, val_main_v38, val_main_v37,
    val_main_v36, val_main_v35, val_main_v34, val_main_v33, val_main_v32, val_main_cst_4, val_main_cst_5, val_main_cst_6, v31_at]
  rfl

theorem frame : @Cert.quiescent_Reference6Ideal Cert.Reference6Ideal.Gen.facts := fun m g _ =>
  (θ_run Cert.Reference6Ideal.defs _ _).mono (fun r h => ⟨fun c => (h c).2.2, sem_eq_zero_of_no_sems (by decide) r.2⟩)
    (Cert.Reference6Ideal.Value.run (F := Ideal) m g)

/-- The mixing call's residual rows and normed rows are the reference's. -/
theorem mixing : @Cert.algebraic_Kernel6Ideal_Reference6Ideal Cert.Kernel6Ideal.Gen.facts Cert.Reference6Ideal.Gen.facts := by
  intro m g m' g' _ hagree
  refine ⟨fun c => fun y : S128x1024.Idx => Cert.Kernel6Ideal.Mix.residOf m c (y 0) (y 1),
    fun c => fun y : S128x1024.Idx => rms (fun e => Cert.Kernel6Ideal.Mix.residOf m c (y 0) e)
      (fun k => m ((c.tc : Thread Cert.Kernel6Ideal.nD Cert.Kernel6Ideal.τ).loc Cert.Kernel6Ideal.main_arg8) (ix1 k)) (y 1), ?_, ?_⟩
  · refine (θ_run Cert.Kernel6Ideal.defs _ _).mono (fun r h c => ?_) (Cert.Kernel6Ideal.Value.run_blocks (F := Ideal) m g)
    exact ⟨(h c).1.trans (Cert.Kernel6Ideal.Mix.final10 m c), (h c).2.1.trans (Cert.Kernel6Ideal.Mix.final11 m c), (h c).2.2.2⟩
  · refine (θ_run Cert.Reference6Ideal.defs _ _).mono (fun r h c => ⟨(h c).1.trans ?_, (h c).2.1.trans ?_, (h c).2.2⟩)
      (Cert.Reference6Ideal.Value.run (F := Ideal) m' g')
    · refine (show _ = val_main_v31 (F := Ideal) (m' ((c.tc : Thread nD τ).loc main_arg0)) (m' ((c.tc : Thread nD τ).loc main_arg1))
        (m' ((c.tc : Thread nD τ).loc main_arg2)) (m' ((c.tc : Thread nD τ).loc main_arg3)) (m' ((c.tc : Thread nD τ).loc main_arg4))
        (m' ((c.tc : Thread nD τ).loc main_arg5)) (m' ((c.tc : Thread nD τ).loc main_arg6)) (m' ((c.tc : Thread nD τ).loc main_arg7)) from rfl).trans ?_
      obtain ⟨h0, h1, h2, h3, h4, h5, h6, h7, h8, _⟩ := hagree c
      rw [h0, h1, h2, h3, h4, h5, h6, h7]
      funext y
      idx_vars y
      exact v31_at _ _ _ _ _ _ _ _ _ _
    · obtain ⟨h0, h1, h2, h3, h4, h5, h6, h7, h8, _⟩ := hagree c
      rw [val_main_v45_eq, h0, h1, h2, h3, h4, h5, h6, h7, h8]
      funext y
      idx_vars y
      exact v45_at _ _ _ _ _ _ _ _ _ _ _

end Cert.Reference6Ideal.Mix

end
-- ==== Proof.Lay.SampMoe.lean ====
/- The sample's expert call's body read at an index: what a grid point adds to the accumulator, and what the last point of a row block writes. -/
module

public import proofs.«01_k».proof.Proof.Gen.Kernel7Ideal.Value
public import proofs.«01_k».proof.Proof.Lay.Spec
public import Idealize.ShloMosaic.Lib.Pipeline.ValueKit
public import Idealize.ShloMosaic.Lib.Pipeline.ReadBack

@[expose] public section

set_option maxRecDepth 16384

noncomputable section

namespace Cert.Kernel7Ideal.Moe

open Idealize.ShloMosaic Idealize.ShloMosaic.TcCoe Idealize.ShloMosaic.Tactic
open Cert.Kernel7Ideal.Gen Cert.Lay

section block

variable (x0 : Vec Ideal S128x1024 .bf16) (x1 : Vec Ideal S128x128 .f32) (x2 : Vec Ideal S128x1024 .f32) (x3 : Vec Ideal S1x1024x512 .bf16)
  (x4 : Vec Ideal S1x256x1024 .bf16) (x5 : Vec Ideal S1x1024 .f32) (acc : Vec Ideal S128x1024 .f32)

/-- A block's expert output, weighted by the lane of its number. -/
def term (e : Nat) (he : e < 128) (a : Fin 128) (d : Fin 1024) : EReal :=
  expert (fun k => x0 (ix2 a k)) (fun k f => x3 (ix3 0 k ⟨f.val, by omega⟩)) (fun k f => x3 (ix3 0 k ⟨256 + f.val, by omega⟩))
    (fun f => x4 (ix3 0 f d)) * x1 (ix2 a ⟨e, he⟩)

theorem pay4_at (i : grid0.Coords) (e : Nat) (he : e < 128) (hi : (i 1).val = e) (a : Fin 128) (d : Fin 1024) :
    k0_pay4 i x0 x3 x4 x1 acc (ix2 a d) = acc (ix2 a d) + term x0 x1 x3 x4 e he a d := by
  pointwise [k0_pay4]
  rw [hi, lane_sum e he fun x => x1 (ix2 a x)]
  rfl

theorem pay3_at (a : Fin 128) (d : Fin 1024) : k0_pay3 (F := Ideal) (ix2 a d) = 0 := by
  pointwise [k0_pay3]

theorem pay2_at (a : Fin 128) (d : Fin 1024) :
    k0_pay2 x2 acc x5 (ix2 a d) = rms (fun e => x2 (ix2 a e) + acc (ix2 a e)) (fun k => x5 (ix2 0 k)) d := by
  pointwise [k0_pay2]
  rfl

theorem pay1_at (a : Fin 128) (d : Fin 1024) : k0_pay1 (F := Ideal) acc (ix2 a d) = acc (ix2 a d) := by
  pointwise [k0_pay1]

end block

variable (m : (ℓ : Loc nD τ sig) → Buf (Elt Ideal) ℓ) (c : Dev nD)

theorem tl (t : Fin cfg0.N) : t.val < 32 := Nat.lt_of_lt_of_eq t.isLt N_0

theorem coord : ∀ t : Fin cfg0.N, (grid0.coords t 1).val = t.val % 32 :=
  (by decide +kernel : ∀ t : Fin grid0.N, _)

/-- A point's contribution to the accumulator. -/
def adds (t : Fin cfg0.N) (a : Fin 128) (d : Fin 1024) : EReal :=
  term (iblk m c 0 t) (iblk m c 1 t) (iblk m c 3 t) (iblk m c 4 t) (t.val % 32) (by omega) a d

theorem scr_A (t : Fin cfg0.N) (h0 : t.val % 32 = 0) (a : Fin 128) (d : Fin 1024) :
    (outsAt0 m c t.val t.isLt).2 (ix2 a d) = 0 + adds m c t a d := by
  rw [outsAt0_A m c t h0 (by omega)]
  frame_out
  rw [pay1_at, pay4_at _ _ _ _ _ _ (t.val % 32) (by omega) (coord t)]
  rw [pay3_at]
  rfl

theorem scr_B (t : Fin cfg0.N) (h0 : ¬t.val % 32 = 0) (a : Fin 128) (d : Fin 1024) : (outsAt0 m c t.val t.isLt).2 (ix2 a d)
    = (outsAt0 m c (t.val - 1) (Nat.lt_of_le_of_lt (Nat.sub_le _ _) t.isLt)).2 (ix2 a d) + adds m c t a d := by
  by_cases h1 : t.val % 32 = 31
  · rw [outsAt0_C m c t h0 h1]
    frame_out
    simp only [read_unread_whole]
    rw [pay1_at, pay4_at _ _ _ _ _ _ (t.val % 32) (by omega) (coord t)]
    rfl
  · rw [outsAt0_B m c t h0 h1]
    frame_out
    simp only [read_unread_whole]
    rw [pay1_at, pay4_at _ _ _ _ _ _ (t.val % 32) (by omega) (coord t)]
    rfl

theorem out_C (t : Fin cfg0.N) (h1 : t.val % 32 = 31) :
    (outsAt0 m c t.val t.isLt).1 = k0_pay2 (iblk m c 2 t) (outsAt0 m c t.val t.isLt).2 (iblk m c 5 t) := by
  rw [outsAt0_C m c t (by omega) h1]
  frame_out

end Cert.Kernel7Ideal.Moe

end
-- ==== Proof.Lay.SampMoeValue.lean ====
/- The sample's expert call's array, as a function of the arrays it is given. -/
module

public import proofs.«01_k».proof.Proof.Lay.SampMoe

@[expose] public section

set_option maxRecDepth 16384

noncomputable section

namespace Cert.Kernel7Ideal.Moe

open Idealize.ShloMosaic Idealize.ShloMosaic.TcCoe Idealize.ShloMosaic.Tactic
open Cert.Kernel7Ideal.Gen Cert.Lay

section spec

variable (H : FVec Ideal S128x1024 .bf16) (R : FVec Ideal S128x128 .f32) (X : FVec Ideal S128x1024 .f32)
  (WG WU : FVec Ideal S32x1024x256 .f32) (WD : FVec Ideal S32x256x1024 .f32) (G : FVec Ideal S1024 .f32)

/-- One expert's weighted output at a token and column, -/
def weighted (n : Fin 128) (d : Fin 1024) (e : Fin 32) : EReal :=
  expert (fun k => H (ix2 n k)) (fun k f => WG (ix3 e k f)) (fun k f => WU (ix3 e k f)) (fun f => WD (ix3 e f d)) * R (ix2 n ⟨e.val, by omega⟩)

/-- and the layer's last rows: the residual and all the experts, normed. -/
def last (n : Fin 128) (d : Fin 1024) : EReal :=
  rms (fun d => X (ix2 n d) + ∑ e, weighted H R WG WU WD n d e) (fun k => G (ix1 k)) d

end spec

variable (m : (ℓ : Loc nD τ sig) → Buf (Elt Ideal) ℓ) (c : Dev nD)

theorem idx : ∀ t : Fin cfg0.N, win0_0.index t = ![t.val / 32, 0] ∧ win0_1.index t = ![t.val / 32, 0] ∧ win0_2.index t = ![t.val / 32, 0]
    ∧ win0_3.index t = ![t.val % 32, 0, 0] ∧ win0_4.index t = ![t.val % 32, 0, 0] ∧ win0_5.index t = ![0, 0]
    ∧ win0_6.index t = ![t.val / 32, 0] :=
  (by decide +kernel : ∀ t : Fin grid0.N, _)

theorem V_v1 : V m c main_v1 = (truncf (F := Ideal) .bf16 (concatenate S32x1024x512 2
    [⟨S32x1024x256, m ((c : Thread nD τ).loc main_arg3)⟩, ⟨S32x1024x256, m ((c : Thread nD τ).loc main_arg4)⟩]
    concatenates_S32x1024x256_S32x1024x256_S32x1024x512_d2) bitsLt_bf16_f32 : FVec Ideal S32x1024x512 .bf16) := by
  entry_read
  rfl

theorem V_gate (e : Fin 32) (k : Fin 1024) (f : Fin 256) :
    V m c main_v1 (ix3 e k ⟨f.val, by omega⟩) = m ((c : Thread nD τ).loc main_arg3) (ix3 e k f) := by
  rw [V_v1]
  pointwise

theorem V_up (e : Fin 32) (k : Fin 1024) (f : Fin 256) :
    V m c main_v1 (ix3 e k ⟨256 + f.val, by omega⟩) = m ((c : Thread nD τ).loc main_arg4) (ix3 e k f) := by
  rw [V_v1]
  pointwise

theorem V_v2 (e : Fin 32) (f : Fin 256) (d : Fin 1024) :
    V m c main_v2 (ix3 e f d) = m ((c : Thread nD τ).loc main_arg5) (ix3 e f d) := by
  entry_read
  pointwise

theorem V_v3 (z : Fin 1) (k : Fin 1024) : V m c main_v3 (ix2 z k) = m ((c : Thread nD τ).loc main_arg6) (ix1 k) := by
  entry_read
  pointwise

section block

variable (t : Fin cfg0.N)

theorem blk0 (a : Fin 128) (k : Fin 1024) :
    iblk m c 0 t (ix2 a k) = m ((c : Thread nD τ).loc main_arg0) (ix2 ⟨t.val / 32 * 128 + a.val, by have := tl t; omega⟩ k) := by
  blk_ext [iblk, V, idx t]

theorem blk1 (a : Fin 128) (k : Fin 128) :
    iblk m c 1 t (ix2 a k) = m ((c : Thread nD τ).loc main_arg1) (ix2 ⟨t.val / 32 * 128 + a.val, by have := tl t; omega⟩ k) := by
  blk_ext [iblk, V, idx t]

theorem blk2 (a : Fin 128) (k : Fin 1024) :
    iblk m c 2 t (ix2 a k) = m ((c : Thread nD τ).loc main_arg2) (ix2 ⟨t.val / 32 * 128 + a.val, by have := tl t; omega⟩ k) := by
  blk_ext [iblk, V, idx t]

theorem blk3_gate (k : Fin 1024) (f : Fin 256) : iblk m c 3 t (ix3 0 k ⟨f.val, by omega⟩)
    = m ((c : Thread nD τ).loc main_arg3) (ix3 ⟨t.val % 32, by omega⟩ k f) := by
  refine Eq.trans ?_ (V_gate m c _ k f)
  blk_ext [iblk, idx t]

theorem blk3_up (k : Fin 1024) (f : Fin 256) : iblk m c 3 t (ix3 0 k ⟨256 + f.val, by omega⟩)
    = m ((c : Thread nD τ).loc main_arg4) (ix3 ⟨t.val % 32, by omega⟩ k f) := by
  refine Eq.trans ?_ (V_up m c _ k f)
  blk_ext [iblk, idx t]

theorem blk4 (f : Fin 256) (d : Fin 1024) : iblk m c 4 t (ix3 0 f d)
    = m ((c : Thread nD τ).loc main_arg5) (ix3 ⟨t.val % 32, by omega⟩ f d) := by
  refine Eq.trans ?_ (V_v2 m c _ f d)
  blk_ext [iblk, idx t]

theorem blk5 (k : Fin 1024) : iblk m c 5 t (ix2 0 k) = m ((c : Thread nD τ).loc main_arg6) (ix1 k) := by
  refine Eq.trans ?_ (V_v3 m c 0 k)
  blk_ext [iblk, idx t]

end block

/-- An expert's weighted output over the starting memory. -/
def weightedOf (n : Fin 128) (d : Fin 1024) (e : Fin 32) : EReal :=
  weighted (m ((c : Thread nD τ).loc main_arg0)) (m ((c : Thread nD τ).loc main_arg1)) (m ((c : Thread nD τ).loc main_arg3))
    (m ((c : Thread nD τ).loc main_arg4)) (m ((c : Thread nD τ).loc main_arg5)) n d e

/-- The same for a row block and an expert given as numbers, zero beyond them. -/
def share (b e : Nat) (y : S128x1024.Idx) : EReal :=
  if h : b < 1 ∧ e < 32 then weightedOf m c ⟨b * 128 + (y 0).val, by have : (y 0).val < 128 := (y 0).isLt; omega⟩ (y 1) ⟨e, h.2⟩ else 0

theorem adds_eq (t : Fin cfg0.N) (a : Fin 128) (d : Fin 1024) : adds m c t a d = share m c (t.val / 32) (t.val % 32) (ix2 a d) := by
  unfold share
  rw [dif_pos (by have := tl t; omega)]
  unfold adds term weightedOf weighted
  simp only [blk0, blk1, blk3_gate, blk3_up, blk4]
  rfl

/-- The accumulator after a point: the experts so far. -/
theorem scr_at (t : Fin cfg0.N) (y : S128x1024.Idx) :
    (outsAt0 m c t.val t.isLt).2 y = 0 + ∑ k ∈ Finset.range (t.val % 32 + 1), share m c (t.val / 32) k y :=
  Pipeline.eq_sum_of_reset_step_apply_divmod (M := EReal) (ι := S128x1024.Idx) (fun n h => (outsAt0 m c n h).2) 32 (fun _ => 0) (share m c)
    (fun t h y => by
      idx_vars y
      exact (scr_A m c t h y0 y1).trans (by rw [adds_eq]))
    (fun t h y => by
      idx_vars y
      exact (scr_B m c t h y0 y1).trans (by rw [adds_eq])) t y

theorem scr_last (t : Fin cfg0.N) (h : t.val % 32 = 31) (a : Fin 128) (d : Fin 1024) : (outsAt0 m c t.val t.isLt).2 (ix2 a d)
    = ∑ e, weightedOf m c ⟨t.val / 32 * 128 + a.val, by have := tl t; omega⟩ d e := by
  rw [scr_at, h, zero_add, Finset.sum_range]
  refine Finset.sum_congr rfl fun e _ => ?_
  unfold share
  rw [dif_pos ⟨by have := tl t; omega, e.isLt⟩]
  rfl

/-- The last rows over the starting memory. -/
def lastOf (n : Fin 128) (d : Fin 1024) : EReal :=
  last (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) n d

theorem out_at (t : Fin cfg0.N) (h : t.val % 32 = 31) (a : Fin 128) (d : Fin 1024) : (outsAt0 m c t.val t.isLt).1 (ix2 a d)
    = lastOf m c ⟨t.val / 32 * 128 + a.val, by have := tl t; omega⟩ d := by
  rw [out_C m c t h, pay2_at]
  simp only [blk2, blk5, scr_last m c t h]
  rfl

theorem final6 : (dats m 0 c).arrAt 6 cfg0.N = fun y : S128x1024.Idx => lastOf m c (y 0) (y 1) := by
  refine (dats m 0 c).arrAt_eq_of_covers 6 _ (by decide +kernel) fun t hf y => ?_
  blk_simp
  rw [after0_6]
  idx_vars y
  rw [out_at m c t ((flush0_6 t).mp hf)]
  have hp : ((cfg0.win 6).blk t).view.emb (ix2 y0 y1)
      = ix2 (n0 := 128) (n1 := 1024) ⟨t.val / 32 * 128 + y0.val, by have := tl t; omega⟩ y1 := by
    blk_ext [idx t]
  rw [hp]
  rfl

end Cert.Kernel7Ideal.Moe

end
-- ==== Proof.Lay.SampMoeRef.lean ====
/- The sample's expert call's reference, its result read at an index, and the call's value claim. -/
module

public import proofs.«01_k».proof.Defs
public import proofs.«01_k».proof.Proof.Gen.Kernel7Ideal
public import proofs.«01_k».proof.Proof.Gen.Reference7Ideal
public import proofs.«01_k».proof.Proof.Gen.Reference7Ideal.Read
public import proofs.«01_k».proof.Proof.Lay.SampMoeValue
public import Idealize.ShloMosaic.Lib.Quiescent

@[expose] public section

set_option maxRecDepth 16384

noncomputable section

namespace Cert.Reference7Ideal.Moe

open Idealize.ShloMosaic Idealize.ShloMosaic.TcCoe Idealize.ShloMosaic.Tactic Idealize.SL.Sem
open Cert.Reference7Ideal Cert.Reference7Ideal.Gen Cert.Reference7Ideal.Read Cert.Lay
open Cert.Kernel7Ideal.Moe (weighted last)

variable (H : FVec Ideal S128x1024 .bf16) (R : FVec Ideal S128x128 .f32) (X : FVec Ideal S128x1024 .f32)
  (WG WU : FVec Ideal S32x1024x256 .f32) (WD : FVec Ideal S32x256x1024 .f32) (G : FVec Ideal S1024 .f32)

theorem v1_at (e : Fin 32) (f : Fin 256) (n : Fin 128) :
    val_main_v1 (F := Ideal) H WG (ix3 e f n) = ∑ k, H (ix2 n k) * WG (ix3 e k f) := by
  pointwise [val_main_v1, val_main_v0]
  exact Finset.sum_congr rfl fun k _ => mul_comm _ _

theorem v4_at (e : Fin 32) (f : Fin 256) (n : Fin 128) :
    val_main_v4 (F := Ideal) H WU (ix3 e f n) = ∑ k, H (ix2 n k) * WU (ix3 e k f) := by
  pointwise [val_main_v4, val_main_v0]
  exact Finset.sum_congr rfl fun k _ => mul_comm _ _

theorem v3_at (e : Fin 32) (n : Fin 128) (f : Fin 256) :
    val_main_v3 (F := Ideal) H WG (ix3 e n f) = silu (∑ k, H (ix2 n k) * WG (ix3 e k f)) := by
  pointwise [val_main_v3, val_main_call0_v5, val_main_call0_v4, val_main_call0_v3, val_main_call0_v2, val_main_call0_v1, val_main_call0_v0,
    val_main_call0_cst, val_main_call0_cst_0, val_main_v2, v1_at]
  unfold silu
  rw [sub_eq_add_neg 0, zero_add]

theorem v12_at (e : Fin 32) (n : Fin 128) (d : Fin 1024) :
    val_main_v12 (F := Ideal) H R WG WU WD (ix3 e n d) = weighted H R WG WU WD n d e := by
  pointwise [val_main_v12, val_main_v11, val_main_v10, val_main_v9, val_main_v8, val_main_v7, val_main_v6, val_main_v5, v4_at, v3_at]
  rfl

theorem v14_at (n : Fin 128) (d : Fin 1024) :
    val_main_v14 (F := Ideal) H R X WG WU WD (ix2 n d) = X (ix2 n d) + ∑ e, weighted H R WG WU WD n d e := by
  pointwise [val_main_v14, val_main_v13, val_main_cst, v12_at]

theorem v27_at (n : Fin 128) (d : Fin 1024) :
    val_main_v27 (F := Ideal) H R X WG WU WD G (ix2 n d) = last H R X WG WU WD G n d := by
  pointwise [val_main_v27, val_main_v26, val_main_v25, val_main_v24, val_main_v23, val_main_v22, val_main_v21, val_main_v20, val_main_v19,
    val_main_v18, val_main_v17, val_main_v16, val_main_v15, val_main_cst_0, val_main_cst_1, val_main_cst_2, v14_at]
  rfl

theorem frame : @Cert.quiescent_Reference7Ideal Cert.Reference7Ideal.Gen.facts := fun m g _ =>
  (θ_run Cert.Reference7Ideal.defs _ _).mono (fun r h => ⟨fun c => (h c).2, sem_eq_zero_of_no_sems (by decide) r.2⟩)
    (Cert.Reference7Ideal.Value.run (F := Ideal) m g)

/-- The expert call's last rows are the reference's. -/
theorem experts : @Cert.algebraic_Kernel7Ideal_Reference7Ideal Cert.Kernel7Ideal.Gen.facts Cert.Reference7Ideal.Gen.facts := by
  intro m g m' g' _ hagree
  refine ⟨fun c => fun y : S128x1024.Idx => Cert.Kernel7Ideal.Moe.lastOf m c (y 0) (y 1), ?_, ?_⟩
  · refine (θ_run Cert.Kernel7Ideal.defs _ _).mono (fun r h c => ?_) (Cert.Kernel7Ideal.Value.run_blocks (F := Ideal) m g)
    exact ⟨(h c).1.trans (Cert.Kernel7Ideal.Moe.final6 m c), (h c).2⟩
  · refine (θ_run Cert.Reference7Ideal.defs _ _).mono (fun r h c => ⟨(h c).1.trans ?_, (h c).2⟩)
      (Cert.Reference7Ideal.Value.run (F := Ideal) m' g')
    obtain ⟨h0, h1, h2, h3, h4, h5, h6⟩ := hagree c
    rw [val_main_v27_eq, h0, h1, h2, h3, h4, h5, h6]
    funext y
    idx_vars y
    exact v27_at _ _ _ _ _ _ _ _ _

end Cert.Reference7Ideal.Moe

end
-- ==== Proof.Route.Pick.lean ====
/- The first of the greatest entries of a list of values: found by a fold over lanes, and found by a stable sort. -/
module

public import proofs.«01_k».proof.Proof.Att.Attn
public import Idealize.ShloMosaic.Lib.SortPrefix

@[expose] public section

noncomputable section

namespace Cert.Route

open Idealize.ShloMosaic Cert.Attn
open scoped BigOperators

/-! ## The first of the greatest -/

/-- `p` is the first place of the greatest value. -/
def First {n : ℕ} (v : Fin n → EReal) (p : Fin n) : Prop := ∀ k, v k < v p ∨ (v k = v p ∧ p ≤ k)

theorem First.le {n : ℕ} {v : Fin n → EReal} {p : Fin n} (h : First v p) (k : Fin n) : v k ≤ v p := by
  rcases h k with h | h
  · exact h.le
  · exact h.1.le

theorem exists_first {n : ℕ} (v : Fin (n + 1) → EReal) : ∃ p, First v p := by
  obtain ⟨m, -, hm⟩ := Finset.exists_max_image Finset.univ v ⟨0, Finset.mem_univ _⟩
  let I := Finset.univ.filter fun k => v k = v m
  have hI : I.Nonempty := ⟨m, by simp [I]⟩
  have hp : v (I.min' hI) = v m := (Finset.mem_filter.mp (I.min'_mem hI)).2
  refine ⟨I.min' hI, fun k => ?_⟩
  rw [hp]
  rcases (hm k (Finset.mem_univ _)).lt_or_eq with h | h
  · exact Or.inl h
  · exact Or.inr ⟨h, I.min'_le k (by simp [I, h])⟩

/-- The greatest value, by a fold. -/
theorem First.fold_max {n : ℕ} {v : Fin n → EReal} {p : Fin n} (h : First v p) : Finset.fold max ⊥ v Finset.univ = v p :=
  le_antisymm ((Finset.fold_max_le _).mpr ⟨bot_le, fun k _ => h.le k⟩)
    ((Finset.le_fold_max _).mpr (Or.inr ⟨p, Finset.mem_univ _, le_rfl⟩))

/-- A lane's number. -/
def num (k : ℕ) : EReal := ((k : ℝ) : EReal)

theorem num_le {a b : ℕ} : num a ≤ num b ↔ a ≤ b := by
  unfold num; rw [EReal.coe_le_coe_iff, Nat.cast_le]

theorem num_inj {a b : ℕ} : num a = num b ↔ a = b := by
  unfold num; rw [EReal.coe_eq_coe_iff, Nat.cast_inj]

/-- The first place of the greatest value, by a fold over the lanes' numbers. -/
theorem First.fold_min {n : ℕ} {v : Fin n → EReal} {p : Fin n} (h : First v p) (big : EReal) (hb : num n ≤ big) :
    Finset.fold min ⊤ (fun k : Fin n => if v k = v p then num k.val else big) Finset.univ = num p.val := by
  refine le_antisymm ((Finset.fold_min_le _).mpr (Or.inr ⟨p, Finset.mem_univ _, by rw [if_pos rfl]⟩))
    ((Finset.le_fold_min _).mpr ⟨le_top, fun k _ => ?_⟩)
  split
  · rename_i e
    rcases h k with h | h
    · exact absurd e h.ne
    · exact num_le.mpr h.2
  · exact (num_le.mpr p.isLt.le).trans hb

/-! ## The stable sort -/

/-- Sorting by the value alone is sorting by the value and then the place, when the places ascend. -/
theorem stableSort_place {n : ℕ} (v : Fin n → EReal) (l : List (Fin n)) (hl : l.Pairwise (· < ·)) :
    stableSort (fun k k' => decide (v k' < v k)) l
      = stableSort (fun k k' => decide (v k' < v k) || (decide (v k = v k') && decide (k < k'))) l := by
  induction l with
  | nil => rfl
  | cons a l ih =>
    rw [List.pairwise_cons] at hl
    unfold stableSort
    rw [ih hl.2]
    refine insertBefore_congr _ _ a _ fun b hb => ?_
    have h : a < b := hl.1 b ((perm_stableSort _ l).mem_iff.mp hb)
    simp [not_lt.mpr h.le]

/-- The `i`-th place of a descending sort, given the first places. -/
theorem sortedFrom_place {n k : ℕ} (v : Fin n → EReal) (hk : k ≤ n) (σ : Fin k → Fin n) (hinj : Function.Injective σ)
    (hord : ∀ i j : Fin k, i < j → v (σ j) < v (σ i) ∨ (v (σ j) = v (σ i) ∧ σ i ≤ σ j))
    (hdom : ∀ (i : Fin k) (p : Fin n), (∀ j, σ j ≠ p) → v p < v (σ i) ∨ (v p = v (σ i) ∧ σ i ≤ p)) (i : Fin k) :
    sortedFrom (fun k k' => FloatOps.cmpfTotal (F := Ideal) (φ := .f32) CmpDirection.gt (v k) (v k') == 1#1) (i.castLE hk) = σ i := by
  have e : (fun k k' : Fin n => FloatOps.cmpfTotal (F := Ideal) (φ := .f32) CmpDirection.gt (v k) (v k') == 1#1)
      = fun k k' => decide (v k' < v k) := by
    funext k k'
    rw [Bool.eq_iff_iff, beq_iff_eq, decide_eq_true_eq]
    exact Ideal.cmp_ogt_eq_one _ _
  have hlt : (List.finRange n).Pairwise (· < ·) := List.pairwise_lt_finRange n
  have s : sortedFrom (fun k k' : Fin n => decide (v k' < v k))
      = sortedFrom fun k k' => decide (v k' < v k) || (decide (v k = v k') && decide (k < k')) := by
    funext i
    unfold sortedFrom
    simp only [List.get_eq_getElem, Fin.val_cast, sortPositions]
    congr 1
    exact stableSort_place v _ hlt
  rw [e, s]
  have asc : ∀ a b : Fin n, (v a < v b ∨ (v a = v b ∧ b ≤ a)) →
      (decide (v b < v a) || (decide (v a = v b) && decide (a < b))) = false := fun a b h => by
    rcases h with h | ⟨h, hp⟩
    · simp [not_lt.mpr h.le, h.ne]
    · simp [h, not_lt.mpr hp]
  exact (StrictTotalBefore.of_key_then_position (fun a b : EReal => decide (b < a)) v (by simp)
    (fun a b c h h' => by simp only [decide_eq_true_eq] at *; exact h'.trans h)
    (fun a b => by simp only [decide_eq_true_eq]; rcases lt_trichotomy a b with h | h | h
                   · exact Or.inr (Or.inr h)
                   · exact Or.inr (Or.inl h)
                   · exact Or.inl h)).sortedFrom_eq_of_prefix hk σ hinj (fun i j h => asc _ _ (hord i j h))
    (fun i p h => asc _ _ (hdom i p h)) i

/-- The greatest, -/
theorem First.sorted {n : ℕ} {v : Fin n → EReal} {p : Fin n} (h : First v p) (i : Fin n) (hi : i.val = 0) :
    sortedFrom (fun k k' => FloatOps.cmpfTotal (F := Ideal) (φ := .f32) CmpDirection.gt (v k) (v k') == 1#1) i = p := by
  have e := sortedFrom_place v (k := 1) (by have := i.isLt; omega) (fun _ => p) (fun a b _ => Subsingleton.elim a b)
    (fun i j hij => absurd (Subsingleton.elim i j) hij.ne) (fun _ q _ => h q) 0
  rw [← e]
  congr 1
  exact Fin.ext hi

/-- the greatest but for one place, -/
def less {n : ℕ} (v : Fin n → EReal) (a : Fin n) (k : Fin n) : EReal := if k = a then ⊥ else v k

/-- and the two greatest. -/
theorem First.sorted_two {n : ℕ} {v : Fin n → EReal} {a b : Fin n} (ha : First v a) (hb : First (less v a) b) (hne : b ≠ a)
    (i : Fin n) (hi : i.val < 2) :
    sortedFrom (fun k k' => FloatOps.cmpfTotal (F := Ideal) (φ := .f32) CmpDirection.gt (v k) (v k') == 1#1) i
      = if i.val = 0 then a else b := by
  have h2 : 2 ≤ n := by
    have := a.isLt; have := b.isLt; have : a.val ≠ b.val := fun h => hne (Fin.ext h.symm); omega
  have hb' : ∀ q, q ≠ a → v q < v b ∨ (v q = v b ∧ b ≤ q) := fun q hq => by
    have := hb q
    simpa only [less, if_neg hq, if_neg hne] using this
  have e := sortedFrom_place v (k := 2) h2 (fun j => if j.val = 0 then a else b)
    (fun x y hxy => by
      fin_cases x <;> fin_cases y
      · rfl
      · exact absurd hxy.symm hne
      · exact absurd hxy hne
      · rfl)
    (fun x y hxy => by
      fin_cases x <;> fin_cases y
      · exact absurd hxy (lt_irrefl _)
      · exact ha b
      · exact absurd hxy (by decide)
      · exact absurd hxy (lt_irrefl _))
    (fun x q hq => by
      have hqa : q ≠ a := fun h => hq 0 h.symm
      fin_cases x
      · exact ha q
      · exact hb' q hqa)
    ⟨i.val, hi⟩
  rw [← e]
  rfl

/-! ## The rest is real -/

theorem second_ne {n : ℕ} {v : Fin n → EReal} (hv : ∀ k, Re (v k)) {a b : Fin n} (hn : 2 ≤ n) (hb : First (less v a) b) : b ≠ a := by
  rintro rfl
  obtain ⟨q, hq⟩ : ∃ q : Fin n, q ≠ b := by
    by_cases h : b.val = 0
    · exact ⟨⟨1, by omega⟩, fun h' => by rw [← h'] at h; exact one_ne_zero h⟩
    · exact ⟨⟨0, by omega⟩, fun h' => h (by rw [← h'])⟩
  have := hb.le q
  rw [less, less, if_neg hq, if_pos rfl, le_bot_iff] at this
  exact (hv q).ne_bot this

end Cert.Route
end
-- ==== Proof.Route.Row.lean ====
/- A row's routing weights: from the logits as the kernel's lanes hold them, and as two sorts choose them. -/
module

public import proofs.«01_k».proof.Proof.Route.Pick
public import Idealize.ShloMosaic.Lib.IdealHost
public import Idealize.ShloMosaic.PureOps.Ideal.Laws

@[expose] public section

noncomputable section

namespace Cert.Route

open Idealize.ShloMosaic Cert.Attn
open scoped BigOperators

/-- The weights of a row: the chosen group's share, divided between the two chosen experts. -/
def routed (g : Fin 4 → EReal) (e : Fin 8 → EReal) (G : Fin 4) (A B : Fin 8) (j : ℕ) : EReal :=
  (if j = 8 * G.val + A.val then Ideal.div (Ideal.div 1 (∑ k, Ideal.exp (g k - g G))) (1 + Ideal.exp (e B - e A)) else 0)
    + (if j = 8 * G.val + B.val then
        Ideal.div (Ideal.div 1 (∑ k, Ideal.exp (g k - g G))) (1 + Ideal.exp (e B - e A)) * Ideal.exp (e B - e A) else 0)

/-- A list laid out in some of the lanes, the others at the mask's value, has its first greatest where it is laid out. -/
theorem First.embed {n N : ℕ} {v : Fin n → EReal} {w : Fin N → EReal} (f : Fin n → Fin N) (hf : ∀ a b, a ≤ b → f a ≤ f b)
    (hw : ∀ k, w (f k) = v k) (ho : ∀ x, (∀ k, f k ≠ x) → w x = ⊥) {p : Fin n} (hp : First v p) (hb : v p ≠ ⊥) : First w (f p) := by
  intro x
  rw [hw]
  by_cases h : ∃ k, f k = x
  · obtain ⟨k, rfl⟩ := h
    rw [hw]
    rcases hp k with h | h
    · exact Or.inl h
    · exact Or.inr ⟨h.1, hf _ _ h.2⟩
  · rw [ho x fun k hk => h ⟨k, hk⟩]
    exact Or.inl (bot_lt_iff_ne_bot.mpr hb)

/-! ## The kernel's row -/

section Kernel

variable (L : Fin 128 → EReal)

/-- The group's lanes of a row, -/
def groups (k : Fin 128) : EReal := if 32 ≤ k.val ∧ k.val < 36 then L k else ⊥
/-- the greatest of a row, -/
def top (v : Fin 128 → EReal) : EReal := Finset.fold max ⊥ v Finset.univ
/-- the lowest lane that holds it, -/
def firstLane (v : Fin 128 → EReal) : EReal :=
  Finset.fold min ⊤ (fun x : Fin 128 => if v x = top v then num x.val else Ideal.ofBits FTy.f32 0x4E6E6B28#32) Finset.univ
/-- the chosen group's experts, -/
def experts (k : Fin 128) : EReal :=
  if k.val < 32 ∧ num (k.val / 8) = firstLane (groups L) - Ideal.ofBits FTy.f32 0x42000000#32 then L k else ⊥
/-- those but the first chosen. -/
def others (k : Fin 128) : EReal := if num k.val = firstLane (experts L) then ⊥ else experts L k

/-- The group's share. -/
def share : EReal :=
  Ideal.div 1 (∑ x : Fin 128, if 32 ≤ x.val ∧ x.val < 36 then Ideal.exp (groups L x - top (groups L)) else 0)

/-- The kernel's weights. -/
def weigh (j : Fin 128) : EReal :=
  (if num j.val = firstLane (experts L) then Ideal.div (share L) (1 + Ideal.exp (top (others L) - top (experts L))) else 0)
    + (if num j.val = firstLane (others L) then
        Ideal.div (share L) (1 + Ideal.exp (top (others L) - top (experts L))) * Ideal.exp (top (others L) - top (experts L)) else 0)

theorem big_lanes : num 128 ≤ Ideal.ofBits FTy.f32 0x4E6E6B28#32 := by
  have h : Ideal.ofBits FTy.f32 0x4E6E6B28#32 = ((1000000000 : ℝ) : EReal) := by
    simp [Ideal.ofBits, Ideal.ieee]
    simp only [← EReal.coe_pow, ← EReal.coe_mul]
    norm_num
  rw [h, num, EReal.coe_le_coe_iff]
  norm_num

theorem First.firstLane {v : Fin 128 → EReal} {p : Fin 128} (h : First v p) : Route.firstLane v = num p.val := by
  unfold Route.firstLane top
  rw [h.fold_max]
  exact h.fold_min _ big_lanes

theorem num_sub (G : ℕ) : num (32 + G) - Ideal.ofBits FTy.f32 0x42000000#32 = num G := by
  have h : Ideal.ofBits FTy.f32 0x42000000#32 = ((32 : ℝ) : EReal) := by
    simp [Ideal.ofBits, Ideal.ieee]
    simp only [← EReal.coe_pow, ← EReal.coe_mul]
    norm_num
  rw [h, num, num, ← EReal.coe_sub]
  congr 1
  push_cast
  ring

variable (g : Fin 4 → EReal) (e : Fin 4 → Fin 8 → EReal)

theorem weigh_eq (hg : ∀ k : Fin 4, L ⟨32 + k.val, by omega⟩ = g k) (he : ∀ (G : Fin 4) (k : Fin 8), L ⟨8 * G.val + k.val, by omega⟩ = e G k)
    (rg : ∀ k, Re (g k)) (re : ∀ G k, Re (e G k)) {G : Fin 4} {A B : Fin 8} (hG : First g G) (hA : First (e G) A)
    (hB : First (less (e G) A) B) (j : Fin 128) : weigh L j = routed g (e G) G A B j.val := by
  have hne : B ≠ A := second_ne (re G) (by decide) hB
  have fG : First (groups L) ⟨32 + G.val, by omega⟩ := by
    refine First.embed (fun k : Fin 4 => ⟨32 + k.val, by omega⟩) (fun a b h => ?_) (fun k => ?_) (fun x hx => ?_) hG (rg G).ne_bot
    · have : a.val ≤ b.val := h
      exact Fin.mk_le_mk.mpr (by omega)
    · unfold groups
      rw [if_pos (by constructor <;> simp <;> omega), hg]
    · unfold groups
      rw [if_neg fun h => hx ⟨x.val - 32, by omega⟩ (Fin.ext (by simp; omega))]
  have tG : top (groups L) = g G := by
    rw [top, fG.fold_max, groups, if_pos (by constructor <;> simp <;> omega), hg]
  have eE : experts L = fun k => if k.val < 32 ∧ k.val / 8 = G.val then L k else ⊥ := by
    funext k
    unfold experts
    rw [fG.firstLane, num_sub]
    simp only [num_inj]
  have fA : First (experts L) ⟨8 * G.val + A.val, by omega⟩ := by
    rw [eE]
    refine First.embed (fun k : Fin 8 => ⟨8 * G.val + k.val, by omega⟩) (fun a b h => ?_) (fun k => ?_) (fun x hx => ?_) hA (re G A).ne_bot
    · have : a.val ≤ b.val := h
      exact Fin.mk_le_mk.mpr (by omega)
    · rw [if_pos (by constructor <;> simp <;> omega), he]
    · exact if_neg fun h => hx ⟨x.val - 8 * G.val, by omega⟩ (Fin.ext (by simp; omega))
  have tA : top (experts L) = e G A := by
    rw [top, fA.fold_max, eE]
    simp only
    rw [if_pos (by constructor <;> omega), he]
  have eO : others L = fun k => if k.val = 8 * G.val + A.val then ⊥ else if k.val < 32 ∧ k.val / 8 = G.val then L k else ⊥ := by
    funext k
    unfold others
    rw [fA.firstLane, eE]
    simp only [num_inj]
  have fB : First (others L) ⟨8 * G.val + B.val, by omega⟩ := by
    rw [eO]
    refine First.embed (fun k : Fin 8 => ⟨8 * G.val + k.val, by omega⟩) (fun a b h => ?_) (fun k => ?_) (fun x hx => ?_) hB ?_
    · have : a.val ≤ b.val := h
      exact Fin.mk_le_mk.mpr (by omega)
    · unfold less
      by_cases h : k = A
      · rw [if_pos h, if_pos (by rw [h])]
      · have h' : k.val ≠ A.val := fun h' => h (Fin.ext h')
        rw [if_neg h, if_neg (by simp; omega), if_pos (by constructor <;> simp <;> omega), he]
    · split
      · rfl
      · exact if_neg fun h => hx ⟨x.val - 8 * G.val, by omega⟩ (Fin.ext (by simp; omega))
    · rw [less, if_neg hne]
      exact (re G B).ne_bot
  have tB : top (others L) = e G B := by
    have h' : B.val ≠ A.val := fun h' => hne (Fin.ext h')
    rw [top, fB.fold_max, eO]
    simp only
    rw [if_neg (by omega), if_pos (by constructor <;> omega), he]
  have hS : share L = Ideal.div 1 (∑ k, Ideal.exp (g k - g G)) := by
    unfold share
    congr 1
    symm
    refine Fintype.sum_of_injective (fun k : Fin 4 => (⟨32 + k.val, by omega⟩ : Fin 128)) (fun a b h => ?_) _ _ (fun x hx => ?_) fun k => ?_
    · exact Fin.ext (by have := Fin.mk.inj_iff.mp h; omega)
    · exact if_neg fun h => hx ⟨⟨x.val - 32, by omega⟩, Fin.ext (by simp; omega)⟩
    · rw [if_pos (by constructor <;> simp <;> omega), tG, groups, if_pos (by constructor <;> simp <;> omega), hg]
  unfold weigh routed
  rw [fA.firstLane, fB.firstLane, tA, tB, hS]
  simp only [num_inj]

end Kernel

/-! ## The reference's row -/

section Reference

/-- A sum that keeps the entry of a given number. -/
theorem pick_sum {N : ℕ} (hN : N ≤ 2 ^ 32) (n : Fin N) (f : Fin N → EReal) :
    ∑ x : Fin N, Scalar.select (IntOp.cmpi CmpIPredicate.eq (BitVec.ofNat 32 n.val) (BitVec.ofNat 32 x.val)) (f x) 0 = f n := by
  have h : ∀ x : Fin N, Scalar.select (IntOp.cmpi CmpIPredicate.eq (BitVec.ofNat 32 n.val) (BitVec.ofNat 32 x.val)) (f x) 0
      = if n = x then f x else 0 := fun x => by
    have hx : (BitVec.ofNat 32 n.val = BitVec.ofNat 32 x.val) ↔ n = x := by
      rw [Fin.ext_iff, ← BitVec.toNat_inj]
      simp only [BitVec.toNat_ofNat]
      rw [Nat.mod_eq_of_lt (n.isLt.trans_le hN), Nat.mod_eq_of_lt (x.isLt.trans_le hN)]
    unfold Scalar.select IntOp.cmpi
    by_cases hp : n = x
    · simp [hp]
    · have hq : BitVec.ofNat 32 n.val ≠ BitVec.ofNat 32 x.val := fun h => hp (hx.mp h)
      rw [if_neg hp]
      simp [beq_eq_false_iff_ne.mpr hq]
  rw [Finset.sum_congr rfl fun x _ => h x, Finset.sum_ite_eq, if_pos (Finset.mem_univ _)]

/-- An exponential of a real is a positive real. -/
theorem exp_pos {x : EReal} : Re x → ∃ r : ℝ, 0 < r ∧ Ideal.exp x = r
  | ⟨a, h⟩ => ⟨Real.exp a, Real.exp_pos a, by rw [h]; rfl⟩

theorem sum_pos {n : ℕ} (f : Fin (n + 1) → EReal) (h : ∀ k, ∃ r : ℝ, 0 < r ∧ f k = r) : ∃ r : ℝ, 0 < r ∧ ∑ k, f k = r := by
  choose r hr e using h
  refine ⟨∑ k, r k, Finset.sum_pos (fun k _ => hr k) ⟨0, Finset.mem_univ _⟩, ?_⟩
  rw [Finset.sum_congr rfl fun k _ => e k]
  exact (map_sum (⟨⟨fun r : ℝ => (r : EReal), rfl⟩, EReal.coe_add⟩ : ℝ →+ EReal) r Finset.univ).symm

/-- The chosen group's softmax is its share. -/
theorem softmax_first {n : ℕ} {g : Fin n → EReal} {G : Fin n} (hg : Re (g G)) :
    Ideal.div (Ideal.exp (g G - g G)) (∑ k, Ideal.exp (g k - g G)) = Ideal.div 1 (∑ k, Ideal.exp (g k - g G)) := by
  obtain ⟨r, h⟩ := hg
  have : g G - g G = ((0 : ℝ) : EReal) := by rw [h, ← EReal.coe_sub, sub_self]
  rw [this]
  congr 1
  show ((Real.exp 0 : ℝ) : EReal) = 1
  simp

/-- The two chosen experts' softmax times the share. -/
theorem softmax_two {a b p : EReal} (ha : Re a) (hb : Re b) (hp : Re p) :
    Ideal.div (Ideal.exp (a - a)) (Ideal.exp (a - a) + Ideal.exp (b - a)) * p = Ideal.div p (1 + Ideal.exp (b - a))
      ∧ Ideal.div (Ideal.exp (b - a)) (Ideal.exp (a - a) + Ideal.exp (b - a)) * p
        = Ideal.div p (1 + Ideal.exp (b - a)) * Ideal.exp (b - a) := by
  obtain ⟨t, ht, e⟩ := exp_pos (hb.sub ha)
  obtain ⟨q, rfl⟩ := hp
  have e1 : Ideal.exp (a - a) = ((1 : ℝ) : EReal) := by
    obtain ⟨r, rfl⟩ := ha
    rw [← EReal.coe_sub, sub_self]
    show ((Real.exp 0 : ℝ) : EReal) = _
    rw [Real.exp_zero]
  have h1 : (1 : ℝ) + t ≠ 0 := by positivity
  rw [e, e1, ← EReal.coe_one, ← EReal.coe_add, Ideal.div_coe h1, Ideal.div_coe h1, Ideal.div_coe h1]
  simp only [← EReal.coe_mul, EReal.coe_eq_coe_iff]
  constructor <;> ring

theorem share_re {n : ℕ} {g : Fin (n + 1) → EReal} (hg : ∀ k, Re (g k)) (G : Fin (n + 1)) :
    Re (Ideal.div 1 (∑ k, Ideal.exp (g k - g G))) := by
  obtain ⟨s, hs, e⟩ := sum_pos (fun k => Ideal.exp (g k - g G)) fun k => exp_pos ((hg k).sub (hg G))
  rw [e, Ideal.div_coe hs.ne', ← EReal.coe_one, ← EReal.coe_mul]
  exact ⟨_, rfl⟩

/-- The one-hot row of an expert's number. -/
theorem one_hot (G : Fin 4) (A : Fin 8) (j : Fin 128) (w : EReal) :
    FloatOps.uitofp (F := Ideal) FTy.f32 (IntOp.cmpi CmpIPredicate.eq
        (IntOp.addi (IntOp.muli (BitVec.ofNat 32 G.val) 8#32) (BitVec.ofNat 32 A.val)) (BitVec.ofNat 32 j.val)) * w
      = if j.val = 8 * G.val + A.val then w else 0 := by
  have h : IntOp.cmpi CmpIPredicate.eq (IntOp.addi (IntOp.muli (BitVec.ofNat 32 G.val) 8#32) (BitVec.ofNat 32 A.val)) (BitVec.ofNat 32 j.val)
      = if j.val = 8 * G.val + A.val then 1#1 else 0#1 := by
    revert G A j
    decide +kernel
  rw [h]
  split
  · show (((1#1).toNat : ℝ) : EReal) * w = w
    simp
  · show (((0#1).toNat : ℝ) : EReal) * w = 0
    simp

end Reference

end Cert.Route

end
-- ==== Proof.Route.Real.lean ====
/- The mixing call's rows and logits are real numbers when its arguments are. -/
module

public import proofs.«01_k».proof.Proof.Lay.Spec
public import proofs.«01_k».proof.Proof.Route.Row

@[expose] public section

noncomputable section

namespace Cert.Route

open Idealize.ShloMosaic Cert.Attn Cert.Lay
open scoped BigOperators

theorem rms_re {x g : Fin 1024 → EReal} (hx : ∀ k, Re (x k)) (hg : ∀ k, Re (g k)) (k : Fin 1024) : Re (rms x g k) := by
  refine ((hx k).mul ?_).mul (hg k)
  have h1 : Ideal.ofBits FTy.f32 0x44800000#32 = ((1024 : ℝ) : EReal) := by
    simp [Ideal.ofBits, Ideal.ieee]
    simp only [← EReal.coe_pow, ← EReal.coe_mul]
    norm_num
  obtain ⟨e, he, h2⟩ : ∃ e : ℝ, 0 < e ∧ Ideal.ofBits FTy.f32 0x358637BD#32 = (e : EReal) := by
    refine ⟨8796093 * (1 / 8796093022208), by norm_num, ?_⟩
    simp [Ideal.ofBits, Ideal.ieee]
    try simp only [← EReal.coe_pow, ← EReal.coe_mul]
    try norm_num
  choose r hr using hx
  have hs : ∑ j, x j * x j = ((∑ j, r j * r j : ℝ) : EReal) := by
    rw [Finset.sum_congr rfl fun j _ => show x j * x j = ((r j * r j : ℝ) : EReal) by rw [hr j, EReal.coe_mul]]
    exact (map_sum (⟨⟨fun r : ℝ => (r : EReal), rfl⟩, EReal.coe_add⟩ : ℝ →+ EReal) (fun j => r j * r j) Finset.univ).symm
  have hp : 0 < (∑ j, r j * r j) * (1 / 1024) + e :=
    add_pos_of_nonneg_of_pos (mul_nonneg (Finset.sum_nonneg fun j _ => mul_self_nonneg _) (by norm_num)) he
  rw [hs, h1, h2, Ideal.div_coe (by norm_num), ← EReal.coe_mul, ← EReal.coe_add, Ideal.rsqrt_coe, if_neg hp.le.not_gt, if_neg hp.ne']
  exact ⟨_, rfl⟩

theorem col_re {x g w : Fin 1024 → EReal} (hx : ∀ k, Re (x k)) (hg : ∀ k, Re (g k)) (hw : ∀ k, Re (w k)) : Re (col x g w) :=
  .sum _ fun k => (rms_re hx hg k).mul (hw k)

theorem gate_re {x g w : Fin 1024 → EReal} (hx : ∀ k, Re (x k)) (hg : ∀ k, Re (g k)) (hw : ∀ k, Re (w k)) : Re (gate x g w) := by
  obtain ⟨t, ht, e⟩ := exp_pos (Re.sub ⟨0, rfl⟩ (col_re hx hg hw))
  have h1 : (1 : ℝ) + t ≠ 0 := by positivity
  unfold gate
  rw [show Ideal.exp (0 - ∑ k, rms x g k * w k) = (t : EReal) from e, ← EReal.coe_one, ← EReal.coe_add, Ideal.div_coe h1, ← EReal.coe_mul]
  exact ⟨_, rfl⟩

theorem x1_re {x g : Fin 1024 → EReal} {wa wb : Fin 1024 → Fin 1024 → EReal} {oa ob : Fin 512 → EReal} {pa pb : Fin 512 → Fin 1024 → EReal}
    {wo : Fin 1024 → Fin 1024 → EReal} (hx : ∀ k, Re (x k)) (hg : ∀ k, Re (g k)) (hwa : ∀ k e, Re (wa k e)) (hwb : ∀ k e, Re (wb k e))
    (hoa : ∀ j, Re (oa j)) (hob : ∀ j, Re (ob j)) (hpa : ∀ j e, Re (pa j e)) (hpb : ∀ j e, Re (pb j e)) (hwo : ∀ k e, Re (wo k e))
    (d : Fin 1024) : Re (x1 x g wa wb oa ob pa pb wo d) :=
  (hx d).add (.sum _ fun e => (((gate_re hx hg fun k => hwa k e).mul (.sum _ fun j => (hoa j).mul (hpa j e))).add
    ((gate_re hx hg fun k => hwb k e).mul (.sum _ fun j => (hob j).mul (hpb j e)))).mul (hwo e d))

end Cert.Route

end
-- ==== Proof.Route.Block.lean ====
/- The mixing call's block of routing weights, read at an index. -/
module

public import proofs.«01_k».proof.Proof.Gen.Kernel8Ideal.Frame
public import proofs.«01_k».proof.Proof.Lay.Spec
public import proofs.«01_k».proof.Proof.Route.Row
public import Idealize.ShloMosaic.Lib.Pipeline.ValueKit

@[expose] public section

set_option maxRecDepth 16384

noncomputable section

namespace Cert.Kernel8Ideal.Route

open Idealize.ShloMosaic Idealize.ShloMosaic.TcCoe Idealize.ShloMosaic.Tactic
open Cert.Kernel8Ideal.Gen Cert.Lay Cert.Route

/-- The mask's value. -/
theorem mask_bot : (Named.named κ "mask" 0xF149F2CA#32 : Ideal .f32) = ⊥ :=
  IdealRules.named_const.ideal_named_scalar _ _ _ _ rfl

theorem neg_inf : Ideal.ofBits .f32 0xFF800000#32 = ⊥ := by
  simp [Ideal.ofBits, Ideal.ieee]

theorem pos_inf : Ideal.ofBits .f32 0x7F800000#32 = (⊤ : EReal) := by
  simp [Ideal.ofBits, Ideal.ieee]

/-! ## The lanes' numbers -/

theorem num_bits (k : Fin 128) : FloatOps.sitofp (F := Ideal) FTy.f32 (BitVec.ofNat 32 k.val) = num k.val := by
  have h : (BitVec.ofNat 32 k.val).toInt = (k.val : ℤ) := by
    revert k
    decide +kernel
  show (((BitVec.ofNat 32 k.val).toInt : ℝ) : EReal) = _
  rw [h]
  rfl

theorem num_shift (k : Fin 128) :
    FloatOps.sitofp (F := Ideal) FTy.f32 (IntOp.shrsi ArithUnit.vector (BitVec.ofNat 32 k.val) 3#32) = num (k.val / 8) := by
  have h : (IntOp.shrsi ArithUnit.vector (BitVec.ofNat 32 k.val) 3#32).toInt = ((k.val / 8 : ℕ) : ℤ) := by
    revert k
    decide +kernel
  show (((IntOp.shrsi ArithUnit.vector (BitVec.ofNat 32 k.val) 3#32).toInt : ℝ) : EReal) = _
  rw [h]
  rfl

theorem group_lanes (k : Fin 128) :
    IntOp.andi (IntOp.cmpi CmpIPredicate.sge (BitVec.ofNat 32 k.val) 32#32) (IntOp.cmpi CmpIPredicate.slt (BitVec.ofNat 32 k.val) 36#32)
      = if 32 ≤ k.val ∧ k.val < 36 then 1#1 else 0#1 := by
  revert k
  decide +kernel

theorem expert_lanes (k : Fin 128) : IntOp.cmpi CmpIPredicate.slt (BitVec.ofNat 32 k.val) 32#32 = if k.val < 32 then 1#1 else 0#1 := by
  revert k
  decide +kernel

theorem select_if {p : Prop} [Decidable p] (x y : EReal) : Scalar.select (if p then 1#1 else 0#1) x y = if p then x else y := by
  by_cases h : p <;> simp [h, Scalar.select]

theorem select_and {p q : Prop} [Decidable p] [Decidable q] (x y : EReal) :
    Scalar.select (IntOp.andi (if p then 1#1 else 0#1) (BitVec.ofBool (decide q))) x y = if p ∧ q then x else y := by
  by_cases h : p <;> by_cases h' : q <;> simp [h, h', Scalar.select, IntOp.andi]

/-! ## The choice, from the logits -/

section Choice

variable (L U : FVec Ideal S512x128 .f32) (M : FVec Ideal S512x1 .f32)

/-- A row of the logits. -/
abbrev row (a : Fin 512) : Fin 128 → EReal := fun k => L (ix2 a k)

theorem pay9_at (a : Fin 512) (k : Fin 128) : k0_pay9 (F := Ideal) (ix2 a k) = num k.val := by
  pointwise [k0_pay9]
  exact num_bits k

theorem pay10_at (a : Fin 512) (k : Fin 128) : k0_pay10 (ix2 a k) = if 32 ≤ k.val ∧ k.val < 36 then 1#1 else 0#1 := by
  pointwise [k0_pay10]
  exact group_lanes k

variable (hU : ∀ a k, U (ix2 a k) = groups (row L a) k) (hM : ∀ a z, M (ix2 a z) = top (groups (row L a)))
include hU hM

theorem pay13_at (a : Fin 512) (z : Fin 1) : k0_pay13 k0_pay10 U M (ix2 a z) = share (row L a) := by
  pointwise [k0_pay13]
  simp only [hU, hM, pay10_at, select_if]
  rfl

theorem pay14_at (a : Fin 512) (k : Fin 128) :
    k0_pay14 L (iota .tc S512x128 32 [1] iota_S512x128_d1_w32) k0_pay9 U M (ix2 a k) = experts (row L a) k := by
  pointwise [k0_pay14]
  simp only [hU, hM, pay9_at, num_shift, expert_lanes, select_and, mask_bot, pos_inf]
  rfl

theorem pay15_at (a : Fin 512) (z : Fin 1) :
    k0_pay15 L (iota .tc S512x128 32 [1] iota_S512x128_d1_w32) k0_pay9 U M (ix2 a z) = top (experts (row L a)) := by
  pointwise [k0_pay15]
  simp only [pay14_at L U M hU hM, neg_inf]
  rfl

theorem pay16_at (a : Fin 512) (z : Fin 1) :
    k0_pay16 L (iota .tc S512x128 32 [1] iota_S512x128_d1_w32) k0_pay9 U M (ix2 a z) = firstLane (experts (row L a)) := by
  pointwise [k0_pay16]
  simp only [pay14_at L U M hU hM, pay15_at L U M hU hM, pay9_at, pos_inf]
  rfl

theorem pay17_at (a : Fin 512) (k : Fin 128) :
    k0_pay17 L (iota .tc S512x128 32 [1] iota_S512x128_d1_w32) k0_pay9 U M (ix2 a k) = others (row L a) k := by
  pointwise [k0_pay17]
  simp only [pay14_at L U M hU hM, pay16_at L U M hU hM, pay9_at, mask_bot]
  rfl

theorem pay18_at (a : Fin 512) (z : Fin 1) :
    k0_pay18 L (iota .tc S512x128 32 [1] iota_S512x128_d1_w32) k0_pay9 U M (ix2 a z) = top (others (row L a)) := by
  pointwise [k0_pay18]
  simp only [pay17_at L U M hU hM, neg_inf]
  rfl

theorem pay19_at (a : Fin 512) (k : Fin 128) :
    k0_pay19 L (iota .tc S512x128 32 [1] iota_S512x128_d1_w32) k0_pay9 U M (ix2 a k)
      = if others (row L a) k = top (others (row L a)) then num k.val else Ideal.ofBits FTy.f32 0x4E6E6B28#32 := by
  pointwise [k0_pay19]
  simp only [pay17_at L U M hU hM, pay18_at L U M hU hM, pay9_at]

theorem pay1_at (a : Fin 512) (k : Fin 128) :
    k0_pay1 k0_pay9 (k0_pay13 k0_pay10 U M) (k0_pay15 L (iota .tc S512x128 32 [1] iota_S512x128_d1_w32) k0_pay9 U M)
        (k0_pay16 L (iota .tc S512x128 32 [1] iota_S512x128_d1_w32) k0_pay9 U M)
        (k0_pay18 L (iota .tc S512x128 32 [1] iota_S512x128_d1_w32) k0_pay9 U M)
        (k0_pay19 L (iota .tc S512x128 32 [1] iota_S512x128_d1_w32) k0_pay9 U M) (ix2 a k) = weigh (row L a) k := by
  pointwise [k0_pay1]
  simp only [pay9_at, pay13_at L U M hU hM, pay15_at L U M hU hM, pay16_at L U M hU hM, pay18_at L U M hU hM, pay19_at L U M hU hM, pos_inf]
  rfl

end Choice

/-! ## The block -/

variable (x0 : Vec Ideal S512x1024 .f32) (x1 : Vec Ideal S512x512 .bf16) (x2 : Vec Ideal S512x512 .bf16) (x3 : Vec Ideal S1x1024 .f32)
  (x4 : Vec Ideal S1024x2048 .bf16) (x5 x6 : Vec Ideal S512x1024 .bf16) (x7 : Vec Ideal S1024x1024 .bf16) (x8 : Vec Ideal S1x1024 .f32)
  (x9 : Vec Ideal S1024x128 .bf16)

theorem gates_at (a : Fin 512) (c : Fin 2048) :
    k0_pay2 x0 x3 x4 (ix2 a c) = gate (fun k => x0 (ix2 a k)) (fun k => x3 (ix2 0 k)) (fun k => x4 (ix2 k c)) := by
  pointwise [k0_pay2]
  rfl

/-- The block of the residual rows, -/
def out (a : Fin 512) (d : Fin 1024) : EReal :=
  Lay.x1 (fun k => x0 (ix2 a k)) (fun k => x3 (ix2 0 k)) (fun k e => x4 (ix2 k ⟨e.val, by omega⟩)) (fun k e => x4 (ix2 k ⟨1024 + e.val, by omega⟩))
    (fun j => x1 (ix2 a j)) (fun j => x2 (ix2 a j)) (fun j e => x5 (ix2 j e)) (fun j e => x6 (ix2 j e)) (fun e f => x7 (ix2 e f)) d

theorem pay6_at (a : Fin 512) (d : Fin 1024) :
    k0_pay6 x0 (k0_pay3 x0 x3 x4 x1 x5) (k0_pay4 x0 x3 x4) x2 (k0_pay5 x6) (constant S512x1024 FTy.f32 0x00000000#32) x7 (ix2 a d)
      = out x0 x1 x2 x3 x4 x5 x6 x7 a d := by
  pointwise [k0_pay6, k0_pay3, k0_pay4, k0_pay5, gates_at]
  rfl

/-- its logits, -/
def logit (a : Fin 512) (k : Fin 128) : EReal :=
  col (fun e => out x0 x1 x2 x3 x4 x5 x6 x7 a e) (fun k => x8 (ix2 0 k)) (fun d => x9 (ix2 d k))

theorem pay8_at (a : Fin 512) (k : Fin 128) :
    k0_pay8 x0 (k0_pay3 x0 x3 x4 x1 x5) (k0_pay4 x0 x3 x4) x2 (k0_pay5 x6) (constant S512x1024 FTy.f32 0x00000000#32) x7 x8 x9 (ix2 a k)
      = logit x0 x1 x2 x3 x4 x5 x6 x7 x8 x9 a k := by
  pointwise [k0_pay8, k0_pay7, pay6_at]
  rfl

theorem pay11_at (a : Fin 512) (k : Fin 128) :
    k0_pay11 x0 (k0_pay3 x0 x3 x4 x1 x5) (k0_pay4 x0 x3 x4) x2 (k0_pay5 x6) (constant S512x1024 FTy.f32 0x00000000#32) x7 x8 x9 (ix2 a k)
      = groups (logit x0 x1 x2 x3 x4 x5 x6 x7 x8 x9 a) k := by
  pointwise [k0_pay11, pay8_at, pay10_at]
  simp only [select_if, mask_bot]
  rfl

theorem pay12_at (a : Fin 512) (z : Fin 1) :
    k0_pay12 x0 (k0_pay3 x0 x3 x4 x1 x5) (k0_pay4 x0 x3 x4) x2 (k0_pay5 x6) (constant S512x1024 FTy.f32 0x00000000#32) x7 x8 x9 (ix2 a z)
      = top (groups (logit x0 x1 x2 x3 x4 x5 x6 x7 x8 x9 a)) := by
  pointwise [k0_pay12, pay11_at]
  simp only [neg_inf]
  rfl

/-- and its weights. -/
theorem out12_at (a : Fin 512) (k : Fin 128) :
    out0_12 x0 x1 x2 x3 x4 x5 x6 x7 x8 x9 (ix2 a k) = weigh (logit x0 x1 x2 x3 x4 x5 x6 x7 x8 x9 a) k := by
  unfold_out out0_12
  frame_out
  have hr : ∀ a, row (k0_pay8 x0 (k0_pay3 x0 x3 x4 x1 x5) (k0_pay4 x0 x3 x4) x2 (k0_pay5 x6) (constant S512x1024 FTy.f32 0x00000000#32) x7 x8 x9) a
      = logit x0 x1 x2 x3 x4 x5 x6 x7 x8 x9 a := fun a => funext fun k => pay8_at x0 x1 x2 x3 x4 x5 x6 x7 x8 x9 a k
  refine (pay1_at _ _ _ (fun a k => ?_) (fun a z => ?_) a k).trans ?_
  · rw [hr]
    exact pay11_at x0 x1 x2 x3 x4 x5 x6 x7 x8 x9 a k
  · rw [hr]
    exact pay12_at x0 x1 x2 x3 x4 x5 x6 x7 x8 x9 a z
  · rw [hr]

end Cert.Kernel8Ideal.Route

end
-- ==== Proof.Route.Value.lean ====
/- The mixing call's routing weights, as functions of the arrays it is given. -/
module

public import proofs.«01_k».proof.Proof.Gen.Kernel8Ideal.Value
public import proofs.«01_k».proof.Proof.Route.Block

@[expose] public section

set_option maxRecDepth 16384

noncomputable section

namespace Cert.Kernel8Ideal.Route

open Idealize.ShloMosaic Idealize.ShloMosaic.TcCoe Idealize.ShloMosaic.Tactic
open Cert.Kernel8Ideal.Gen Cert.Lay Cert.Route

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_12.index t = ![t.val, 0] :=
  (by decide +kernel : ∀ t : Fin grid0.N, _)

theorem tl (t : Fin cfg0.N) : t.val < 64 := Nat.lt_of_lt_of_eq t.isLt N_0

/-- The mixing call's residual rows over its arguments, -/
def resid (X : FVec Ideal S32768x1024 .f32) (A B : FVec Ideal S32768x512 .bf16) (G : FVec Ideal S1024 .f32) (W : FVec Ideal S1024x5384 .f32)
    (PA PB : FVec Ideal S512x1024 .f32) (WO : FVec Ideal S1024x1024 .f32) (n : Fin 32768) (d : Fin 1024) : EReal :=
  Lay.x1 (fun k => X (ix2 n k)) (fun k => G (ix1 k)) (fun k e => W (ix2 k ⟨3336 + e.val, by omega⟩)) (fun k e => W (ix2 k ⟨3336 + (1024 + e.val), by omega⟩))
    (fun j => A (ix2 n j)) (fun j => B (ix2 n j)) (fun j e => PA (ix2 j e)) (fun j e => PB (ix2 j e)) (fun e f => WO (ix2 e f)) d

/-- of the memory it starts from. -/
def residOf (n : Fin 32768) (d : Fin 1024) : EReal :=
  resid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) n d

theorem V_v3 (z : Fin 1) (k : Fin 1024) : V m c main_v3 (ix2 z k) = m ((c : Thread nD τ).loc main_arg3) (ix1 k) := by
  entry_read
  pointwise

theorem V_v5 (k : Fin 1024) (e : Fin 2048) : V m c main_v5 (ix2 k e) = m ((c : Thread nD τ).loc main_arg4) (ix2 k ⟨3336 + e.val, by omega⟩) := by
  entry_read
  pointwise

theorem V_v6 (k : Fin 512) (e : Fin 1024) : V m c main_v6 (ix2 k e) = m ((c : Thread nD τ).loc main_arg5) (ix2 k e) := by
  entry_read
  pointwise

theorem V_v7 (k : Fin 512) (e : Fin 1024) : V m c main_v7 (ix2 k e) = m ((c : Thread nD τ).loc main_arg6) (ix2 k e) := by
  entry_read
  pointwise

theorem V_v8 (k : Fin 1024) (e : Fin 1024) : V m c main_v8 (ix2 k e) = m ((c : Thread nD τ).loc main_arg7) (ix2 k e) := by
  entry_read
  pointwise

theorem V_v9 (z : Fin 1) (k : Fin 1024) : V m c main_v9 (ix2 z k) = m ((c : Thread nD τ).loc main_arg8) (ix1 k) := by
  entry_read
  pointwise

/-- The router's columns: the experts' first, then the groups', then nothing. -/
theorem V_v1 : V m c main_v1 = concatenate S1024x128 1 [⟨S1024x32, m ((c : Thread nD τ).loc main_arg10)⟩,
    ⟨S1024x4, m ((c : Thread nD τ).loc main_arg9)⟩, ⟨S1024x92, broadcastInDim S1024x92 ![] bcast_S_S1024x92 (constant (F := Ideal) S_ FTy.f32 0x00000000#32)⟩]
    concatenates_S1024x32_S1024x4_S1024x92_S1024x128_d1 := by
  show StableHlo.after hostOps0 (fun b => m (c, b)) (Proc.tc.devRef main_v1) = _
  after_results
  rfl

theorem V_v2 (k : Fin 1024) (e : Fin 128) : V m c main_v2 (ix2 k e) = V m c main_v1 (ix2 k e) := by
  show StableHlo.after hostOps0 (fun b => m (c, b)) (Proc.tc.devRef main_v2) _ = StableHlo.after hostOps0 (fun b => m (c, b)) (Proc.tc.devRef main_v1) _
  after_results
  rfl

theorem V_experts (k : Fin 1024) (G : Fin 4) (e : Fin 8) :
    V m c main_v2 (ix2 k ⟨8 * G.val + e.val, by omega⟩) = m ((c : Thread nD τ).loc main_arg10) (ix2 k ⟨8 * G.val + e.val, by omega⟩) := by
  rw [V_v2, V_v1]
  pointwise
  rw [dif_pos (by omega)]

theorem V_groups (k : Fin 1024) (e : Fin 4) :
    V m c main_v2 (ix2 k ⟨32 + e.val, by omega⟩) = m ((c : Thread nD τ).loc main_arg9) (ix2 k e) := by
  rw [V_v2, V_v1]
  pointwise

variable (t : Fin cfg0.N)

theorem blk0 (a : Fin 512) (k : Fin 1024) :
    iblk m c 0 t (ix2 a k) = m ((c : Thread nD τ).loc main_arg0) (ix2 ⟨t.val * 512 + a.val, by have := tl t; omega⟩ k) := by
  blk_ext [iblk, V, idx t]

theorem blk1 (a : Fin 512) (k : Fin 512) :
    iblk m c 1 t (ix2 a k) = m ((c : Thread nD τ).loc main_arg1) (ix2 ⟨t.val * 512 + a.val, by have := tl t; omega⟩ k) := by
  blk_ext [iblk, V, idx t]

theorem blk2 (a : Fin 512) (k : Fin 512) :
    iblk m c 2 t (ix2 a k) = m ((c : Thread nD τ).loc main_arg2) (ix2 ⟨t.val * 512 + a.val, by have := tl t; omega⟩ k) := by
  blk_ext [iblk, V, idx t]

theorem blk3 (k : Fin 1024) : iblk m c 3 t (ix2 0 k) = m ((c : Thread nD τ).loc main_arg3) (ix1 k) := by
  refine Eq.trans ?_ (V_v3 m c 0 k)
  blk_ext [iblk, idx t]

theorem blk4 (k : Fin 1024) (e : Fin 2048) :
    iblk m c 4 t (ix2 k e) = m ((c : Thread nD τ).loc main_arg4) (ix2 k ⟨3336 + e.val, by omega⟩) := by
  refine Eq.trans ?_ (V_v5 m c k e)
  blk_ext [iblk, idx t]

theorem blk5 (k : Fin 512) (e : Fin 1024) : iblk m c 5 t (ix2 k e) = m ((c : Thread nD τ).loc main_arg5) (ix2 k e) := by
  refine Eq.trans ?_ (V_v6 m c k e)
  blk_ext [iblk, idx t]

theorem blk6 (k : Fin 512) (e : Fin 1024) : iblk m c 6 t (ix2 k e) = m ((c : Thread nD τ).loc main_arg6) (ix2 k e) := by
  refine Eq.trans ?_ (V_v7 m c k e)
  blk_ext [iblk, idx t]

theorem blk7 (k : Fin 1024) (e : Fin 1024) : iblk m c 7 t (ix2 k e) = m ((c : Thread nD τ).loc main_arg7) (ix2 k e) := by
  refine Eq.trans ?_ (V_v8 m c k e)
  blk_ext [iblk, idx t]

theorem blk8 (k : Fin 1024) : iblk m c 8 t (ix2 0 k) = m ((c : Thread nD τ).loc main_arg8) (ix1 k) := by
  refine Eq.trans ?_ (V_v9 m c 0 k)
  blk_ext [iblk, idx t]

theorem blk9 (k : Fin 1024) (e : Fin 128) : iblk m c 9 t (ix2 k e) = V m c main_v2 (ix2 k e) := by
  blk_ext [iblk, idx t]

/-- A block's residual rows are the array's. -/
theorem out_eq (a : Fin 512) (d : Fin 1024) :
    out (iblk m c 0 t) (iblk m c 1 t) (iblk m c 2 t) (iblk m c 3 t) (iblk m c 4 t) (iblk m c 5 t) (iblk m c 6 t) (iblk m c 7 t) a d
      = residOf m c ⟨t.val * 512 + a.val, by have := tl t; omega⟩ d := by
  unfold out residOf resid
  congr 1
  · exact funext fun k => blk0 m c t a k
  · exact funext fun k => blk3 m c t k
  · exact funext fun k => funext fun e => blk4 m c t k _
  · exact funext fun k => funext fun e => blk4 m c t k _
  · exact funext fun k => blk1 m c t a k
  · exact funext fun k => blk2 m c t a k
  · exact funext fun k => funext fun e => blk5 m c t k e
  · exact funext fun k => funext fun e => blk6 m c t k e
  · exact funext fun k => funext fun e => blk7 m c t k e

/-- A row's logits. -/
def logits (n : Fin 32768) (k : Fin 128) : EReal :=
  col (fun e => residOf m c n e) (fun k => m ((c : Thread nD τ).loc main_arg8) (ix1 k)) (fun d => V m c main_v2 (ix2 d k))

theorem logit_eq (a : Fin 512) :
    logit (iblk m c 0 t) (iblk m c 1 t) (iblk m c 2 t) (iblk m c 3 t) (iblk m c 4 t) (iblk m c 5 t) (iblk m c 6 t) (iblk m c 7 t) (iblk m c 8 t)
        (iblk m c 9 t) a
      = logits m c ⟨t.val * 512 + a.val, by have := tl t; omega⟩ := by
  funext k
  unfold logit logits
  simp only [out_eq, blk8, blk9]

theorem final12 : (dats m 0 c).arrAt 12 cfg0.N = fun y : S32768x128.Idx => weigh (logits m c (y 0)) (y 1) := by
  refine (dats m 0 c).arrAt_eq_of_covers 12 _ (by decide +kernel) fun t _ y => ?_
  blk_simp
  rw [after0_12]
  idx_vars y
  rw [out12_at, logit_eq]
  have hp : ((cfg0.win 12).blk t).view.emb (ix2 y0 y1)
      = ix2 (n0 := 32768) (n1 := 128) ⟨t.val * 512 + y0.val, by have := tl t; omega⟩ y1 := by
    blk_ext [idx t]
  rw [hp]
  rfl

end Cert.Kernel8Ideal.Route

end
-- ==== Proof.Route.Pre.lean ====
/- What the routing's precondition says: every argument is a finite number, so the rows and the logits are. -/
module

public import proofs.«01_k».proof.Defs
public import proofs.«01_k».proof.Proof.Att.Pre
public import proofs.«01_k».proof.Proof.Route.Real
public import proofs.«01_k».proof.Proof.Route.Value

@[expose] public section

set_option maxRecDepth 16384

noncomputable section

namespace Cert.Kernel8Ideal.Route

open Idealize.ShloMosaic Idealize.ShloMosaic.TcCoe Idealize.ShloMosaic.Tactic
open Cert.Kernel8Ideal.Gen Cert.Route Cert.Attn
open Cert.KernelIdeal.Att (re_of_cmp inf_bf16 inf_f32)

theorem preFacts : Cert.Pre_finite8.Facts where
  bcast_S_S32768x1024 := by decide
  bcast_S_S32768x512 := by decide
  bcast_S_S1024 := by decide
  bcast_S_S1024x5384 := by decide
  bcast_S_S512x1024 := by decide
  bcast_S_S1024x1024 := by decide
  bcast_S_S1024x4 := by decide
  bcast_S_S1024x32 := by decide

variable (m : (ℓ : Loc nD τ sig) → Buf (Elt Ideal) ℓ) (c : Dev nD)
  (hpre : @Cert.Pre_Kernel8Ideal_finite8 preFacts m)
include hpre

theorem resid_re (n : Fin 32768) (d : Fin 1024) : Re (residOf m c n d) := by
  obtain ⟨h0, h1, h2, h3, h4, h5, h6, h7, _⟩ := hpre c
  unfold residOf resid
  refine x1_re (fun k => re_of_cmp ?_) (fun k => re_of_cmp ?_) (fun k e => re_of_cmp ?_) (fun k e => re_of_cmp ?_) (fun k => re_of_cmp ?_)
    (fun k => re_of_cmp ?_) (fun k e => re_of_cmp ?_) (fun k e => re_of_cmp ?_) (fun k e => re_of_cmp ?_) d
  · rw [← inf_f32]; exact congrFun h0 _
  · rw [← inf_f32]; exact congrFun h3 _
  · rw [← inf_f32]; exact congrFun h4 _
  · rw [← inf_f32]; exact congrFun h4 _
  · rw [← inf_bf16]; exact congrFun h1 _
  · rw [← inf_bf16]; exact congrFun h2 _
  · rw [← inf_f32]; exact congrFun h5 _
  · rw [← inf_f32]; exact congrFun h6 _
  · rw [← inf_f32]; exact congrFun h7 _

theorem norm_re (k : Fin 1024) : Re (m ((c : Thread nD τ).loc main_arg8) (ix1 k)) := by
  obtain ⟨_, _, _, _, _, _, _, _, h8, _⟩ := hpre c
  refine re_of_cmp ?_
  rw [← inf_f32]; exact congrFun h8 _

theorem groups_re (d : Fin 1024) (k : Fin 4) : Re (m ((c : Thread nD τ).loc main_arg9) (ix2 d k)) := by
  obtain ⟨_, _, _, _, _, _, _, _, _, h9, _⟩ := hpre c
  refine re_of_cmp ?_
  rw [← inf_f32]; exact congrFun h9 _

theorem experts_re (d : Fin 1024) (k : Fin 32) : Re (m ((c : Thread nD τ).loc main_arg10) (ix2 d k)) := by
  obtain ⟨_, _, _, _, _, _, _, _, _, _, h10⟩ := hpre c
  refine re_of_cmp ?_
  rw [← inf_f32]; exact congrFun h10 _

end Cert.Kernel8Ideal.Route

end
-- ==== Proof.Route.TopK.lean ====
/- The greatest entries of each row of an array, as a stable descending sort selects them. -/
module

public import proofs.«01_k».proof.Proof.Route.Pick
public import Idealize.ShloMosaic.Lib.Pointwise

@[expose] public section

noncomputable section

namespace Cert.Route

open Idealize.ShloMosaic

variable {R N K : ℕ} (y : FVec Ideal ⟨2, ![R, N]⟩ .f32) (hK : K ≤ N)
  (h : (⟨2, ![R, N]⟩ : Shape).Slices (fun _ => 0) ⟨2, ![R, K]⟩)

/-- The place of a row's `j`-th greatest entry. -/
def ranked (v : Fin N → EReal) (j : Fin N) : Fin N :=
  sortedFrom (fun k k' => FloatOps.cmpfTotal (F := Ideal) (φ := .f32) CmpDirection.gt (v k) (v k') == 1#1) j

theorem along_row (n : Fin R) (a k : Fin N) : (ix2 n a : (⟨2, ![R, N]⟩ : Shape).Idx).along 1 k = ix2 n k := by
  funext x
  fin_cases x <;> rfl

theorem slice_row (n : Fin R) (j : Fin K) {α : Type} (x : (⟨2, ![R, N]⟩ : Shape).Idx → α) :
    extractStridedSlice ⟨2, ![R, K]⟩ (fun _ => 0) x h (ix2 n j) = x (ix2 n ⟨j.val, j.isLt.trans_le hK⟩) := by
  refine congrArg x (funext fun a => ?_)
  fin_cases a
  · exact Fin.ext (Nat.zero_add _)
  · exact Fin.ext (Nat.zero_add _)

theorem ranked_row (n : Fin R) (a j : Fin N) :
    sortedFrom (fun k k' : Fin N => FloatOps.cmpfTotal (F := Ideal) (φ := .f32) CmpDirection.gt
        (y ((ix2 n a : (⟨2, ![R, N]⟩ : Shape).Idx).along 1 k)) (y ((ix2 n a : (⟨2, ![R, N]⟩ : Shape).Idx).along 1 k')) == 1#1) j
      = ranked (fun k => y (ix2 n k)) j := by
  refine congrArg (fun C => sortedFrom C j) (funext fun k => funext fun k' => ?_)
  exact congrArg₂ (fun u v => FloatOps.cmpfTotal (F := Ideal) (φ := .f32) CmpDirection.gt u v == 1#1)
    (congrArg y (along_row n a k)) (congrArg y (along_row n a k'))

theorem topK_value (n : Fin R) (j : Fin K) :
    (Host.topK ⟨2, ![R, K]⟩ 1 (FloatOps.cmpfTotal .gt) y h).1 (ix2 n j)
      = y (ix2 n (ranked (fun k => y (ix2 n k)) ⟨j.val, j.isLt.trans_le hK⟩)) := by
  unfold Host.topK Host.sort2
  dsimp only
  rw [slice_row hK h n j]
  rw [dif_pos (by decide)]
  exact (congrArg y (along_row n _ _)).trans (congrArg (fun k => y (ix2 n k)) (ranked_row y n _ _))

theorem topK_place (n : Fin R) (j : Fin K) :
    (Host.topK ⟨2, ![R, K]⟩ 1 (FloatOps.cmpfTotal .gt) y h).2 (ix2 n j)
      = BitVec.ofNat 32 (ranked (fun k => y (ix2 n k)) ⟨j.val, j.isLt.trans_le hK⟩).val := by
  unfold Host.topK Host.sort2
  dsimp only
  rw [slice_row hK h n j]
  rw [dif_pos (by decide)]
  exact congrArg (fun k : Fin N => BitVec.ofNat 32 k.val) (ranked_row y n _ _)

end Cert.Route

end
-- ==== Proof.Route.Ref.lean ====
/- The routing reference's result, read at an index. -/
module

public import proofs.«01_k».proof.Proof.Gen.Reference8Ideal
public import proofs.«01_k».proof.Proof.Gen.Reference8Ideal.Read
public import proofs.«01_k».proof.Proof.Route.TopK
public import proofs.«01_k».proof.Proof.Route.Value

@[expose] public section

set_option maxRecDepth 16384

noncomputable section

namespace Cert.Reference8Ideal.Route

open Idealize.ShloMosaic Idealize.ShloMosaic.TcCoe Idealize.ShloMosaic.Tactic
open Cert.Reference8Ideal Cert.Reference8Ideal.Gen Cert.Reference8Ideal.Read Cert.Lay Cert.Route Cert.Attn
open Cert.Kernel8Ideal.Route (resid neg_inf)

variable (X : FVec Ideal S32768x1024 .f32) (A B : FVec Ideal S32768x512 .bf16) (G : FVec Ideal S1024 .f32) (W : FVec Ideal S1024x5384 .f32)
  (PA PB : FVec Ideal S512x1024 .f32) (WO : FVec Ideal S1024x1024 .f32) (GF : FVec Ideal S1024 .f32) (WG : FVec Ideal S1024x4 .f32)
  (WE : FVec Ideal S1024x32 .f32)

theorem v12_at (n : Fin 32768) (k : Fin 1024) :
    val_main_v12 (F := Ideal) X G (ix2 n k) = rms (fun k => X (ix2 n k)) (fun k => G (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v20_at (n : Fin 32768) (e : Fin 2048) :
    val_main_v20 (F := Ideal) X G W (ix2 n e)
      = gate (fun k => X (ix2 n k)) (fun k => G (ix1 k)) (fun k => W (ix2 k ⟨3336 + e.val, by omega⟩)) := by
  pointwise [val_main_v20, val_main_v19, val_main_v18, val_main_v17, val_main_v16, val_main_v15, val_main_v14, val_main_v13,
    val_main_cst_2, val_main_cst_3, v12_at]
  unfold gate
  rw [sub_eq_add_neg, zero_add]

theorem v31_at (n : Fin 32768) (d : Fin 1024) :
    val_main_v31 (F := Ideal) X A B G W PA PB WO (ix2 n d) = resid X A B G W PA PB WO n d := by
  pointwise [val_main_v31, val_main_v30, val_main_v29, val_main_v28, val_main_v27, val_main_v26, val_main_v25, val_main_v24, val_main_v23,
    val_main_v22, val_main_v21, v20_at]
  rfl

theorem v44_at (n : Fin 32768) (d : Fin 1024) :
    val_main_v44 (F := Ideal) X A B G W PA PB WO GF (ix2 n d)
      = rms (fun e => resid X A B G W PA PB WO n e) (fun k => GF (ix1 k)) d := by
  pointwise [val_main_v44, val_main_v43, val_main_v42, val_main_v41, val_main_v40, val_main_v39, val_main_v38, val_main_v37,
    val_main_v36, val_main_v35, val_main_v34, val_main_v33, val_main_v32, val_main_cst_4, val_main_cst_5, val_main_cst_6, v31_at]
  rfl

/-- A row's group logits, -/
def grp (n : Fin 32768) (k : Fin 4) : EReal :=
  col (fun e => resid X A B G W PA PB WO n e) (fun k => GF (ix1 k)) (fun d => WG (ix2 d k))

/-- and its expert logits. -/
def exps (n : Fin 32768) (x : Fin 4) (k : Fin 8) : EReal :=
  col (fun e => resid X A B G W PA PB WO n e) (fun k => GF (ix1 k)) (fun d => WE (ix2 d ⟨8 * x.val + k.val, by omega⟩))

theorem v45_at (n : Fin 32768) (k : Fin 4) :
    val_main_v45 (F := Ideal) X A B G W PA PB WO GF WG (ix2 n k) = grp X A B G W PA PB WO GF WG n k := by
  pointwise [val_main_v45, v44_at]
  rfl

variable (n : Fin 32768) (g : Fin 4) (a b : Fin 8) (hg : First (grp X A B G W PA PB WO GF WG n) g)
include hg

theorem indices_at (z : Fin 1) : val_main_indices (F := Ideal) X A B G W PA PB WO GF WG (ix2 n z) = BitVec.ofNat 32 g.val := by
  unfold val_main_indices
  refine (topK_place _ (by decide) _ n z).trans ?_
  simp only [v45_at]
  rw [ranked, hg.sorted _ (by have := z.isLt; show z.val = 0; omega)]

theorem v50_at (k : Fin 4) : val_main_v50 (F := Ideal) X A B G W PA PB WO GF WG (ix2 n k)
    = IntOp.cmpi CmpIPredicate.eq (BitVec.ofNat 32 g.val) (BitVec.ofNat 32 k.val) := by
  pointwise [val_main_v50, val_main_v49, val_main_v48, val_main_v47, val_main_v46]
  rw [indices_at X A B G W PA PB WO GF WG n g hg]

theorem v69_at (k : Fin 8) : val_main_v69 (F := Ideal) X A B G W PA PB WO GF WG WE (ix2 n k) = exps X A B G W PA PB WO GF WE n g k := by
  pointwise [val_main_v69, val_main_v68, val_main_v67, val_main_v66, val_main_v65, val_main_call1_v0, val_main_call1_v1, val_main_call1_v2,
    val_main_cst_12, val_main_cst_13, v44_at]
  simp only [v50_at X A B G W PA PB WO GF WG n g hg]
  refine (congrArg (fun f => ∑ x, f x) (funext fun x => ?_)).trans (pick_sum (by decide) g fun x => exps X A B G W PA PB WO GF WE n x k)
  refine congrArg₂ (fun u v => Scalar.select _ u v) ?_ ?_
  · unfold exps col
    refine Finset.sum_congr rfl fun d _ => ?_
    congr 3
    exact Fin.ext (by simp [Nat.mul_comm])
  · show Ideal.ofBits .f32 0#32 = 0
    exact Ideal.ofBits_zero_f32

section Group

variable (rg : ∀ k, Re (grp X A B G W PA PB WO GF WG n k))
include rg

theorem v64_at (z : Fin 1) : val_main_v64 (F := Ideal) X A B G W PA PB WO GF WG (ix2 n z)
    = Ideal.div 1 (∑ k, Ideal.exp (grp X A B G W PA PB WO GF WG n k - grp X A B G W PA PB WO GF WG n g)) := by
  pointwise [val_main_v64, val_main_v63, val_main_v62, val_main_v61, val_main_v60, val_main_v59, val_main_v58, val_main_v57, val_main_v56,
    val_main_v55, val_main_v54, val_main_v53, val_main_v52, val_main_v51, val_main_cst_7, val_main_cst_8, val_main_cst_9, val_main_cst_10,
    val_main_cst_11, val_main_call0_v0, val_main_call0_v1]
  simp only [v50_at X A B G W PA PB WO GF WG n g hg, v45_at, neg_inf]
  have hm : Finset.fold max ⊥ (fun x => grp X A B G W PA PB WO GF WG n x) Finset.univ = grp X A B G W PA PB WO GF WG n g := hg.fold_max
  rw [hm, max_eq_right bot_le]
  refine Eq.trans ?_ (softmax_first (rg g))
  refine Eq.trans ?_ (pick_sum (by decide) g fun x => Ideal.div (Ideal.exp (grp X A B G W PA PB WO GF WG n x - grp X A B G W PA PB WO GF WG n g))
    (∑ k, Ideal.exp (grp X A B G W PA PB WO GF WG n k - grp X A B G W PA PB WO GF WG n g)))
  refine Finset.sum_congr rfl fun x _ => congrArg (fun v => Scalar.select _ _ v) ?_
  show Ideal.ofBits .f32 0#32 = 0
  exact Ideal.ofBits_zero_f32

variable (ha : First (exps X A B G W PA PB WO GF WE n g) a) (hb : First (less (exps X A B G W PA PB WO GF WE n g) a) b) (hne : b ≠ a)
include ha hb hne

theorem values_at (j : Fin 2) : val_main_values_14 (F := Ideal) X A B G W PA PB WO GF WG WE (ix2 n j)
    = exps X A B G W PA PB WO GF WE n g (if j.val = 0 then a else b) := by
  unfold val_main_values_14
  refine (topK_value _ (by decide) _ n j).trans ?_
  simp only [v69_at X A B G W PA PB WO GF WG WE n g hg]
  rw [ranked, ha.sorted_two hb hne _ j.isLt]

theorem places_at (j : Fin 2) : val_main_indices_15 (F := Ideal) X A B G W PA PB WO GF WG WE (ix2 n j)
    = BitVec.ofNat 32 (if j.val = 0 then a else b).val := by
  unfold val_main_indices_15
  refine (topK_place _ (by decide) _ n j).trans ?_
  simp only [v69_at X A B G W PA PB WO GF WG WE n g hg]
  rw [ranked, ha.sorted_two hb hne _ j.isLt]

theorem v72_at : val_main_v72 (F := Ideal) X A B G W PA PB WO GF WG WE (ix1 n) = exps X A B G W PA PB WO GF WE n g a := by
  have hm : First (fun j : Fin 2 => val_main_values_14 (F := Ideal) X A B G W PA PB WO GF WG WE (ix2 n j)) 0 := fun j => by
    simp only [values_at X A B G W PA PB WO GF WG WE n g a b hg rg ha hb hne]
    fin_cases j
    · exact Or.inr ⟨rfl, le_rfl⟩
    · rcases ha b with h | h
      · exact Or.inl h
      · exact Or.inr ⟨h.1, by decide⟩
  have hf := hm.fold_max
  generalize hV : val_main_values_14 (F := Ideal) X A B G W PA PB WO GF WG WE = V at hf
  have hv : val_main_v70 (F := Ideal) X A B G W PA PB WO GF WG WE (ix1 n) = V (ix2 n 0) := by
    unfold val_main_v70
    rw [hV]
    pointwise [val_main_cst_16]
    simp only [neg_inf]
    exact hf
  pointwise [val_main_v72, val_main_v71, val_main_cst_17]
  rw [hv, neg_inf, max_eq_right bot_le, ← hV, values_at X A B G W PA PB WO GF WG WE n g a b hg rg ha hb hne]
  rfl

theorem v76_at (j : Fin 2) : val_main_v76 (F := Ideal) X A B G W PA PB WO GF WG WE (ix2 n j)
    = Ideal.exp (exps X A B G W PA PB WO GF WE n g (if j.val = 0 then a else b) - exps X A B G W PA PB WO GF WE n g a) := by
  have hm := v72_at X A B G W PA PB WO GF WG WE n g a b hg rg ha hb hne
  have hv := values_at X A B G W PA PB WO GF WG WE n g a b hg rg ha hb hne j
  unfold val_main_v76 val_main_v75 val_main_v74 val_main_v73
  generalize val_main_v72 (F := Ideal) X A B G W PA PB WO GF WG WE = M at hm
  generalize val_main_values_14 (F := Ideal) X A B G W PA PB WO GF WG WE = V at hv
  pointwise
  rw [hm, hv]

theorem v79_at (j : Fin 2) : val_main_v79 (F := Ideal) X A B G W PA PB WO GF WG WE (ix2 n j)
    = Ideal.exp (exps X A B G W PA PB WO GF WE n g a - exps X A B G W PA PB WO GF WE n g a)
      + Ideal.exp (exps X A B G W PA PB WO GF WE n g b - exps X A B G W PA PB WO GF WE n g a) := by
  have h := v76_at X A B G W PA PB WO GF WG WE n g a b hg rg ha hb hne
  unfold val_main_v79 val_main_v78 val_main_v77
  generalize val_main_v76 (F := Ideal) X A B G W PA PB WO GF WG WE = E at h
  pointwise [val_main_cst_18]
  rw [Fin.sum_univ_two, h, h]
  rfl

variable (re : ∀ k, Re (exps X A B G W PA PB WO GF WE n g k))
include re

/-- The weight of the first chosen expert, or of the second. -/
theorem v82_at (j : Fin 2) : val_main_v82 (F := Ideal) X A B G W PA PB WO GF WG WE (ix2 n j)
    = if j.val = 0 then
        Ideal.div (Ideal.div 1 (∑ k, Ideal.exp (grp X A B G W PA PB WO GF WG n k - grp X A B G W PA PB WO GF WG n g)))
          (1 + Ideal.exp (exps X A B G W PA PB WO GF WE n g b - exps X A B G W PA PB WO GF WE n g a))
      else
        Ideal.div (Ideal.div 1 (∑ k, Ideal.exp (grp X A B G W PA PB WO GF WG n k - grp X A B G W PA PB WO GF WG n g)))
          (1 + Ideal.exp (exps X A B G W PA PB WO GF WE n g b - exps X A B G W PA PB WO GF WE n g a))
          * Ideal.exp (exps X A B G W PA PB WO GF WE n g b - exps X A B G W PA PB WO GF WE n g a) := by
  have h6 := v76_at X A B G W PA PB WO GF WG WE n g a b hg rg ha hb hne j
  have h9 := v79_at X A B G W PA PB WO GF WG WE n g a b hg rg ha hb hne j
  have h4 := v64_at X A B G W PA PB WO GF WG n g hg rg 0
  have two := softmax_two (re a) (re b) (share_re rg g)
  unfold val_main_v82 val_main_v81 val_main_v80
  generalize val_main_v76 (F := Ideal) X A B G W PA PB WO GF WG WE = E at h6
  generalize val_main_v79 (F := Ideal) X A B G W PA PB WO GF WG WE = S at h9
  generalize val_main_v64 (F := Ideal) X A B G W PA PB WO GF WG = P at h4
  pointwise
  rw [h6, h9, h4]
  by_cases h : j.val = 0
  · simp only [if_pos h]
    exact two.1
  · simp only [if_neg h]
    exact two.2

/-- The routing weights. -/
theorem v91_at (j : Fin 128) : val_main_v91 (F := Ideal) X A B G W PA PB WO GF WG WE (ix2 n j)
    = routed (grp X A B G W PA PB WO GF WG n) (exps X A B G W PA PB WO GF WE n g) g a b j.val := by
  have hi := indices_at X A B G W PA PB WO GF WG n g hg 0
  have hp := places_at X A B G W PA PB WO GF WG WE n g a b hg rg ha hb hne
  have hw := v82_at X A B G W PA PB WO GF WG WE n g a b hg rg ha hb hne re
  unfold val_main_v91 val_main_v90 val_main_v89 val_main_v88 val_main_v87 val_main_call2_v4 val_main_call2_v3 val_main_call2_v2 val_main_call2_v1 val_main_call2_v0
    val_main_v86 val_main_v85 val_main_v84 val_main_v83
  generalize val_main_indices (F := Ideal) X A B G W PA PB WO GF WG = I at hi
  generalize val_main_indices_15 (F := Ideal) X A B G W PA PB WO GF WG WE = J at hp
  generalize val_main_v82 (F := Ideal) X A B G W PA PB WO GF WG WE = Y at hw
  pointwise [val_main_c, val_main_cst_19]
  rw [Fin.sum_univ_two, hi, hp, hp, hw, hw, one_hot, one_hot]
  rfl

end Group

end Cert.Reference8Ideal.Route

end
-- ==== Proof.Route.Claim.lean ====
/- The routing weights of the mixing call are the reference's when its arguments are finite numbers. -/
module

public import proofs.«01_k».proof.Defs
public import proofs.«01_k».proof.Proof.Gen.Kernel8Ideal
public import proofs.«01_k».proof.Proof.Route.Pre
public import proofs.«01_k».proof.Proof.Route.Ref
public import Idealize.ShloMosaic.Lib.Quiescent

@[expose] public section

set_option maxRecDepth 16384

noncomputable section

namespace Cert.Reference8Ideal.Route

open Idealize.ShloMosaic Idealize.ShloMosaic.TcCoe Idealize.ShloMosaic.Tactic Idealize.SL.Sem
open Cert.Reference8Ideal Cert.Reference8Ideal.Gen Cert.Reference8Ideal.Read Cert.Lay Cert.Route Cert.Attn
open Cert.Kernel8Ideal.Route (logits residOf preFacts resid_re norm_re groups_re experts_re)

theorem frame : @Cert.quiescent_Reference8Ideal Cert.Reference8Ideal.Gen.facts := fun m g _ =>
  (θ_run Cert.Reference8Ideal.defs _ _).mono (fun r h => ⟨fun c => (h c).2, sem_eq_zero_of_no_sems (by decide) r.2⟩)
    (Cert.Reference8Ideal.Value.run (F := Ideal) m g)

/-- The mixing call's routing weights are the reference's. -/
theorem routing : @Cert.algebraic_Kernel8Ideal_Reference8Ideal_pre_finite8 Cert.Kernel8Ideal.Gen.facts Cert.Reference8Ideal.Gen.facts preFacts := by
  intro m g m' g' hpre hagree
  refine ⟨fun c => fun y : S32768x128.Idx => weigh (logits m c (y 0)) (y 1), ?_, ?_⟩
  · refine (θ_run Cert.Kernel8Ideal.defs _ _).mono (fun r h c => ?_) (Cert.Kernel8Ideal.Value.run_blocks (F := Ideal) m g)
    exact ⟨(h c).2.2.1.trans (Cert.Kernel8Ideal.Route.final12 m c), (h c).2.2.2⟩
  · refine (θ_run Cert.Reference8Ideal.defs _ _).mono (fun r h c => ⟨(h c).1.trans ?_, (h c).2⟩)
      (Cert.Reference8Ideal.Value.run (F := Ideal) m' g')
    obtain ⟨h0, h1, h2, h3, h4, h5, h6, h7, h8, h9, h10⟩ := hagree c
    refine (val_main_v91_eq (F := Ideal) _).trans ?_
    refine (show _ = val_main_v91 (F := Ideal) (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) (m' ((c.tc : Thread nD τ).loc main_arg6)) (m' ((c.tc : Thread nD τ).loc main_arg7))
      (m' ((c.tc : Thread nD τ).loc main_arg8)) (m' ((c.tc : Thread nD τ).loc main_arg9)) (m' ((c.tc : Thread nD τ).loc main_arg10)) from rfl).trans ?_
    rw [h0, h1, h2, h3, h4, h5, h6, h7, h8, h9, h10]
    funext y
    idx_vars y
    have rg : ∀ k, Re (grp _ _ _ _ _ _ _ _ _ _ y0 k) := fun k =>
      col_re (resid_re m c hpre y0) (norm_re m c hpre) fun d => groups_re m c hpre d k
    have re : ∀ x k, Re (exps _ _ _ _ _ _ _ _ _ _ y0 x k) := fun x k =>
      col_re (resid_re m c hpre y0) (norm_re m c hpre) fun d => experts_re m c hpre d ⟨8 * x.val + k.val, by omega⟩
    obtain ⟨p, hp⟩ := exists_first (grp _ _ _ _ _ _ _ _ _ _ y0)
    obtain ⟨a, ha⟩ := exists_first (exps _ _ _ _ _ _ _ _ _ _ y0 p)
    obtain ⟨b, hb⟩ := exists_first (less (exps _ _ _ _ _ _ _ _ _ _ y0 p) a)
    refine (v91_at _ _ _ _ _ _ _ _ _ _ _ y0 p a b hp rg ha hb (second_ne (re p) (by decide) hb) (re p) y1).trans ?_
    refine (weigh_eq (logits m c y0) _ _ (fun k => ?_) (fun x k => ?_) rg re hp ha hb y1).symm
    · exact congrArg (col _ _) (funext fun d => Cert.Kernel8Ideal.Route.V_groups m c d k)
    · exact congrArg (col _ _) (funext fun d => Cert.Kernel8Ideal.Route.V_experts m c d x k)

end Cert.Reference8Ideal.Route

end
-- ==== Proof.Route.SampBlock.lean ====
/- The sample's mixing call's block of routing weights, read at an index. -/
module

public import proofs.«01_k».proof.Proof.Gen.Kernel10Ideal.Frame
public import proofs.«01_k».proof.Proof.Lay.Spec
public import proofs.«01_k».proof.Proof.Route.Block
public import Idealize.ShloMosaic.Lib.Pipeline.ValueKit

@[expose] public section

set_option maxRecDepth 16384

noncomputable section

namespace Cert.Kernel10Ideal.Route

open Idealize.ShloMosaic Idealize.ShloMosaic.TcCoe Idealize.ShloMosaic.Tactic
open Cert.Kernel10Ideal.Gen Cert.Lay Cert.Route
open Cert.Kernel8Ideal.Route (neg_inf pos_inf num_bits num_shift group_lanes expert_lanes select_if select_and)

/-- The mask's value. -/
theorem mask_bot : (Named.named κ "mask" 0xF149F2CA#32 : Ideal .f32) = ⊥ :=
  IdealRules.named_const.ideal_named_scalar _ _ _ _ rfl

/-! ## The choice, from the logits -/

section Choice

variable (L U : FVec Ideal S128x128 .f32) (M : FVec Ideal S128x1 .f32)

/-- A row of the logits. -/
abbrev row (a : Fin 128) : Fin 128 → EReal := fun k => L (ix2 a k)

theorem pay9_at (a : Fin 128) (k : Fin 128) : k0_pay9 (F := Ideal) (ix2 a k) = num k.val := by
  pointwise [k0_pay9]
  exact num_bits k

theorem pay10_at (a : Fin 128) (k : Fin 128) : k0_pay10 (ix2 a k) = if 32 ≤ k.val ∧ k.val < 36 then 1#1 else 0#1 := by
  pointwise [k0_pay10]
  exact group_lanes k

variable (hU : ∀ a k, U (ix2 a k) = groups (row L a) k) (hM : ∀ a z, M (ix2 a z) = top (groups (row L a)))
include hU hM

theorem pay13_at (a : Fin 128) (z : Fin 1) : k0_pay13 k0_pay10 U M (ix2 a z) = share (row L a) := by
  pointwise [k0_pay13]
  simp only [hU, hM, pay10_at, select_if]
  rfl

theorem pay14_at (a : Fin 128) (k : Fin 128) :
    k0_pay14 L (iota .tc S128x128 32 [1] iota_S128x128_d1_w32) k0_pay9 U M (ix2 a k) = experts (row L a) k := by
  pointwise [k0_pay14]
  simp only [hU, hM, pay9_at, num_shift, expert_lanes, select_and, mask_bot, pos_inf]
  rfl

theorem pay15_at (a : Fin 128) (z : Fin 1) :
    k0_pay15 L (iota .tc S128x128 32 [1] iota_S128x128_d1_w32) k0_pay9 U M (ix2 a z) = top (experts (row L a)) := by
  pointwise [k0_pay15]
  simp only [pay14_at L U M hU hM, neg_inf]
  rfl

theorem pay16_at (a : Fin 128) (z : Fin 1) :
    k0_pay16 L (iota .tc S128x128 32 [1] iota_S128x128_d1_w32) k0_pay9 U M (ix2 a z) = firstLane (experts (row L a)) := by
  pointwise [k0_pay16]
  simp only [pay14_at L U M hU hM, pay15_at L U M hU hM, pay9_at, pos_inf]
  rfl

theorem pay17_at (a : Fin 128) (k : Fin 128) :
    k0_pay17 L (iota .tc S128x128 32 [1] iota_S128x128_d1_w32) k0_pay9 U M (ix2 a k) = others (row L a) k := by
  pointwise [k0_pay17]
  simp only [pay14_at L U M hU hM, pay16_at L U M hU hM, pay9_at, mask_bot]
  rfl

theorem pay18_at (a : Fin 128) (z : Fin 1) :
    k0_pay18 L (iota .tc S128x128 32 [1] iota_S128x128_d1_w32) k0_pay9 U M (ix2 a z) = top (others (row L a)) := by
  pointwise [k0_pay18]
  simp only [pay17_at L U M hU hM, neg_inf]
  rfl

theorem pay19_at (a : Fin 128) (k : Fin 128) :
    k0_pay19 L (iota .tc S128x128 32 [1] iota_S128x128_d1_w32) k0_pay9 U M (ix2 a k)
      = if others (row L a) k = top (others (row L a)) then num k.val else Ideal.ofBits FTy.f32 0x4E6E6B28#32 := by
  pointwise [k0_pay19]
  simp only [pay17_at L U M hU hM, pay18_at L U M hU hM, pay9_at]

theorem pay1_at (a : Fin 128) (k : Fin 128) :
    k0_pay1 k0_pay9 (k0_pay13 k0_pay10 U M) (k0_pay15 L (iota .tc S128x128 32 [1] iota_S128x128_d1_w32) k0_pay9 U M)
        (k0_pay16 L (iota .tc S128x128 32 [1] iota_S128x128_d1_w32) k0_pay9 U M)
        (k0_pay18 L (iota .tc S128x128 32 [1] iota_S128x128_d1_w32) k0_pay9 U M)
        (k0_pay19 L (iota .tc S128x128 32 [1] iota_S128x128_d1_w32) k0_pay9 U M) (ix2 a k) = weigh (row L a) k := by
  pointwise [k0_pay1]
  simp only [pay9_at, pay13_at L U M hU hM, pay15_at L U M hU hM, pay16_at L U M hU hM, pay18_at L U M hU hM, pay19_at L U M hU hM, pos_inf]
  rfl

end Choice

/-! ## The block -/

variable (x0 : Vec Ideal S128x1024 .f32) (x1 : Vec Ideal S128x512 .bf16) (x2 : Vec Ideal S128x512 .bf16) (x3 : Vec Ideal S1x1024 .f32)
  (x4 : Vec Ideal S1024x2048 .bf16) (x5 x6 : Vec Ideal S512x1024 .bf16) (x7 : Vec Ideal S1024x1024 .bf16) (x8 : Vec Ideal S1x1024 .f32)
  (x9 : Vec Ideal S1024x128 .bf16)

theorem gates_at (a : Fin 128) (c : Fin 2048) :
    k0_pay2 x0 x3 x4 (ix2 a c) = gate (fun k => x0 (ix2 a k)) (fun k => x3 (ix2 0 k)) (fun k => x4 (ix2 k c)) := by
  pointwise [k0_pay2]
  rfl

/-- The block of the residual rows, -/
def out (a : Fin 128) (d : Fin 1024) : EReal :=
  Lay.x1 (fun k => x0 (ix2 a k)) (fun k => x3 (ix2 0 k)) (fun k e => x4 (ix2 k ⟨e.val, by omega⟩)) (fun k e => x4 (ix2 k ⟨1024 + e.val, by omega⟩))
    (fun j => x1 (ix2 a j)) (fun j => x2 (ix2 a j)) (fun j e => x5 (ix2 j e)) (fun j e => x6 (ix2 j e)) (fun e f => x7 (ix2 e f)) d

theorem pay6_at (a : Fin 128) (d : Fin 1024) :
    k0_pay6 x0 (k0_pay3 x0 x3 x4 x1 x5) (k0_pay4 x0 x3 x4) x2 (k0_pay5 x6) (constant S128x1024 FTy.f32 0x00000000#32) x7 (ix2 a d)
      = out x0 x1 x2 x3 x4 x5 x6 x7 a d := by
  pointwise [k0_pay6, k0_pay3, k0_pay4, k0_pay5, gates_at]
  rfl

/-- its logits, -/
def logit (a : Fin 128) (k : Fin 128) : EReal :=
  col (fun e => out x0 x1 x2 x3 x4 x5 x6 x7 a e) (fun k => x8 (ix2 0 k)) (fun d => x9 (ix2 d k))

theorem pay8_at (a : Fin 128) (k : Fin 128) :
    k0_pay8 x0 (k0_pay3 x0 x3 x4 x1 x5) (k0_pay4 x0 x3 x4) x2 (k0_pay5 x6) (constant S128x1024 FTy.f32 0x00000000#32) x7 x8 x9 (ix2 a k)
      = logit x0 x1 x2 x3 x4 x5 x6 x7 x8 x9 a k := by
  pointwise [k0_pay8, k0_pay7, pay6_at]
  rfl

theorem pay11_at (a : Fin 128) (k : Fin 128) :
    k0_pay11 x0 (k0_pay3 x0 x3 x4 x1 x5) (k0_pay4 x0 x3 x4) x2 (k0_pay5 x6) (constant S128x1024 FTy.f32 0x00000000#32) x7 x8 x9 (ix2 a k)
      = groups (logit x0 x1 x2 x3 x4 x5 x6 x7 x8 x9 a) k := by
  pointwise [k0_pay11, pay8_at, pay10_at]
  simp only [select_if, mask_bot]
  rfl

theorem pay12_at (a : Fin 128) (z : Fin 1) :
    k0_pay12 x0 (k0_pay3 x0 x3 x4 x1 x5) (k0_pay4 x0 x3 x4) x2 (k0_pay5 x6) (constant S128x1024 FTy.f32 0x00000000#32) x7 x8 x9 (ix2 a z)
      = top (groups (logit x0 x1 x2 x3 x4 x5 x6 x7 x8 x9 a)) := by
  pointwise [k0_pay12, pay11_at]
  simp only [neg_inf]
  rfl

/-- and its weights. -/
theorem out12_at (a : Fin 128) (k : Fin 128) :
    out0_12 x0 x1 x2 x3 x4 x5 x6 x7 x8 x9 (ix2 a k) = weigh (logit x0 x1 x2 x3 x4 x5 x6 x7 x8 x9 a) k := by
  unfold_out out0_12
  frame_out
  have hr : ∀ a, row (k0_pay8 x0 (k0_pay3 x0 x3 x4 x1 x5) (k0_pay4 x0 x3 x4) x2 (k0_pay5 x6) (constant S128x1024 FTy.f32 0x00000000#32) x7 x8 x9) a
      = logit x0 x1 x2 x3 x4 x5 x6 x7 x8 x9 a := fun a => funext fun k => pay8_at x0 x1 x2 x3 x4 x5 x6 x7 x8 x9 a k
  refine (pay1_at _ _ _ (fun a k => ?_) (fun a z => ?_) a k).trans ?_
  · rw [hr]
    exact pay11_at x0 x1 x2 x3 x4 x5 x6 x7 x8 x9 a k
  · rw [hr]
    exact pay12_at x0 x1 x2 x3 x4 x5 x6 x7 x8 x9 a z
  · rw [hr]

end Cert.Kernel10Ideal.Route

end
-- ==== Proof.Route.SampValue.lean ====
/- The sample's mixing call's routing weights, as functions of the arrays it is given. -/
module

public import proofs.«01_k».proof.Proof.Gen.Kernel10Ideal.Value
public import proofs.«01_k».proof.Proof.Route.SampBlock

@[expose] public section

set_option maxRecDepth 16384

noncomputable section

namespace Cert.Kernel10Ideal.Route

open Idealize.ShloMosaic Idealize.ShloMosaic.TcCoe Idealize.ShloMosaic.Tactic
open Cert.Kernel10Ideal.Gen Cert.Lay Cert.Route

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_12.index t = ![t.val, 0] :=
  (by decide +kernel : ∀ t : Fin grid0.N, _)

theorem tl (t : Fin cfg0.N) : t.val < 1 := Nat.lt_of_lt_of_eq t.isLt N_0

/-- The mixing call's residual rows over its arguments, -/
def resid (X : FVec Ideal S128x1024 .f32) (A B : FVec Ideal S128x512 .bf16) (G : FVec Ideal S1024 .f32) (W : FVec Ideal S1024x5384 .f32)
    (PA PB : FVec Ideal S512x1024 .f32) (WO : FVec Ideal S1024x1024 .f32) (n : Fin 128) (d : Fin 1024) : EReal :=
  Lay.x1 (fun k => X (ix2 n k)) (fun k => G (ix1 k)) (fun k e => W (ix2 k ⟨3336 + e.val, by omega⟩)) (fun k e => W (ix2 k ⟨3336 + (1024 + e.val), by omega⟩))
    (fun j => A (ix2 n j)) (fun j => B (ix2 n j)) (fun j e => PA (ix2 j e)) (fun j e => PB (ix2 j e)) (fun e f => WO (ix2 e f)) d

/-- of the memory it starts from. -/
def residOf (n : Fin 128) (d : Fin 1024) : EReal :=
  resid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) n d

theorem V_v3 (z : Fin 1) (k : Fin 1024) : V m c main_v3 (ix2 z k) = m ((c : Thread nD τ).loc main_arg3) (ix1 k) := by
  entry_read
  pointwise

theorem V_v5 (k : Fin 1024) (e : Fin 2048) : V m c main_v5 (ix2 k e) = m ((c : Thread nD τ).loc main_arg4) (ix2 k ⟨3336 + e.val, by omega⟩) := by
  entry_read
  pointwise

theorem V_v6 (k : Fin 512) (e : Fin 1024) : V m c main_v6 (ix2 k e) = m ((c : Thread nD τ).loc main_arg5) (ix2 k e) := by
  entry_read
  pointwise

theorem V_v7 (k : Fin 512) (e : Fin 1024) : V m c main_v7 (ix2 k e) = m ((c : Thread nD τ).loc main_arg6) (ix2 k e) := by
  entry_read
  pointwise

theorem V_v8 (k : Fin 1024) (e : Fin 1024) : V m c main_v8 (ix2 k e) = m ((c : Thread nD τ).loc main_arg7) (ix2 k e) := by
  entry_read
  pointwise

theorem V_v9 (z : Fin 1) (k : Fin 1024) : V m c main_v9 (ix2 z k) = m ((c : Thread nD τ).loc main_arg8) (ix1 k) := by
  entry_read
  pointwise

/-- The router's columns: the experts' first, then the groups', then nothing. -/
theorem V_v1 : V m c main_v1 = concatenate S1024x128 1 [⟨S1024x32, m ((c : Thread nD τ).loc main_arg10)⟩,
    ⟨S1024x4, m ((c : Thread nD τ).loc main_arg9)⟩, ⟨S1024x92, broadcastInDim S1024x92 ![] bcast_S_S1024x92 (constant (F := Ideal) S_ FTy.f32 0x00000000#32)⟩]
    concatenates_S1024x32_S1024x4_S1024x92_S1024x128_d1 := by
  show StableHlo.after hostOps0 (fun b => m (c, b)) (Proc.tc.devRef main_v1) = _
  after_results
  rfl

theorem V_v2 (k : Fin 1024) (e : Fin 128) : V m c main_v2 (ix2 k e) = V m c main_v1 (ix2 k e) := by
  show StableHlo.after hostOps0 (fun b => m (c, b)) (Proc.tc.devRef main_v2) _ = StableHlo.after hostOps0 (fun b => m (c, b)) (Proc.tc.devRef main_v1) _
  after_results
  rfl

theorem V_experts (k : Fin 1024) (G : Fin 4) (e : Fin 8) :
    V m c main_v2 (ix2 k ⟨8 * G.val + e.val, by omega⟩) = m ((c : Thread nD τ).loc main_arg10) (ix2 k ⟨8 * G.val + e.val, by omega⟩) := by
  rw [V_v2, V_v1]
  pointwise
  rw [dif_pos (by omega)]

theorem V_groups (k : Fin 1024) (e : Fin 4) :
    V m c main_v2 (ix2 k ⟨32 + e.val, by omega⟩) = m ((c : Thread nD τ).loc main_arg9) (ix2 k e) := by
  rw [V_v2, V_v1]
  pointwise

variable (t : Fin cfg0.N)

theorem blk0 (a : Fin 128) (k : Fin 1024) :
    iblk m c 0 t (ix2 a k) = m ((c : Thread nD τ).loc main_arg0) (ix2 ⟨t.val * 128 + a.val, by have := tl t; omega⟩ k) := by
  blk_ext [iblk, V, idx t]

theorem blk1 (a : Fin 128) (k : Fin 512) :
    iblk m c 1 t (ix2 a k) = m ((c : Thread nD τ).loc main_arg1) (ix2 ⟨t.val * 128 + a.val, by have := tl t; omega⟩ k) := by
  blk_ext [iblk, V, idx t]

theorem blk2 (a : Fin 128) (k : Fin 512) :
    iblk m c 2 t (ix2 a k) = m ((c : Thread nD τ).loc main_arg2) (ix2 ⟨t.val * 128 + a.val, by have := tl t; omega⟩ k) := by
  blk_ext [iblk, V, idx t]

theorem blk3 (k : Fin 1024) : iblk m c 3 t (ix2 0 k) = m ((c : Thread nD τ).loc main_arg3) (ix1 k) := by
  refine Eq.trans ?_ (V_v3 m c 0 k)
  blk_ext [iblk, idx t]

theorem blk4 (k : Fin 1024) (e : Fin 2048) :
    iblk m c 4 t (ix2 k e) = m ((c : Thread nD τ).loc main_arg4) (ix2 k ⟨3336 + e.val, by omega⟩) := by
  refine Eq.trans ?_ (V_v5 m c k e)
  blk_ext [iblk, idx t]

theorem blk5 (k : Fin 512) (e : Fin 1024) : iblk m c 5 t (ix2 k e) = m ((c : Thread nD τ).loc main_arg5) (ix2 k e) := by
  refine Eq.trans ?_ (V_v6 m c k e)
  blk_ext [iblk, idx t]

theorem blk6 (k : Fin 512) (e : Fin 1024) : iblk m c 6 t (ix2 k e) = m ((c : Thread nD τ).loc main_arg6) (ix2 k e) := by
  refine Eq.trans ?_ (V_v7 m c k e)
  blk_ext [iblk, idx t]

theorem blk7 (k : Fin 1024) (e : Fin 1024) : iblk m c 7 t (ix2 k e) = m ((c : Thread nD τ).loc main_arg7) (ix2 k e) := by
  refine Eq.trans ?_ (V_v8 m c k e)
  blk_ext [iblk, idx t]

theorem blk8 (k : Fin 1024) : iblk m c 8 t (ix2 0 k) = m ((c : Thread nD τ).loc main_arg8) (ix1 k) := by
  refine Eq.trans ?_ (V_v9 m c 0 k)
  blk_ext [iblk, idx t]

theorem blk9 (k : Fin 1024) (e : Fin 128) : iblk m c 9 t (ix2 k e) = V m c main_v2 (ix2 k e) := by
  blk_ext [iblk, idx t]

/-- A block's residual rows are the array's. -/
theorem out_eq (a : Fin 128) (d : Fin 1024) :
    out (iblk m c 0 t) (iblk m c 1 t) (iblk m c 2 t) (iblk m c 3 t) (iblk m c 4 t) (iblk m c 5 t) (iblk m c 6 t) (iblk m c 7 t) a d
      = residOf m c ⟨t.val * 128 + a.val, by have := tl t; omega⟩ d := by
  unfold out residOf resid
  congr 1
  · exact funext fun k => blk0 m c t a k
  · exact funext fun k => blk3 m c t k
  · exact funext fun k => funext fun e => blk4 m c t k _
  · exact funext fun k => funext fun e => blk4 m c t k _
  · exact funext fun k => blk1 m c t a k
  · exact funext fun k => blk2 m c t a k
  · exact funext fun k => funext fun e => blk5 m c t k e
  · exact funext fun k => funext fun e => blk6 m c t k e
  · exact funext fun k => funext fun e => blk7 m c t k e

/-- A row's logits. -/
def logits (n : Fin 128) (k : Fin 128) : EReal :=
  col (fun e => residOf m c n e) (fun k => m ((c : Thread nD τ).loc main_arg8) (ix1 k)) (fun d => V m c main_v2 (ix2 d k))

theorem logit_eq (a : Fin 128) :
    logit (iblk m c 0 t) (iblk m c 1 t) (iblk m c 2 t) (iblk m c 3 t) (iblk m c 4 t) (iblk m c 5 t) (iblk m c 6 t) (iblk m c 7 t) (iblk m c 8 t)
        (iblk m c 9 t) a
      = logits m c ⟨t.val * 128 + a.val, by have := tl t; omega⟩ := by
  funext k
  unfold logit logits
  simp only [out_eq, blk8, blk9]

theorem final12 : (dats m 0 c).arrAt 12 cfg0.N = fun y : S128x128.Idx => weigh (logits m c (y 0)) (y 1) := by
  refine (dats m 0 c).arrAt_eq_of_covers 12 _ (by decide +kernel) fun t _ y => ?_
  blk_simp
  rw [after0_12]
  idx_vars y
  rw [out12_at, logit_eq]
  have hp : ((cfg0.win 12).blk t).view.emb (ix2 y0 y1)
      = ix2 (n0 := 128) (n1 := 128) ⟨t.val * 128 + y0.val, by have := tl t; omega⟩ y1 := by
    blk_ext [idx t]
  rw [hp]
  rfl

end Cert.Kernel10Ideal.Route

end
-- ==== Proof.Route.SampPre.lean ====
/- What the sample's routing's precondition says: every argument is a finite number, so the rows and the logits are. -/
module

public import proofs.«01_k».proof.Defs
public import proofs.«01_k».proof.Proof.Att.Pre
public import proofs.«01_k».proof.Proof.Route.Real
public import proofs.«01_k».proof.Proof.Route.SampValue

@[expose] public section

set_option maxRecDepth 16384

noncomputable section

namespace Cert.Kernel10Ideal.Route

open Idealize.ShloMosaic Idealize.ShloMosaic.TcCoe Idealize.ShloMosaic.Tactic
open Cert.Kernel10Ideal.Gen Cert.Route Cert.Attn
open Cert.KernelIdeal.Att (re_of_cmp inf_bf16 inf_f32)

theorem preFacts : Cert.Pre_finite10.Facts where
  bcast_S_S128x1024 := by decide
  bcast_S_S128x512 := by decide
  bcast_S_S1024 := by decide
  bcast_S_S1024x5384 := by decide
  bcast_S_S512x1024 := by decide
  bcast_S_S1024x1024 := by decide
  bcast_S_S1024x4 := by decide
  bcast_S_S1024x32 := by decide

variable (m : (ℓ : Loc nD τ sig) → Buf (Elt Ideal) ℓ) (c : Dev nD)
  (hpre : @Cert.Pre_Kernel10Ideal_finite10 preFacts m)
include hpre

theorem resid_re (n : Fin 128) (d : Fin 1024) : Re (residOf m c n d) := by
  obtain ⟨h0, h1, h2, h3, h4, h5, h6, h7, _⟩ := hpre c
  unfold residOf resid
  refine x1_re (fun k => re_of_cmp ?_) (fun k => re_of_cmp ?_) (fun k e => re_of_cmp ?_) (fun k e => re_of_cmp ?_) (fun k => re_of_cmp ?_)
    (fun k => re_of_cmp ?_) (fun k e => re_of_cmp ?_) (fun k e => re_of_cmp ?_) (fun k e => re_of_cmp ?_) d
  · rw [← inf_f32]; exact congrFun h0 _
  · rw [← inf_f32]; exact congrFun h3 _
  · rw [← inf_f32]; exact congrFun h4 _
  · rw [← inf_f32]; exact congrFun h4 _
  · rw [← inf_bf16]; exact congrFun h1 _
  · rw [← inf_bf16]; exact congrFun h2 _
  · rw [← inf_f32]; exact congrFun h5 _
  · rw [← inf_f32]; exact congrFun h6 _
  · rw [← inf_f32]; exact congrFun h7 _

theorem norm_re (k : Fin 1024) : Re (m ((c : Thread nD τ).loc main_arg8) (ix1 k)) := by
  obtain ⟨_, _, _, _, _, _, _, _, h8, _⟩ := hpre c
  refine re_of_cmp ?_
  rw [← inf_f32]; exact congrFun h8 _

theorem groups_re (d : Fin 1024) (k : Fin 4) : Re (m ((c : Thread nD τ).loc main_arg9) (ix2 d k)) := by
  obtain ⟨_, _, _, _, _, _, _, _, _, h9, _⟩ := hpre c
  refine re_of_cmp ?_
  rw [← inf_f32]; exact congrFun h9 _

theorem experts_re (d : Fin 1024) (k : Fin 32) : Re (m ((c : Thread nD τ).loc main_arg10) (ix2 d k)) := by
  obtain ⟨_, _, _, _, _, _, _, _, _, _, h10⟩ := hpre c
  refine re_of_cmp ?_
  rw [← inf_f32]; exact congrFun h10 _

end Cert.Kernel10Ideal.Route

end
-- ==== Proof.Route.SampRef.lean ====
/- The sample's routing reference's result, read at an index. -/
module

public import proofs.«01_k».proof.Proof.Gen.Reference10Ideal
public import proofs.«01_k».proof.Proof.Gen.Reference10Ideal.Read
public import proofs.«01_k».proof.Proof.Route.TopK
public import proofs.«01_k».proof.Proof.Route.SampValue

@[expose] public section

set_option maxRecDepth 16384

noncomputable section

namespace Cert.Reference10Ideal.Route

open Idealize.ShloMosaic Idealize.ShloMosaic.TcCoe Idealize.ShloMosaic.Tactic
open Cert.Reference10Ideal Cert.Reference10Ideal.Gen Cert.Reference10Ideal.Read Cert.Lay Cert.Route Cert.Attn
open Cert.Kernel10Ideal.Route (resid)
open Cert.Kernel8Ideal.Route (neg_inf)

variable (X : FVec Ideal S128x1024 .f32) (A B : FVec Ideal S128x512 .bf16) (G : FVec Ideal S1024 .f32) (W : FVec Ideal S1024x5384 .f32)
  (PA PB : FVec Ideal S512x1024 .f32) (WO : FVec Ideal S1024x1024 .f32) (GF : FVec Ideal S1024 .f32) (WG : FVec Ideal S1024x4 .f32)
  (WE : FVec Ideal S1024x32 .f32)

theorem v12_at (n : Fin 128) (k : Fin 1024) :
    val_main_v12 (F := Ideal) X G (ix2 n k) = rms (fun k => X (ix2 n k)) (fun k => G (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v20_at (n : Fin 128) (e : Fin 2048) :
    val_main_v20 (F := Ideal) X G W (ix2 n e)
      = gate (fun k => X (ix2 n k)) (fun k => G (ix1 k)) (fun k => W (ix2 k ⟨3336 + e.val, by omega⟩)) := by
  pointwise [val_main_v20, val_main_v19, val_main_v18, val_main_v17, val_main_v16, val_main_v15, val_main_v14, val_main_v13,
    val_main_cst_2, val_main_cst_3, v12_at]
  unfold gate
  rw [sub_eq_add_neg, zero_add]

theorem v31_at (n : Fin 128) (d : Fin 1024) :
    val_main_v31 (F := Ideal) X A B G W PA PB WO (ix2 n d) = resid X A B G W PA PB WO n d := by
  pointwise [val_main_v31, val_main_v30, val_main_v29, val_main_v28, val_main_v27, val_main_v26, val_main_v25, val_main_v24, val_main_v23,
    val_main_v22, val_main_v21, v20_at]
  rfl

theorem v44_at (n : Fin 128) (d : Fin 1024) :
    val_main_v44 (F := Ideal) X A B G W PA PB WO GF (ix2 n d)
      = rms (fun e => resid X A B G W PA PB WO n e) (fun k => GF (ix1 k)) d := by
  pointwise [val_main_v44, val_main_v43, val_main_v42, val_main_v41, val_main_v40, val_main_v39, val_main_v38, val_main_v37,
    val_main_v36, val_main_v35, val_main_v34, val_main_v33, val_main_v32, val_main_cst_4, val_main_cst_5, val_main_cst_6, v31_at]
  rfl

/-- A row's group logits, -/
def grp (n : Fin 128) (k : Fin 4) : EReal :=
  col (fun e => resid X A B G W PA PB WO n e) (fun k => GF (ix1 k)) (fun d => WG (ix2 d k))

/-- and its expert logits. -/
def exps (n : Fin 128) (x : Fin 4) (k : Fin 8) : EReal :=
  col (fun e => resid X A B G W PA PB WO n e) (fun k => GF (ix1 k)) (fun d => WE (ix2 d ⟨8 * x.val + k.val, by omega⟩))

theorem v45_at (n : Fin 128) (k : Fin 4) :
    val_main_v45 (F := Ideal) X A B G W PA PB WO GF WG (ix2 n k) = grp X A B G W PA PB WO GF WG n k := by
  pointwise [val_main_v45, v44_at]
  rfl

variable (n : Fin 128) (g : Fin 4) (a b : Fin 8) (hg : First (grp X A B G W PA PB WO GF WG n) g)
include hg

theorem indices_at (z : Fin 1) : val_main_indices (F := Ideal) X A B G W PA PB WO GF WG (ix2 n z) = BitVec.ofNat 32 g.val := by
  unfold val_main_indices
  refine (topK_place _ (by decide) _ n z).trans ?_
  simp only [v45_at]
  rw [ranked, hg.sorted _ (by have := z.isLt; show z.val = 0; omega)]

theorem v50_at (k : Fin 4) : val_main_v50 (F := Ideal) X A B G W PA PB WO GF WG (ix2 n k)
    = IntOp.cmpi CmpIPredicate.eq (BitVec.ofNat 32 g.val) (BitVec.ofNat 32 k.val) := by
  pointwise [val_main_v50, val_main_v49, val_main_v48, val_main_v47, val_main_v46]
  rw [indices_at X A B G W PA PB WO GF WG n g hg]

theorem v69_at (k : Fin 8) : val_main_v69 (F := Ideal) X A B G W PA PB WO GF WG WE (ix2 n k) = exps X A B G W PA PB WO GF WE n g k := by
  pointwise [val_main_v69, val_main_v68, val_main_v67, val_main_v66, val_main_v65, val_main_call1_v0, val_main_call1_v1, val_main_call1_v2,
    val_main_cst_12, val_main_cst_13, v44_at]
  simp only [v50_at X A B G W PA PB WO GF WG n g hg]
  refine (congrArg (fun f => ∑ x, f x) (funext fun x => ?_)).trans (pick_sum (by decide) g fun x => exps X A B G W PA PB WO GF WE n x k)
  refine congrArg₂ (fun u v => Scalar.select _ u v) ?_ ?_
  · unfold exps col
    refine Finset.sum_congr rfl fun d _ => ?_
    congr 3
    exact Fin.ext (by simp [Nat.mul_comm])
  · show Ideal.ofBits .f32 0#32 = 0
    exact Ideal.ofBits_zero_f32

section Group

variable (rg : ∀ k, Re (grp X A B G W PA PB WO GF WG n k))
include rg

theorem v64_at (z : Fin 1) : val_main_v64 (F := Ideal) X A B G W PA PB WO GF WG (ix2 n z)
    = Ideal.div 1 (∑ k, Ideal.exp (grp X A B G W PA PB WO GF WG n k - grp X A B G W PA PB WO GF WG n g)) := by
  pointwise [val_main_v64, val_main_v63, val_main_v62, val_main_v61, val_main_v60, val_main_v59, val_main_v58, val_main_v57, val_main_v56,
    val_main_v55, val_main_v54, val_main_v53, val_main_v52, val_main_v51, val_main_cst_7, val_main_cst_8, val_main_cst_9, val_main_cst_10,
    val_main_cst_11, val_main_call0_v0, val_main_call0_v1]
  simp only [v50_at X A B G W PA PB WO GF WG n g hg, v45_at, neg_inf]
  have hm : Finset.fold max ⊥ (fun x => grp X A B G W PA PB WO GF WG n x) Finset.univ = grp X A B G W PA PB WO GF WG n g := hg.fold_max
  rw [hm, max_eq_right bot_le]
  refine Eq.trans ?_ (softmax_first (rg g))
  refine Eq.trans ?_ (pick_sum (by decide) g fun x => Ideal.div (Ideal.exp (grp X A B G W PA PB WO GF WG n x - grp X A B G W PA PB WO GF WG n g))
    (∑ k, Ideal.exp (grp X A B G W PA PB WO GF WG n k - grp X A B G W PA PB WO GF WG n g)))
  refine Finset.sum_congr rfl fun x _ => congrArg (fun v => Scalar.select _ _ v) ?_
  show Ideal.ofBits .f32 0#32 = 0
  exact Ideal.ofBits_zero_f32

variable (ha : First (exps X A B G W PA PB WO GF WE n g) a) (hb : First (less (exps X A B G W PA PB WO GF WE n g) a) b) (hne : b ≠ a)
include ha hb hne

theorem values_at (j : Fin 2) : val_main_values_14 (F := Ideal) X A B G W PA PB WO GF WG WE (ix2 n j)
    = exps X A B G W PA PB WO GF WE n g (if j.val = 0 then a else b) := by
  unfold val_main_values_14
  refine (topK_value _ (by decide) _ n j).trans ?_
  simp only [v69_at X A B G W PA PB WO GF WG WE n g hg]
  rw [ranked, ha.sorted_two hb hne _ j.isLt]

theorem places_at (j : Fin 2) : val_main_indices_15 (F := Ideal) X A B G W PA PB WO GF WG WE (ix2 n j)
    = BitVec.ofNat 32 (if j.val = 0 then a else b).val := by
  unfold val_main_indices_15
  refine (topK_place _ (by decide) _ n j).trans ?_
  simp only [v69_at X A B G W PA PB WO GF WG WE n g hg]
  rw [ranked, ha.sorted_two hb hne _ j.isLt]

theorem v72_at : val_main_v72 (F := Ideal) X A B G W PA PB WO GF WG WE (ix1 n) = exps X A B G W PA PB WO GF WE n g a := by
  have hm : First (fun j : Fin 2 => val_main_values_14 (F := Ideal) X A B G W PA PB WO GF WG WE (ix2 n j)) 0 := fun j => by
    simp only [values_at X A B G W PA PB WO GF WG WE n g a b hg rg ha hb hne]
    fin_cases j
    · exact Or.inr ⟨rfl, le_rfl⟩
    · rcases ha b with h | h
      · exact Or.inl h
      · exact Or.inr ⟨h.1, by decide⟩
  have hf := hm.fold_max
  generalize hV : val_main_values_14 (F := Ideal) X A B G W PA PB WO GF WG WE = V at hf
  have hv : val_main_v70 (F := Ideal) X A B G W PA PB WO GF WG WE (ix1 n) = V (ix2 n 0) := by
    unfold val_main_v70
    rw [hV]
    pointwise [val_main_cst_16]
    simp only [neg_inf]
    exact hf
  pointwise [val_main_v72, val_main_v71, val_main_cst_17]
  rw [hv, neg_inf, max_eq_right bot_le, ← hV, values_at X A B G W PA PB WO GF WG WE n g a b hg rg ha hb hne]
  rfl

theorem v76_at (j : Fin 2) : val_main_v76 (F := Ideal) X A B G W PA PB WO GF WG WE (ix2 n j)
    = Ideal.exp (exps X A B G W PA PB WO GF WE n g (if j.val = 0 then a else b) - exps X A B G W PA PB WO GF WE n g a) := by
  have hm := v72_at X A B G W PA PB WO GF WG WE n g a b hg rg ha hb hne
  have hv := values_at X A B G W PA PB WO GF WG WE n g a b hg rg ha hb hne j
  unfold val_main_v76 val_main_v75 val_main_v74 val_main_v73
  generalize val_main_v72 (F := Ideal) X A B G W PA PB WO GF WG WE = M at hm
  generalize val_main_values_14 (F := Ideal) X A B G W PA PB WO GF WG WE = V at hv
  pointwise
  rw [hm, hv]

theorem v79_at (j : Fin 2) : val_main_v79 (F := Ideal) X A B G W PA PB WO GF WG WE (ix2 n j)
    = Ideal.exp (exps X A B G W PA PB WO GF WE n g a - exps X A B G W PA PB WO GF WE n g a)
      + Ideal.exp (exps X A B G W PA PB WO GF WE n g b - exps X A B G W PA PB WO GF WE n g a) := by
  have h := v76_at X A B G W PA PB WO GF WG WE n g a b hg rg ha hb hne
  unfold val_main_v79 val_main_v78 val_main_v77
  generalize val_main_v76 (F := Ideal) X A B G W PA PB WO GF WG WE = E at h
  pointwise [val_main_cst_18]
  rw [Fin.sum_univ_two, h, h]
  rfl

variable (re : ∀ k, Re (exps X A B G W PA PB WO GF WE n g k))
include re

/-- The weight of the first chosen expert, or of the second. -/
theorem v82_at (j : Fin 2) : val_main_v82 (F := Ideal) X A B G W PA PB WO GF WG WE (ix2 n j)
    = if j.val = 0 then
        Ideal.div (Ideal.div 1 (∑ k, Ideal.exp (grp X A B G W PA PB WO GF WG n k - grp X A B G W PA PB WO GF WG n g)))
          (1 + Ideal.exp (exps X A B G W PA PB WO GF WE n g b - exps X A B G W PA PB WO GF WE n g a))
      else
        Ideal.div (Ideal.div 1 (∑ k, Ideal.exp (grp X A B G W PA PB WO GF WG n k - grp X A B G W PA PB WO GF WG n g)))
          (1 + Ideal.exp (exps X A B G W PA PB WO GF WE n g b - exps X A B G W PA PB WO GF WE n g a))
          * Ideal.exp (exps X A B G W PA PB WO GF WE n g b - exps X A B G W PA PB WO GF WE n g a) := by
  have h6 := v76_at X A B G W PA PB WO GF WG WE n g a b hg rg ha hb hne j
  have h9 := v79_at X A B G W PA PB WO GF WG WE n g a b hg rg ha hb hne j
  have h4 := v64_at X A B G W PA PB WO GF WG n g hg rg 0
  have two := softmax_two (re a) (re b) (share_re rg g)
  unfold val_main_v82 val_main_v81 val_main_v80
  generalize val_main_v76 (F := Ideal) X A B G W PA PB WO GF WG WE = E at h6
  generalize val_main_v79 (F := Ideal) X A B G W PA PB WO GF WG WE = S at h9
  generalize val_main_v64 (F := Ideal) X A B G W PA PB WO GF WG = P at h4
  pointwise
  rw [h6, h9, h4]
  by_cases h : j.val = 0
  · simp only [if_pos h]
    exact two.1
  · simp only [if_neg h]
    exact two.2

/-- The routing weights. -/
theorem v91_at (j : Fin 128) : val_main_v91 (F := Ideal) X A B G W PA PB WO GF WG WE (ix2 n j)
    = routed (grp X A B G W PA PB WO GF WG n) (exps X A B G W PA PB WO GF WE n g) g a b j.val := by
  have hi := indices_at X A B G W PA PB WO GF WG n g hg 0
  have hp := places_at X A B G W PA PB WO GF WG WE n g a b hg rg ha hb hne
  have hw := v82_at X A B G W PA PB WO GF WG WE n g a b hg rg ha hb hne re
  unfold val_main_v91 val_main_v90 val_main_v89 val_main_v88 val_main_v87 val_main_call2_v4 val_main_call2_v3 val_main_call2_v2 val_main_call2_v1 val_main_call2_v0
    val_main_v86 val_main_v85 val_main_v84 val_main_v83
  generalize val_main_indices (F := Ideal) X A B G W PA PB WO GF WG = I at hi
  generalize val_main_indices_15 (F := Ideal) X A B G W PA PB WO GF WG WE = J at hp
  generalize val_main_v82 (F := Ideal) X A B G W PA PB WO GF WG WE = Y at hw
  pointwise [val_main_c, val_main_cst_19]
  rw [Fin.sum_univ_two, hi, hp, hp, hw, hw, one_hot, one_hot]
  rfl

end Group

end Cert.Reference10Ideal.Route

end
-- ==== Proof.Route.SampClaim.lean ====
/- The routing weights of the sample's mixing call are the reference's when its arguments are finite numbers. -/
module

public import proofs.«01_k».proof.Defs
public import proofs.«01_k».proof.Proof.Gen.Kernel10Ideal
public import proofs.«01_k».proof.Proof.Route.SampPre
public import proofs.«01_k».proof.Proof.Route.SampRef
public import Idealize.ShloMosaic.Lib.Quiescent

@[expose] public section

set_option maxRecDepth 16384

noncomputable section

namespace Cert.Reference10Ideal.Route

open Idealize.ShloMosaic Idealize.ShloMosaic.TcCoe Idealize.ShloMosaic.Tactic Idealize.SL.Sem
open Cert.Reference10Ideal Cert.Reference10Ideal.Gen Cert.Reference10Ideal.Read Cert.Lay Cert.Route Cert.Attn
open Cert.Kernel10Ideal.Route (logits residOf preFacts resid_re norm_re groups_re experts_re)

theorem frame : @Cert.quiescent_Reference10Ideal Cert.Reference10Ideal.Gen.facts := fun m g _ =>
  (θ_run Cert.Reference10Ideal.defs _ _).mono (fun r h => ⟨fun c => (h c).2, sem_eq_zero_of_no_sems (by decide) r.2⟩)
    (Cert.Reference10Ideal.Value.run (F := Ideal) m g)

/-- The sample's mixing call's routing weights are the reference's. -/
theorem routing : @Cert.algebraic_Kernel10Ideal_Reference10Ideal_pre_finite10 Cert.Kernel10Ideal.Gen.facts Cert.Reference10Ideal.Gen.facts preFacts := by
  intro m g m' g' hpre hagree
  refine ⟨fun c => fun y : S128x128.Idx => weigh (logits m c (y 0)) (y 1), ?_, ?_⟩
  · refine (θ_run Cert.Kernel10Ideal.defs _ _).mono (fun r h c => ?_) (Cert.Kernel10Ideal.Value.run_blocks (F := Ideal) m g)
    exact ⟨(h c).2.2.1.trans (Cert.Kernel10Ideal.Route.final12 m c), (h c).2.2.2⟩
  · refine (θ_run Cert.Reference10Ideal.defs _ _).mono (fun r h c => ⟨(h c).1.trans ?_, (h c).2⟩)
      (Cert.Reference10Ideal.Value.run (F := Ideal) m' g')
    obtain ⟨h0, h1, h2, h3, h4, h5, h6, h7, h8, h9, h10⟩ := hagree c
    refine (val_main_v91_eq (F := Ideal) _).trans ?_
    refine (show _ = val_main_v91 (F := Ideal) (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) (m' ((c.tc : Thread nD τ).loc main_arg6)) (m' ((c.tc : Thread nD τ).loc main_arg7))
      (m' ((c.tc : Thread nD τ).loc main_arg8)) (m' ((c.tc : Thread nD τ).loc main_arg9)) (m' ((c.tc : Thread nD τ).loc main_arg10)) from rfl).trans ?_
    rw [h0, h1, h2, h3, h4, h5, h6, h7, h8, h9, h10]
    funext y
    idx_vars y
    have rg : ∀ k, Re (grp _ _ _ _ _ _ _ _ _ _ y0 k) := fun k =>
      col_re (resid_re m c hpre y0) (norm_re m c hpre) fun d => groups_re m c hpre d k
    have re : ∀ x k, Re (exps _ _ _ _ _ _ _ _ _ _ y0 x k) := fun x k =>
      col_re (resid_re m c hpre y0) (norm_re m c hpre) fun d => experts_re m c hpre d ⟨8 * x.val + k.val, by omega⟩
    obtain ⟨p, hp⟩ := exists_first (grp _ _ _ _ _ _ _ _ _ _ y0)
    obtain ⟨a, ha⟩ := exists_first (exps _ _ _ _ _ _ _ _ _ _ y0 p)
    obtain ⟨b, hb⟩ := exists_first (less (exps _ _ _ _ _ _ _ _ _ _ y0 p) a)
    refine (v91_at _ _ _ _ _ _ _ _ _ _ _ y0 p a b hp rg ha hb (second_ne (re p) (by decide) hb) (re p) y1).trans ?_
    refine (weigh_eq (logits m c y0) _ _ (fun k => ?_) (fun x k => ?_) rg re hp ha hb y1).symm
    · exact congrArg (col _ _) (funext fun d => Cert.Kernel10Ideal.Route.V_groups m c d k)
    · exact congrArg (col _ _) (funext fun d => Cert.Kernel10Ideal.Route.V_experts m c d x k)

end Cert.Reference10Ideal.Route

end
-- ==== Proof.Lay.Sum.lean ====
/- The running sum's body read at an index: a row of a block is the sum so far and the block's rows up to it. -/
module

public import proofs.«01_k».proof.Proof.Gen.Kernel9Ideal.Frame
public import proofs.«01_k».proof.Proof.Lay.Spec
public import Idealize.ShloMosaic.Lib.Pipeline.ValueKit
public import Idealize.ShloMosaic.Lib.Pipeline.ReadBack

@[expose] public section

set_option maxRecDepth 16384

noncomputable section

namespace Cert.Kernel9Ideal.Sum

open Idealize.ShloMosaic Idealize.ShloMosaic.TcCoe Idealize.ShloMosaic.Tactic Idealize.SL.Sem
open Cert.Kernel9Ideal.Gen Cert.Lay

/-- The three parts that a number is split into, added again. -/
def whole (x : EReal) : EReal := x + (x - x) + (x - x - (x - x))

theorem whole_eq {x : EReal} (h : x ≠ ⊤) : whole x = x := by
  unfold whole
  induction x using EReal.rec with
  | bot => simp
  | coe r => rw [← EReal.coe_sub, ← EReal.coe_sub, ← EReal.coe_add, ← EReal.coe_add]; simp
  | top => exact absurd rfl h

theorem pay1_at (l : Fin 128) : k0_pay1 (F := Ideal) (ix2 0 l) = 0 := by
  pointwise [k0_pay1]

/-- A word that says whether a number is at most another, times a value. -/
theorem upto (k a : Fin 512) (v : EReal) : FloatOps.sitofp (F := Ideal) FTy.f32
    (BitVec.setWidth 32 (IntOp.cmpi CmpIPredicate.sle (BitVec.ofNat 32 k.val) (BitVec.ofNat 32 a.val))) * v
      = if k.val ≤ a.val then v else 0 := by
  rw [WordCmp.cmpi_sle_ofNat (by omega) (by omega)]
  by_cases h : k.val ≤ a.val
  · rw [if_pos h, decide_eq_true h]
    show (((1 : ℤ) : ℝ) : EReal) * v = v
    simp
  · rw [if_neg h, decide_eq_false h]
    show (((0 : ℤ) : ℝ) : EReal) * v = 0
    simp

/-- The rows of a block up to one of them, as numbers. -/
theorem rows_upto (f : ℕ → EReal) (a : Fin 512) :
    (∑ k : Fin 512, if k.val ≤ a.val then f k.val else 0) = ∑ k ∈ Finset.range (a.val + 1), f k := by
  rw [Fin.sum_univ_eq_sum_range (fun k => if k ≤ a.val then f k else 0) 512, ← Finset.sum_filter]
  refine Finset.sum_congr (Finset.ext fun k => ?_) fun _ _ => rfl
  rw [Finset.mem_filter, Finset.mem_range, Finset.mem_range]
  omega

section block

variable (x : Vec Ideal S1x512x128 .f32) (acc : Vec Ideal S1x128 .f32)

theorem pay2_at (a : Fin 512) (l : Fin 128) : k0_pay2 x acc (ix2 a l)
    = (∑ k : Fin 512, if k.val ≤ a.val then whole (x (ix3 0 k l)) else 0) + acc (ix2 0 l) := by
  pointwise [k0_pay2]
  refine congrArg (· + acc (ix2 0 l)) ?_
  rw [← Finset.sum_add_distrib, ← Finset.sum_add_distrib]
  refine Finset.sum_congr rfl fun k _ => ?_
  rw [upto, upto, upto]
  split
  · rfl
  · rw [add_zero, add_zero]

theorem pay3_at (a : Fin 512) (l : Fin 128) : k0_pay3 x acc (ix3 0 a l) = k0_pay2 x acc (ix2 a l) := by
  unfold k0_pay3
  pointwise

theorem pay4_at (l : Fin 128) : k0_pay4 x acc (ix2 0 l) = k0_pay2 x acc (ix2 ⟨511, by decide⟩ l) := by
  unfold k0_pay4
  pointwise

end block

variable (m : (ℓ : Loc nD τ sig) → Buf (Elt Ideal) ℓ) (c : Dev nD)

theorem tl (t : Fin cfg0.N) : t.val < 64 := Nat.lt_of_lt_of_eq t.isLt N_0

theorem idx : ∀ t : Fin cfg0.N, win0_0.index t = ![t.val / 16, t.val % 16, 0] ∧ win0_1.index t = ![t.val / 16, t.val % 16, 0] :=
  (by decide +kernel : ∀ t : Fin grid0.N, _)

theorem V_v0 (b : Fin 4) (n : Fin 8192) (l : Fin 128) :
    V m c main_v0 (ix3 b n l) = m ((c : Thread nD τ).loc main_arg0) (ix2 ⟨b.val * 8192 + n.val, by omega⟩ l) := by
  show StableHlo.after hostOps0 (fun b => m (c, b)) (Proc.tc.devRef main_v0) _ = _
  after_results
  pointwise

theorem blk0 (t : Fin cfg0.N) (a : Fin 512) (l : Fin 128) : iblk m c 0 t (ix3 0 a l)
    = m ((c : Thread nD τ).loc main_arg0) (ix2 ⟨t.val / 16 * 8192 + (t.val % 16 * 512 + a.val), by have := tl t; omega⟩ l) := by
  refine Eq.trans ?_ (V_v0 m c ⟨t.val / 16, by have := tl t; omega⟩ ⟨t.val % 16 * 512 + a.val, by omega⟩ l)
  blk_ext [iblk, idx t]

/-- A row's value of a sequence, the row given as a number. -/
def rowOf (b : ℕ) (l : Fin 128) (n : ℕ) : EReal :=
  if h : b * 8192 + n < 32768 then whole (m ((c : Thread nD τ).loc main_arg0) (ix2 ⟨b * 8192 + n, h⟩ l)) else 0

/-- A grid point's rows after the carried sum. -/
theorem point_at (t : Fin cfg0.N) (acc : Vec Ideal S1x128 .f32) (l : Fin 128)
    (hacc : acc (ix2 0 l) = ∑ n ∈ Finset.range (t.val % 16 * 512), rowOf m c (t.val / 16) l n) (a : Fin 512) :
    k0_pay2 (iblk m c 0 t) acc (ix2 a l) = ∑ n ∈ Finset.range (t.val % 16 * 512 + (a.val + 1)), rowOf m c (t.val / 16) l n := by
  rw [pay2_at, hacc, Finset.sum_range_add, add_comm, ← rows_upto (fun k => rowOf m c (t.val / 16) l (t.val % 16 * 512 + k))]
  refine congrArg _ (Finset.sum_congr rfl fun k _ => ?_)
  rw [blk0]
  unfold rowOf
  rw [dif_pos (by have := tl t; omega)]

theorem carry_at (n : ℕ) : ∀ (h : n < cfg0.N) (l : Fin 128),
    (outsAt0 m c n h).2 (ix2 0 l) = ∑ s ∈ Finset.range (n % 16 * 512 + 512), rowOf m c (n / 16) l s := by
  induction n using Nat.strong_induction_on with
  | _ n ih =>
    intro h l
    by_cases h0 : n % 16 = 0
    · rw [outsAt0_A m c ⟨n, h⟩ h0]
      frame_out
      rw [pay4_at]
      exact point_at m c ⟨n, h⟩ _ l (by rw [pay1_at]; simp [h0]) ⟨511, by decide⟩
    · rw [outsAt0_B m c ⟨n, h⟩ h0]
      frame_out
      simp only [read_unread_whole]
      rw [pay4_at]
      refine point_at m c ⟨n, h⟩ _ l ?_ ⟨511, by decide⟩
      rw [ih (n - 1) (by omega) (by omega) l]
      have e : (n - 1) % 16 * 512 + 512 = n % 16 * 512 := by omega
      have e' : (n - 1) / 16 = n / 16 := by omega
      dsimp only
      rw [e, e']

theorem out_at (t : Fin cfg0.N) (a : Fin 512) (l : Fin 128) : (outsAt0 m c t.val t.isLt).1 (ix3 0 a l)
    = ∑ s ∈ Finset.range (t.val % 16 * 512 + (a.val + 1)), rowOf m c (t.val / 16) l s := by
  have ht := tl t
  by_cases h0 : t.val % 16 = 0
  · rw [outsAt0_A m c t h0]
    frame_out
    rw [pay3_at]
    exact point_at m c t _ l (by rw [pay1_at]; simp [h0]) a
  · rw [outsAt0_B m c t h0]
    frame_out
    simp only [read_unread_whole]
    rw [pay3_at]
    refine point_at m c t _ l ?_ a
    rw [carry_at m c (t.val - 1) _ l]
    have e : (t.val - 1) % 16 * 512 + 512 = t.val % 16 * 512 := by omega
    have e' : (t.val - 1) / 16 = t.val / 16 := by omega
    rw [e, e']

/-- The running sum of a sequence's lane at a row. -/
def totalOf (b : Fin 4) (n : Fin 8192) (l : Fin 128) : EReal := ∑ s ∈ Finset.range (n.val + 1), rowOf m c b.val l s

theorem final1 : (dats m 0 c).arrAt 1 cfg0.N = fun y : S4x8192x128.Idx => totalOf m c (y 0) (y 1) (y 2) := by
  refine (dats m 0 c).arrAt_eq_of_covers 1 _ (by decide +kernel) fun t hf y => ?_
  blk_simp
  rw [after0_1]
  idx_vars y
  obtain rfl : y0 = 0 := Subsingleton.elim _ _
  rw [out_at m c t]
  have hp : ((cfg0.win 1).blk t).view.emb (ix3 0 y1 y2)
      = ix3 (n0 := 4) (n1 := 8192) (n2 := 128) ⟨t.val / 16, by have := tl t; omega⟩ ⟨t.val % 16 * 512 + y1.val, by omega⟩ y2 := by
    blk_ext [idx t]
  rw [hp]
  rfl

/-! ## The slice of the heads' lanes -/

/-- The running sums over the starting memory. -/
def sumsOf : FVec Ideal S4x8192x8 .f32 := fun y => totalOf m c (y 0) (y 1) ⟨(y 2).val, by have : (y 2).val < 8 := (y 2).isLt; omega⟩

/-- The memory the host's last line reads. -/
abbrev atExit : Valuation τ sig (Elt Ideal) :=
  Pipeline.withArrays (cfgs 0).spec c (V0 m c) fun w => (dats m 0 c).arrAt w (cfgs 0).N

theorem tail_sums (U : Valuation τ sig (Elt Ideal)) : StableHlo.after hostOps1 U (Proc.tc.devRef main_v2)
    = extractStridedSlice S4x8192x8 ![0, 0, 0] (U (Proc.tc.devRef main_v1)) slices_S4x8192x128_S4x8192x8_0_0_0 := by
  after_results

theorem head_at (A : FVec Ideal S4x8192x128 .f32) (b : Fin 4) (n : Fin 8192) (h : Fin 8) :
    extractStridedSlice S4x8192x8 ![0, 0, 0] A slices_S4x8192x128_S4x8192x8_0_0_0 (ix3 b n h) = A (ix3 b n ⟨h.val, by omega⟩) := by
  pointwise

theorem final_sums : Pipeline.afterTail₀ cfgs (dats m) 0 (V0 m) [hostOps1] c main_v2 = sumsOf m c := by
  show StableHlo.after hostOps1 (atExit m c) (Proc.tc.devRef main_v2) = _
  have hA : atExit m c (Proc.tc.devRef main_v1) = (dats m 0 c).arrAt 1 cfg0.N :=
    Pipeline.withArrays_arr spec0 (by decide) c (V0 m c) (fun w => (dats m 0 c).arrAt w (cfgs 0).N) 1
  rw [tail_sums, hA, final1]
  funext y
  idx_vars y
  exact head_at _ y0 y1 y2

theorem run (ρ : Dev nD → PrngReg) : θ_run defs (onTc (τ := τ) (main (F := Ideal))) ⟨m, fun _ => 0, ρ⟩ (fun r => ∀ c : Dev nD,
    r.2.mem ((c.tc : Thread nD τ).loc main_v2) = sumsOf m c
    ∧ r.2.mem ((c.tc : Thread nD τ).loc main_arg0) = m ((c.tc : Thread nD τ).loc main_arg0)) := by
  refine (θ_run defs _ _).mono (fun r h c =>
    ⟨((h c).2 main_v2 (Pipeline.mem_restRefs_of main_v2 (by decide) (by decide))).trans (final_sums m c),
      ((h c).2 main_arg0 (Pipeline.mem_restRefs_of main_arg0 (by decide) (by decide))).trans (W_main_arg0 m (dats m) c)⟩) (run_main m ρ)

end Cert.Kernel9Ideal.Sum

end
-- ==== Proof.Lay.SumRef.lean ====
/- The running sum's reference, its result read at an index, and the call's value claim. -/
module

public import proofs.«01_k».proof.Defs
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.Att.Pre
public import proofs.«01_k».proof.Proof.Lay.Sum
public import Idealize.ShloMosaic.Lib.Quiescent

@[expose] public section

set_option maxRecDepth 16384

noncomputable section

namespace Cert.Kernel9Ideal.Sum

open Idealize.ShloMosaic Idealize.ShloMosaic.TcCoe Idealize.ShloMosaic.Tactic Idealize.SL.Sem
open Cert.Kernel9Ideal.Gen
open Cert.KernelIdeal.Att (inf_f32)

theorem preFacts : Cert.Pre_below9.Facts where
  slices_S32768x128_S32768x8_0_0 := by decide
  bcast_S_S32768x8 := by decide

/-- The log forget values as launched. -/
abbrev argL (m : (ℓ : Loc nD τ sig) → Buf (Elt Ideal) ℓ) (c : Dev nD) : FVec Ideal S32768x128 .f32 := m ((c : Thread nD τ).loc main_arg0)

/-- No value of a head's lane is positive infinity. -/
theorem below (m : (ℓ : Loc nD τ sig) → Buf (Elt Ideal) ℓ) (h : @Cert.Pre_Kernel9Ideal_below9 preFacts m) (c : Dev nD)
    (n : Fin 32768) (l : Fin 8) :
    argL m c (ix2 n ⟨l.val, by omega⟩) ≠ (⊤ : EReal) := by
  have e := congrFun (h c) (ix2 n l)
  have e := (Ideal.cmp_olt_eq_one _ _).1 e
  have k : extractStridedSlice Cert.Pre_below9.S32768x8 ![0, 0] (argL m c) preFacts.slices_S32768x128_S32768x8_0_0 (ix2 n l)
      = argL m c (ix2 n ⟨l.val, by omega⟩) := by
    pointwise
  rw [← k]
  exact (e.trans_eq inf_f32).ne

end Cert.Kernel9Ideal.Sum

namespace Cert.Reference9Ideal.Sum

open Idealize.ShloMosaic Idealize.ShloMosaic.TcCoe Idealize.ShloMosaic.Tactic Idealize.SL.Sem
open Cert.Reference9Ideal Cert.Reference9Ideal.Gen Cert.Reference9Ideal.Read

theorem foldl_add {ι : Type} (g : ι → EReal) (L : List ι) : ∀ v : EReal, L.foldl (fun r n => r + g n) v = v + (L.map g).sum := by
  induction L with
  | nil => intro v; simp
  | cons a L ih => intro v; rw [List.foldl_cons, ih, List.map_cons, List.sum_cons, add_assoc]

section window

variable {A N M B : ℕ} (hN : M + 1 = N)

/-- The window over a sequence. -/
abbrev W (N : ℕ) : Shape := ⟨3, ![1, N, 1]⟩

theorem W_count : (W N).numel = N := by
  simp [W, Shape.numel, Fin.prod_univ_succ]

theorem W_place (n : Fin (W N).numel) : (W N).rowMajor.symm n = ix3 (n0 := 1) (n1 := N) (n2 := 1) 0 (n.cast W_count) 0 :=
  ((W N).rowMajor.symm_apply_eq).2 (Fin.ext (by
    rw [Shape.rowMajor_val_three]
    show n.val = (0 * N + n.val) * 1 + 0
    omega))

include hN in
/-- A padded window's positions that lie in the sequence are the rows up to one. -/
theorem padded (f : ℕ → EReal) (n : ℕ) (hn : n < N) :
    ∑ k ∈ Finset.range N, (if M ≤ n + k then f (n + k - M) else 0) = ∑ s ∈ Finset.range (n + 1), f s := by
  obtain ⟨p, hp⟩ : ∃ p, p + (n + 1) = N := ⟨N - (n + 1), by omega⟩
  have e : ∑ k ∈ Finset.range N, (if M ≤ n + k then f (n + k - M) else 0)
      = ∑ k ∈ Finset.range (p + (n + 1)), (if M ≤ n + k then f (n + k - M) else 0) := by rw [hp]
  rw [e, Finset.sum_range_add, Finset.sum_eq_zero fun k hk => if_neg (by have := Finset.mem_range.1 hk; omega), zero_add]
  refine Finset.sum_congr rfl fun k _ => ?_
  rw [if_pos (by omega)]
  congr 1
  omega

variable (x : FVec Ideal ⟨3, ![A, N, B]⟩ .f32)

/-- A sequence's row, the row given as a number. -/
def nth (b : Fin A) (l : Fin B) (s : ℕ) : EReal := if h : s < N then x (ix3 b ⟨s, h⟩ l) else 0

include hN in
theorem window_at (h : Shape.ReduceWindows ⟨3, ![A, N, B]⟩ ![1, N, 1] ![1, 1, 1] ![0, M, 0] ![0, 0, 0] ⟨3, ![A, N, B]⟩)
    (b : Fin A) (n : Fin N) (l : Fin B) :
    Ideal.hostReduceWindowAdd ![1, N, 1] ![1, 1, 1] ![0, M, 0] ![0, 0, 0] h x 0 (ix3 b n l) = ∑ s ∈ Finset.range (n.val + 1), nth x b l s := by
  rw [← padded hN _ n.val n.isLt]
  unfold Ideal.hostReduceWindowAdd Host.reduceWindow
  dsimp only
  refine (foldl_add _ _ _).trans ?_
  rw [zero_add, ← Fin.sum_univ_def]
  refine (Finset.sum_congr rfl fun k _ => (?_ : _ = (fun j : ℕ => if M ≤ n.val + j then nth x b l (n.val + j - M) else 0) k.val)).trans ?_
  · have hk : k.val < N := (k.cast W_count).isLt
    have w0 : ((W N).rowMajor.symm k 0).val = 0 := congrArg (fun i : (W N).Idx => (i 0).val) (W_place k)
    have w1 : ((W N).rowMajor.symm k 1).val = k.val := congrArg (fun i : (W N).Idx => (i 1).val) (W_place k)
    have w2 : ((W N).rowMajor.symm k 2).val = 0 := congrArg (fun i : (W N).Idx => (i 2).val) (W_place k)
    dsimp only
    by_cases hc : M ≤ n.val + k.val
    · rw [if_pos hc]
      unfold nth
      rw [dif_pos (show n.val + k.val - M < N by omega)]
      refine (dif_pos fun a => ?_).trans (congrArg x (funext fun a => Fin.ext ?_))
      · match a with
        | ⟨0, _⟩ =>
          show 0 ≤ b.val * 1 + ((W N).rowMajor.symm k 0).val ∧ b.val * 1 + ((W N).rowMajor.symm k 0).val - 0 < A
          rw [w0]; have := b.isLt; omega
        | ⟨1, _⟩ =>
          show M ≤ n.val * 1 + ((W N).rowMajor.symm k 1).val ∧ n.val * 1 + ((W N).rowMajor.symm k 1).val - M < N
          rw [w1]; omega
        | ⟨2, _⟩ =>
          show 0 ≤ l.val * 1 + ((W N).rowMajor.symm k 2).val ∧ l.val * 1 + ((W N).rowMajor.symm k 2).val - 0 < B
          rw [w2]; have := l.isLt; omega
      · match a with
        | ⟨0, _⟩ =>
          show b.val * 1 + ((W N).rowMajor.symm k 0).val - 0 = b.val
          rw [w0]; omega
        | ⟨1, _⟩ =>
          show n.val * 1 + ((W N).rowMajor.symm k 1).val - M = n.val + k.val - M
          rw [w1, Nat.mul_one]
        | ⟨2, _⟩ =>
          show l.val * 1 + ((W N).rowMajor.symm k 2).val - 0 = l.val
          rw [w2]; omega
    · rw [if_neg hc]
      refine dif_neg fun hin => hc ?_
      have h1 : M ≤ n.val * 1 + ((W N).rowMajor.symm k 1).val := (hin 1).1
      rw [w1] at h1
      omega
  · refine (Fin.sum_univ_eq_sum_range (fun j : ℕ => if M ≤ n.val + j then nth x b l (n.val + j - M) else 0) _).trans ?_
    exact congrArg (fun N' => ∑ k ∈ Finset.range N', if M ≤ n.val + k then nth x b l (n.val + k - M) else 0) W_count

end window

theorem frame : @Cert.quiescent_Reference9Ideal Cert.Reference9Ideal.Gen.facts := fun m g _ =>
  (θ_run Cert.Reference9Ideal.defs _ _).mono (fun r h => ⟨fun c => (h c).2, sem_eq_zero_of_no_sems (by decide) r.2⟩)
    (Cert.Reference9Ideal.Value.run (F := Ideal) m g)

theorem v1_at (L : FVec Ideal S32768x128 .f32) (b : Fin 4) (n : Fin 8192) (l : Fin 8) :
    val_main_v1 (F := Ideal) L (ix3 b n l) = L (ix2 ⟨b.val * 8192 + n.val, by omega⟩ ⟨l.val, by omega⟩) := by
  pointwise [val_main_v1, val_main_v0]

theorem v2_at (L : FVec Ideal S32768x128 .f32) (b : Fin 4) (n : Fin 8192) (l : Fin 8) :
    val_main_v2 (F := Ideal) L (ix3 b n l) = ∑ s ∈ Finset.range (n.val + 1), nth (val_main_v1 (F := Ideal) L) b l s := by
  have z : val_main_call0_call0_v0 (F := Ideal) (Shape.Idx.first h_S_) = 0 := by
    pointwise [val_main_call0_call0_v0, val_main_call0_call0_cst]
  refine Eq.trans ?_ (window_at (N := 8192) (M := 8191) rfl _ reduceWindows_S4x8192x8_S4x8192x8_w1s1p0_0_w8192s1p8191_0_w1s1p0_0 b n l)
  unfold val_main_v2 Host.reduceWindowAdd
  rw [z]
  rfl

/-- The running sums of the kernel are the reference's where no value is positive infinity. -/
theorem sums_eq (m : (ℓ : Loc Cert.Kernel9Ideal.nD Cert.Kernel9Ideal.τ Cert.Kernel9Ideal.sig) → Buf (Elt Ideal) ℓ)
    (h : @Cert.Pre_Kernel9Ideal_below9 Cert.Kernel9Ideal.Sum.preFacts m) (c : Dev Cert.Kernel9Ideal.nD) :
    val_main_v2 (F := Ideal) (Cert.Kernel9Ideal.Sum.argL m c) = Cert.Kernel9Ideal.Sum.sumsOf m c := by
  funext y
  idx_vars y
  refine (v2_at _ y0 y1 y2).trans (Finset.sum_congr rfl fun s hs => ?_)
  have hs := Finset.mem_range.1 hs
  have hl : s < 8192 := by have := y1.isLt; omega
  unfold nth Cert.Kernel9Ideal.Sum.rowOf
  rw [dif_pos hl, dif_pos (by omega), v1_at]
  exact (Cert.Kernel9Ideal.Sum.whole_eq (Cert.Kernel9Ideal.Sum.below m h c ⟨y0.val * 8192 + s, by omega⟩ y2)).symm

/-- The running sums of the log forget values are the reference's. -/
theorem sums : @Cert.algebraic_Kernel9Ideal_Reference9Ideal_pre_below9 Cert.Kernel9Ideal.Gen.facts Cert.Reference9Ideal.Gen.facts
    Cert.Kernel9Ideal.Sum.preFacts := by
  intro m g m' g' hpre hagree
  refine ⟨fun c => Cert.Kernel9Ideal.Sum.sumsOf m c, Cert.Kernel9Ideal.Sum.run m g, ?_⟩
  refine (θ_run Cert.Reference9Ideal.defs _ _).mono (fun r h c => ⟨(h c).1.trans ?_, (h c).2⟩)
    (Cert.Reference9Ideal.Value.run (F := Ideal) m' g')
  rw [val_main_v2_eq, hagree c]
  exact sums_eq m hpre c

end Cert.Reference9Ideal.Sum

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Att.Pre
public import proofs.«01_k».proof.Proof.Att.Ref
public import proofs.«01_k».proof.Proof.Att.Bits
public import proofs.«01_k».proof.Proof.Lay.ProjRef
public import proofs.«01_k».proof.Proof.Lay.MixRef
public import proofs.«01_k».proof.Proof.Lay.MoeRef
public import proofs.«01_k».proof.Proof.Lay.SampRef
public import proofs.«01_k».proof.Proof.Lay.SampMixRef
public import proofs.«01_k».proof.Proof.Lay.SampMoeRef
public import proofs.«01_k».proof.Proof.Route.Claim
public import proofs.«01_k».proof.Proof.Route.SampClaim
public import proofs.«01_k».proof.Proof.Lay.SumRef
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.Tactic Cert.Attn

/-! ## The frames -/

theorem frame_reference : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-! ## The attention -/

theorem attention : @Cert.algebraic_KernelIdeal_ReferenceIdeal_pre_finite Cert.KernelIdeal.Gen.facts Cert.ReferenceIdeal.Gen.facts
    Cert.KernelIdeal.Att.preFacts := by
  intro m g m' g' hpre hagree
  have fin := Cert.KernelIdeal.Att.finite_of m hpre
  refine ⟨fun c => fun y : Cert.KernelIdeal.S4x8192x512.Idx => att (Cert.KernelIdeal.Att.aq m c) (Cert.KernelIdeal.Att.ak m c)
    (Cert.KernelIdeal.Att.av m c) (Cert.KernelIdeal.Att.ab m c) (y 0) (y 1) (y 2), ?_, ?_⟩
  · refine (θ_run Cert.KernelIdeal.defs _ _).mono (fun r h c => ⟨?_, h.2.1 c⟩)
      (θ_run_and (Cert.KernelIdeal.Att.run m g) (Cert.KernelIdeal.Att.frame m g))
    exact ((h.1 c).1 5).trans (Cert.KernelIdeal.Att.final m c (fin c))
  · refine (θ_run Cert.ReferenceIdeal.defs _ _).mono (fun r h c => ⟨(h c).1.trans ?_, (h c).2⟩)
      (Cert.ReferenceIdeal.Value.run (F := Ideal) m' g')
    obtain ⟨h0, h1, h2, h3⟩ := hagree c
    rw [Cert.ReferenceIdeal.Read.val_main_v36_eq, h0, h1, h2, h3]
    funext y
    idx_vars y
    exact Cert.ReferenceIdeal.Att.result_at _ _ _ _ (fin c) _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.KernelIdeal.Att.preFacts, Cert.Kernel8Ideal.Route.preFacts, Cert.Kernel9Ideal.Sum.preFacts, Cert.Kernel10Ideal.Route.preFacts,
    Cert.Kernel.Att.frame,
    fun m g _ => Cert.KernelIdeal.Att.frame m g,
    fun m g _ => Cert.KernelIdeal.Att.frame m g,
    frame_reference,
    fun m g _ => frame_reference m g trivial,
    fun m g _ => Cert.Kernel2.Gen.frame m g,
    fun m g _ => Cert.Kernel2Ideal.Gen.frame m g,
    Cert.Reference2Ideal.Proj.frame,
    fun m g _ => Cert.Kernel3.Gen.frame m g,
    fun m g _ => Cert.Kernel3Ideal.Gen.frame m g,
    Cert.Reference3Ideal.Mix.frame,
    fun m g _ => Cert.Kernel4.Gen.frame m g,
    fun m g _ => Cert.Kernel4Ideal.Gen.frame m g,
    Cert.Reference4Ideal.Moe.frame,
    fun m g _ => Cert.Kernel5.Gen.frame m g,
    fun m g _ => Cert.Kernel5Ideal.Gen.frame m g,
    Cert.Reference5Ideal.Samp.frame,
    fun m g _ => Cert.Kernel6.Gen.frame m g,
    fun m g _ => Cert.Kernel6Ideal.Gen.frame m g,
    Cert.Reference6Ideal.Mix.frame,
    fun m g _ => Cert.Kernel7.Gen.frame m g,
    fun m g _ => Cert.Kernel7Ideal.Gen.frame m g,
    Cert.Reference7Ideal.Moe.frame,
    fun m g _ => Cert.Kernel8.Gen.frame m g,
    fun m g _ => Cert.Kernel8Ideal.Gen.frame m g,
    fun m g _ => Cert.Kernel8Ideal.Gen.frame m g,
    Cert.Reference8Ideal.Route.frame,
    fun m g _ => Cert.Reference8Ideal.Route.frame m g trivial,
    fun m g _ => Cert.Kernel9.Gen.frame m g,
    fun m g _ => Cert.Kernel9Ideal.Gen.frame m g,
    fun m g _ => Cert.Kernel9Ideal.Gen.frame m g,
    Cert.Reference9Ideal.Sum.frame,
    fun m g _ => Cert.Reference9Ideal.Sum.frame m g trivial,
    fun m g _ => Cert.Kernel10.Gen.frame m g,
    fun m g _ => Cert.Kernel10Ideal.Gen.frame m g,
    fun m g _ => Cert.Kernel10Ideal.Gen.frame m g,
    Cert.Reference10Ideal.Route.frame,
    fun m g _ => Cert.Reference10Ideal.Route.frame m g trivial,
    IdealRules.named_const.statement _ _ _ _ _ rfl,
    attention,
    trivial,
    Cert.Reference2Ideal.Proj.projection,
    trivial,
    Cert.Reference3Ideal.Mix.mixing,
    trivial,
    Cert.Reference4Ideal.Moe.experts,
    trivial,
    Cert.Reference5Ideal.Samp.projection,
    trivial,
    Cert.Reference6Ideal.Mix.mixing,
    trivial,
    Cert.Reference7Ideal.Moe.experts,
    IdealRules.named_const.statement _ _ _ _ _ rfl,
    Cert.Reference8Ideal.Route.routing,
    trivial,
    Cert.Reference9Ideal.Sum.sums,
    IdealRules.named_const.statement _ _ _ _ _ rfl,
    Cert.Reference10Ideal.Route.routing⟩

end Cert.Proof

end
